-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S1024x4096 : Shape := ⟨2, ![1024, 4096]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn {F : FTy → Type} [FloatOps F] (main_arg0 : FVec F S4x256x1024 .f32) (main_arg1 : FVec F S1024x1024 .f32) (main_arg2 : FVec F S1024x1024 .f32) (main_arg3 : FVec F S1024x4096 .f32) (main_arg4 : FVec F S1024x4096 .f32) : IVec S4x256x1024 1 × IVec S1024x1024 1 × IVec S1024x4096 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x4096 .f32 := Host.absf main_arg3
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Pre_finite_ReferenceIdeal.lean ====
abbrev S4x256x1024 : Shape := ⟨3, ![4, 256, 1024]⟩
abbrev S1024x16384 : Shape := ⟨2, ![1024, 16384]⟩
abbrev S16384x1024 : Shape := ⟨2, ![16384, 1024]⟩
abbrev S1024x4096 : Shape := ⟨2, ![1024, 4096]⟩
abbrev S_ : Shape := ⟨0, ![]⟩

class Facts : Prop where
  bcast_S_S4x256x1024 : S_.BroadcastsInDim S4x256x1024 (![] : Fin 0 → Fin S4x256x1024.rank)
  bcast_S_S1024x16384 : S_.BroadcastsInDim S1024x16384 (![] : Fin 0 → Fin S1024x16384.rank)
  bcast_S_S1024x4096 : S_.BroadcastsInDim S1024x4096 (![] : Fin 0 → Fin S1024x4096.rank)

variable [Facts]

def fn {F : FTy → Type} [FloatOps F] (main_arg0 : FVec F S4x256x1024 .f32) (main_arg1 : FVec F S1024x16384 .f32) (main_arg2 : FVec F S16384x1024 .f32) (main_arg3 : FVec F S1024x4096 .f32) (main_arg4 : FVec F S1024x4096 .f32) : IVec S4x256x1024 1 × IVec S1024x16384 1 × IVec S1024x4096 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1024x4096 .f32 := Host.absf main_arg3
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Kernel.lean ====
abbrev S4x256x1024 : Shape := ⟨3, ![4, 256, 1024]⟩
abbrev S1024x1024 : Shape := ⟨2, ![1024, 1024]⟩
abbrev S1024x4096 : Shape := ⟨2, ![1024, 4096]⟩
abbrev S1024x256 : Shape := ⟨2, ![1024, 256]⟩
abbrev S64x16x1024 : Shape := ⟨3, ![64, 16, 1024]⟩
abbrev S64x1024 : Shape := ⟨2, ![64, 1024]⟩
abbrev S2 : Shape := ⟨1, ![2]⟩
abbrev S4 : Shape := ⟨1, ![4]⟩
abbrev S_ : Shape := ⟨0, ![]⟩
abbrev S1 : Shape := ⟨1, ![1]⟩
abbrev S4x16x1024 : Shape := ⟨3, ![4, 16, 1024]⟩
abbrev S1x256x1024 : Shape := ⟨3, ![1, 256, 1024]⟩
abbrev S256x1024 : Shape := ⟨2, ![256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x16x1024 : Shape := ⟨3, ![1, 16, 1024]⟩
abbrev S16x1024 : Shape := ⟨2, ![16, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x4096, .f32⟩
  | .hbm, ⟨4, _⟩ => ⟨S1024x4096, .f32⟩
  | .hbm, ⟨5, _⟩ => ⟨S1024x1024, .bf16⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S1024x1024, .bf16⟩
  | .local _ .vmem, ⟨6, _⟩ => ⟨S64x16x1024, .bf16⟩
  | .local _ .vmem, ⟨7, _⟩ => ⟨S64x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.muli v2 c2_i32
  let c128_i32 : BitVec 32 := 128#32
  let v4 : BitVec 32 := Scalar.muli v3 c128_i32
  ![0, v4.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.muli v2 c4_i32
  let v15 : Index := Scalar.indexCast v14
  let c0 : Index := 0#32
  let c0_5 : Index := 0#32
  ![v15.toNat, 0, 0]
def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v20 : BitVec 32 := Scalar.addi v2 c1_i32_6
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi v20 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let c1_i32_14 : BitVec 32 := 1#32
  let v31 : BitVec 32 := Scalar.muli v30 c1_i32_14
  let v32 : BitVec 32 := Scalar.addi c0_i32_15 v31
  v32.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_16 : BitVec 32 := 2#32
  let v33 : BitVec 32 := Scalar.addi v2 c2_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c1_i32_24 : BitVec 32 := 1#32
  let v44 : BitVec 32 := Scalar.muli v43 c1_i32_24
  let v45 : BitVec 32 := Scalar.addi c0_i32_25 v44
  v45.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v46 : BitVec 32 := Scalar.addi v2 c3_i32
  let c16_i32_26 : BitVec 32 := 16#32
  let c0_i32_27 : BitVec 32 := 0#32
  let v47 : BitVec 1 := Scalar.cmpi .eq c16_i32_26 c0_i32_27
  let c1_i32_28 : BitVec 32 := 1#32
  let v48 : BitVec 32 := Scalar.select v47 c1_i32_28 c16_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_33 : BitVec 32 := 1#32
  let v57 : BitVec 32 := Scalar.muli v56 c1_i32_33
  let v58 : BitVec 32 := Scalar.addi c0_i32_34 v57
  v58.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_35 : BitVec 32 := 4#32
  let v59 : BitVec 32 := Scalar.addi v2 c4_i32_35
  let c16_i32_36 : BitVec 32 := 16#32
  let c0_i32_37 : BitVec 32 := 0#32
  let v60 : BitVec 1 := Scalar.cmpi .eq c16_i32_36 c0_i32_37
  let c1_i32_38 : BitVec 32 := 1#32
  let v61 : BitVec 32 := Scalar.select v60 c1_i32_38 c16_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  let c1_i32_43 : BitVec 32 := 1#32
  let v70 : BitVec 32 := Scalar.muli v69 c1_i32_43
  let v71 : BitVec 32 := Scalar.addi c0_i32_44 v70
  v71.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v72 : BitVec 32 := Scalar.addi v2 c5_i32
  let c16_i32_45 : BitVec 32 := 16#32
  let c0_i32_46 : BitVec 32 := 0#32
  let v73 : BitVec 1 := Scalar.cmpi .eq c16_i32_45 c0_i32_46
  let c1_i32_47 : BitVec 32 := 1#32
  let v74 : BitVec 32 := Scalar.select v73 c1_i32_47 c16_i32_45
  let v75 : BitVec 32 := Scalar.remsi v72 v74
  let c0_i32_49 : BitVec 32 := 0#32
  let v77 : BitVec 1 := Scalar.cmpi .slt v75 c0_i32_49
  let c0_i32_50 : BitVec 32 := 0#32
  let v78 : BitVec 1 := Scalar.cmpi .slt v74 c0_i32_50
  let v79 : BitVec 1 := Scalar.xori v77 v78
  let c0_i32_48 : BitVec 32 := 0#32
  let v76 : BitVec 1 := Scalar.cmpi .ne v75 c0_i32_48
  let v80 : BitVec 1 := Scalar.andi v79 v76
  let v81 : BitVec 32 := Scalar.addi v75 v74
  let v82 : BitVec 32 := Scalar.select v80 v81 v75
  let c1_i32_52 : BitVec 32 := 1#32
  let v83 : BitVec 32 := Scalar.muli v82 c1_i32_52
  let v84 : BitVec 32 := Scalar.addi c0_i32_53 v83
  v84.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v85 : BitVec 32 := Scalar.addi v2 c6_i32
  let c16_i32_54 : BitVec 32 := 16#32
  let c0_i32_55 : BitVec 32 := 0#32
  let v86 : BitVec 1 := Scalar.cmpi .eq c16_i32_54 c0_i32_55
  let c1_i32_56 : BitVec 32 := 1#32
  let v87 : BitVec 32 := Scalar.select v86 c1_i32_56 c16_i32_54
  let v88 : BitVec 32 := Scalar.remsi v85 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c1_i32_61 : BitVec 32 := 1#32
  let v96 : BitVec 32 := Scalar.muli v95 c1_i32_61
  let v97 : BitVec 32 := Scalar.addi c0_i32_62 v96
  v97.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v98 : BitVec 32 := Scalar.addi v2 c7_i32
  let c16_i32_63 : BitVec 32 := 16#32
  let c0_i32_64 : BitVec 32 := 0#32
  let v99 : BitVec 1 := Scalar.cmpi .eq c16_i32_63 c0_i32_64
  let c1_i32_65 : BitVec 32 := 1#32
  let v100 : BitVec 32 := Scalar.select v99 c1_i32_65 c16_i32_63
  let v101 : BitVec 32 := Scalar.remsi v98 v100
  let c0_i32_67 : BitVec 32 := 0#32
  let v103 : BitVec 1 := Scalar.cmpi .slt v101 c0_i32_67
  let c0_i32_68 : BitVec 32 := 0#32
  let v104 : BitVec 1 := Scalar.cmpi .slt v100 c0_i32_68
  let v105 : BitVec 1 := Scalar.xori v103 v104
  let c0_i32_66 : BitVec 32 := 0#32
  let v102 : BitVec 1 := Scalar.cmpi .ne v101 c0_i32_66
  let v106 : BitVec 1 := Scalar.andi v105 v102
  let v107 : BitVec 32 := Scalar.addi v101 v100
  let v108 : BitVec 32 := Scalar.select v106 v107 v101
  let c1_i32_70 : BitVec 32 := 1#32
  let v109 : BitVec 32 := Scalar.muli v108 c1_i32_70
  let v110 : BitVec 32 := Scalar.addi c0_i32_71 v109
  v110.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v111 : BitVec 32 := Scalar.addi v2 c8_i32
  let c16_i32_72 : BitVec 32 := 16#32
  let c0_i32_73 : BitVec 32 := 0#32
  let v112 : BitVec 1 := Scalar.cmpi .eq c16_i32_72 c0_i32_73
  let c1_i32_74 : BitVec 32 := 1#32
  let v113 : BitVec 32 := Scalar.select v112 c1_i32_74 c16_i32_72
  let v114 : BitVec 32 := Scalar.remsi v111 v113
  let c0_i32_76 : BitVec 32 := 0#32
  let v116 : BitVec 1 := Scalar.cmpi .slt v114 c0_i32_76
  let c0_i32_77 : BitVec 32 := 0#32
  let v117 : BitVec 1 := Scalar.cmpi .slt v113 c0_i32_77
  let v118 : BitVec 1 := Scalar.xori v116 v117
  let c0_i32_75 : BitVec 32 := 0#32
  let v115 : BitVec 1 := Scalar.cmpi .ne v114 c0_i32_75
  let v119 : BitVec 1 := Scalar.andi v118 v115
  let v120 : BitVec 32 := Scalar.addi v114 v113
  let v121 : BitVec 32 := Scalar.select v119 v120 v114
  let c1_i32_79 : BitVec 32 := 1#32
  let v122 : BitVec 32 := Scalar.muli v121 c1_i32_79
  let v123 : BitVec 32 := Scalar.addi c0_i32_80 v122
  v123.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v124 : BitVec 32 := Scalar.addi v2 c9_i32
  let c16_i32_81 : BitVec 32 := 16#32
  let c0_i32_82 : BitVec 32 := 0#32
  let v125 : BitVec 1 := Scalar.cmpi .eq c16_i32_81 c0_i32_82
  let c1_i32_83 : BitVec 32 := 1#32
  let v126 : BitVec 32 := Scalar.select v125 c1_i32_83 c16_i32_81
  let v127 : BitVec 32 := Scalar.remsi v124 v126
  let c0_i32_85 : BitVec 32 := 0#32
  let v129 : BitVec 1 := Scalar.cmpi .slt v127 c0_i32_85
  let c0_i32_86 : BitVec 32 := 0#32
  let v130 : BitVec 1 := Scalar.cmpi .slt v126 c0_i32_86
  let v131 : BitVec 1 := Scalar.xori v129 v130
  let c0_i32_84 : BitVec 32 := 0#32
  let v128 : BitVec 1 := Scalar.cmpi .ne v127 c0_i32_84
  let v132 : BitVec 1 := Scalar.andi v131 v128
  let v133 : BitVec 32 := Scalar.addi v127 v126
  let v134 : BitVec 32 := Scalar.select v132 v133 v127
  let c1_i32_88 : BitVec 32 := 1#32
  let v135 : BitVec 32 := Scalar.muli v134 c1_i32_88
  let v136 : BitVec 32 := Scalar.addi c0_i32_89 v135
  v136.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v137 : BitVec 32 := Scalar.addi v2 c10_i32
  let c16_i32_90 : BitVec 32 := 16#32
  let c0_i32_91 : BitVec 32 := 0#32
  let v138 : BitVec 1 := Scalar.cmpi .eq c16_i32_90 c0_i32_91
  let c1_i32_92 : BitVec 32 := 1#32
  let v139 : BitVec 32 := Scalar.select v138 c1_i32_92 c16_i32_90
  let v140 : BitVec 32 := Scalar.remsi v137 v139
  let c0_i32_94 : BitVec 32 := 0#32
  let v142 : BitVec 1 := Scalar.cmpi .slt v140 c0_i32_94
  let c0_i32_95 : BitVec 32 := 0#32
  let v143 : BitVec 1 := Scalar.cmpi .slt v139 c0_i32_95
  let v144 : BitVec 1 := Scalar.xori v142 v143
  let c0_i32_93 : BitVec 32 := 0#32
  let v141 : BitVec 1 := Scalar.cmpi .ne v140 c0_i32_93
  let v145 : BitVec 1 := Scalar.andi v144 v141
  let v146 : BitVec 32 := Scalar.addi v140 v139
  let v147 : BitVec 32 := Scalar.select v145 v146 v140
  let c1_i32_97 : BitVec 32 := 1#32
  let v148 : BitVec 32 := Scalar.muli v147 c1_i32_97
  let v149 : BitVec 32 := Scalar.addi c0_i32_98 v148
  v149.toNat
def k0_dev11 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v150 : BitVec 32 := Scalar.addi v2 c11_i32
  let c16_i32_99 : BitVec 32 := 16#32
  let c0_i32_100 : BitVec 32 := 0#32
  let v151 : BitVec 1 := Scalar.cmpi .eq c16_i32_99 c0_i32_100
  let c1_i32_101 : BitVec 32 := 1#32
  let v152 : BitVec 32 := Scalar.select v151 c1_i32_101 c16_i32_99
  let v153 : BitVec 32 := Scalar.remsi v150 v152
  let c0_i32_103 : BitVec 32 := 0#32
  let v155 : BitVec 1 := Scalar.cmpi .slt v153 c0_i32_103
  let c0_i32_104 : BitVec 32 := 0#32
  let v156 : BitVec 1 := Scalar.cmpi .slt v152 c0_i32_104
  let v157 : BitVec 1 := Scalar.xori v155 v156
  let c0_i32_102 : BitVec 32 := 0#32
  let v154 : BitVec 1 := Scalar.cmpi .ne v153 c0_i32_102
  let v158 : BitVec 1 := Scalar.andi v157 v154
  let v159 : BitVec 32 := Scalar.addi v153 v152
  let v160 : BitVec 32 := Scalar.select v158 v159 v153
  let c1_i32_106 : BitVec 32 := 1#32
  let v161 : BitVec 32 := Scalar.muli v160 c1_i32_106
  let v162 : BitVec 32 := Scalar.addi c0_i32_107 v161
  v162.toNat
def k0_dev12 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v163 : BitVec 32 := Scalar.addi v2 c12_i32
  let c16_i32_108 : BitVec 32 := 16#32
  let c0_i32_109 : BitVec 32 := 0#32
  let v164 : BitVec 1 := Scalar.cmpi .eq c16_i32_108 c0_i32_109
  let c1_i32_110 : BitVec 32 := 1#32
  let v165 : BitVec 32 := Scalar.select v164 c1_i32_110 c16_i32_108
  let v166 : BitVec 32 := Scalar.remsi v163 v165
  let c0_i32_112 : BitVec 32 := 0#32
  let v168 : BitVec 1 := Scalar.cmpi .slt v166 c0_i32_112
  let c0_i32_113 : BitVec 32 := 0#32
  let v169 : BitVec 1 := Scalar.cmpi .slt v165 c0_i32_113
  let v170 : BitVec 1 := Scalar.xori v168 v169
  let c0_i32_111 : BitVec 32 := 0#32
  let v167 : BitVec 1 := Scalar.cmpi .ne v166 c0_i32_111
  let v171 : BitVec 1 := Scalar.andi v170 v167
  let v172 : BitVec 32 := Scalar.addi v166 v165
  let v173 : BitVec 32 := Scalar.select v171 v172 v166
  let c1_i32_115 : BitVec 32 := 1#32
  let v174 : BitVec 32 := Scalar.muli v173 c1_i32_115
  let v175 : BitVec 32 := Scalar.addi c0_i32_116 v174
  v175.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v176 : BitVec 32 := Scalar.addi v2 c13_i32
  let c16_i32_117 : BitVec 32 := 16#32
  let c0_i32_118 : BitVec 32 := 0#32
  let v177 : BitVec 1 := Scalar.cmpi .eq c16_i32_117 c0_i32_118
  let c1_i32_119 : BitVec 32 := 1#32
  let v178 : BitVec 32 := Scalar.select v177 c1_i32_119 c16_i32_117
  let v179 : BitVec 32 := Scalar.remsi v176 v178
  let c0_i32_121 : BitVec 32 := 0#32
  let v181 : BitVec 1 := Scalar.cmpi .slt v179 c0_i32_121
  let c0_i32_122 : BitVec 32 := 0#32
  let v182 : BitVec 1 := Scalar.cmpi .slt v178 c0_i32_122
  let v183 : BitVec 1 := Scalar.xori v181 v182
  let c0_i32_120 : BitVec 32 := 0#32
  let v180 : BitVec 1 := Scalar.cmpi .ne v179 c0_i32_120
  let v184 : BitVec 1 := Scalar.andi v183 v180
  let v185 : BitVec 32 := Scalar.addi v179 v178
  let v186 : BitVec 32 := Scalar.select v184 v185 v179
  let c1_i32_124 : BitVec 32 := 1#32
  let v187 : BitVec 32 := Scalar.muli v186 c1_i32_124
  let v188 : BitVec 32 := Scalar.addi c0_i32_125 v187
  v188.toNat
def k0_dev14 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v189 : BitVec 32 := Scalar.addi v2 c14_i32
  let c16_i32_126 : BitVec 32 := 16#32
  let c0_i32_127 : BitVec 32 := 0#32
  let v190 : BitVec 1 := Scalar.cmpi .eq c16_i32_126 c0_i32_127
  let c1_i32_128 : BitVec 32 := 1#32
  let v191 : BitVec 32 := Scalar.select v190 c1_i32_128 c16_i32_126
  let v192 : BitVec 32 := Scalar.remsi v189 v191
  let c0_i32_130 : BitVec 32 := 0#32
  let v194 : BitVec 1 := Scalar.cmpi .slt v192 c0_i32_130
  let c0_i32_131 : BitVec 32 := 0#32
  let v195 : BitVec 1 := Scalar.cmpi .slt v191 c0_i32_131
  let v196 : BitVec 1 := Scalar.xori v194 v195
  let c0_i32_129 : BitVec 32 := 0#32
  let v193 : BitVec 1 := Scalar.cmpi .ne v192 c0_i32_129
  let v197 : BitVec 1 := Scalar.andi v196 v193
  let v198 : BitVec 32 := Scalar.addi v192 v191
  let v199 : BitVec 32 := Scalar.select v197 v198 v192
  let c1_i32_133 : BitVec 32 := 1#32
  let v200 : BitVec 32 := Scalar.muli v199 c1_i32_133
  let v201 : BitVec 32 := Scalar.addi c0_i32_134 v200
  v201.toNat
def k0_dev15 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v202 : BitVec 32 := Scalar.addi v2 c15_i32
  let c16_i32_135 : BitVec 32 := 16#32
  let c0_i32_136 : BitVec 32 := 0#32
  let v203 : BitVec 1 := Scalar.cmpi .eq c16_i32_135 c0_i32_136
  let c1_i32_137 : BitVec 32 := 1#32
  let v204 : BitVec 32 := Scalar.select v203 c1_i32_137 c16_i32_135
  let v205 : BitVec 32 := Scalar.remsi v202 v204
  let c0_i32_139 : BitVec 32 := 0#32
  let v207 : BitVec 1 := Scalar.cmpi .slt v205 c0_i32_139
  let c0_i32_140 : BitVec 32 := 0#32
  let v208 : BitVec 1 := Scalar.cmpi .slt v204 c0_i32_140
  let v209 : BitVec 1 := Scalar.xori v207 v208
  let c0_i32_138 : BitVec 32 := 0#32
  let v206 : BitVec 1 := Scalar.cmpi .ne v205 c0_i32_138
  let v210 : BitVec 1 := Scalar.andi v209 v206
  let v211 : BitVec 32 := Scalar.addi v205 v204
  let v212 : BitVec 32 := Scalar.select v210 v211 v205
  let c1_i32_142 : BitVec 32 := 1#32
  let v213 : BitVec 32 := Scalar.muli v212 c1_i32_142
  let v214 : BitVec 32 := Scalar.addi c0_i32_143 v213
  v214.toNat
def k0_off3 (d0 : Dev nD) (c0_i32_209 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_208 : BitVec 32 := 4#32
  let v382 : BitVec 32 := Scalar.muli v2 c4_i32_208
  let v383 : BitVec 32 := Scalar.addi v382 c0_i32_209
  let c0_i32_213 : BitVec 32 := 0#32
  let c0_i32_214 : BitVec 32 := 0#32
  ![v383.toNat, 0, 0]
def k0_off4 (d0 : Dev nD) (c0_i32_207 : BitVec 32) (c1_i32_199 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v369 : BitVec 32 := Scalar.addi v2 c1_i32_199
  let c16_i32_200 : BitVec 32 := 16#32
  let c0_i32_201 : BitVec 32 := 0#32
  let v370 : BitVec 1 := Scalar.cmpi .eq c16_i32_200 c0_i32_201
  let c1_i32_202 : BitVec 32 := 1#32
  let v371 : BitVec 32 := Scalar.select v370 c1_i32_202 c16_i32_200
  let v372 : BitVec 32 := Scalar.remsi v369 v371
  let c0_i32_204 : BitVec 32 := 0#32
  let v374 : BitVec 1 := Scalar.cmpi .slt v372 c0_i32_204
  let c0_i32_205 : BitVec 32 := 0#32
  let v375 : BitVec 1 := Scalar.cmpi .slt v371 c0_i32_205
  let v376 : BitVec 1 := Scalar.xori v374 v375
  let c0_i32_203 : BitVec 32 := 0#32
  let v373 : BitVec 1 := Scalar.cmpi .ne v372 c0_i32_203
  let v377 : BitVec 1 := Scalar.andi v376 v373
  let v378 : BitVec 32 := Scalar.addi v372 v371
  let v379 : BitVec 32 := Scalar.select v377 v378 v372
  let c16_i32_206 : BitVec 32 := 16#32
  let v380 : BitVec 32 := Scalar.muli v379 c16_i32_206
  let v381 : BitVec 32 := Scalar.addi c0_i32_207 v380
  let c0_i32_215 : BitVec 32 := 0#32
  ![v381.toNat, 0]
def k0_dev16 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_199 : BitVec 32 := 1#32
  let v369 : BitVec 32 := Scalar.addi v2 c1_i32_199
  let c16_i32_200 : BitVec 32 := 16#32
  let c0_i32_201 : BitVec 32 := 0#32
  let v370 : BitVec 1 := Scalar.cmpi .eq c16_i32_200 c0_i32_201
  let c1_i32_202 : BitVec 32 := 1#32
  let v371 : BitVec 32 := Scalar.select v370 c1_i32_202 c16_i32_200
  let v372 : BitVec 32 := Scalar.remsi v369 v371
  let c0_i32_204 : BitVec 32 := 0#32
  let v374 : BitVec 1 := Scalar.cmpi .slt v372 c0_i32_204
  let c0_i32_205 : BitVec 32 := 0#32
  let v375 : BitVec 1 := Scalar.cmpi .slt v371 c0_i32_205
  let v376 : BitVec 1 := Scalar.xori v374 v375
  let c0_i32_203 : BitVec 32 := 0#32
  let v373 : BitVec 1 := Scalar.cmpi .ne v372 c0_i32_203
  let v377 : BitVec 1 := Scalar.andi v376 v373
  let v378 : BitVec 32 := Scalar.addi v372 v371
  let v379 : BitVec 32 := Scalar.select v377 v378 v372
  let c1_i32_211 : BitVec 32 := 1#32
  let v384 : BitVec 32 := Scalar.muli v379 c1_i32_211
  let v385 : BitVec 32 := Scalar.addi c0_i32_212 v384
  v385.toNat
def k0_dev17 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_216 : BitVec 32 := 2#32
  let v391 : BitVec 32 := Scalar.addi v2 c2_i32_216
  let c16_i32_217 : BitVec 32 := 16#32
  let c0_i32_218 : BitVec 32 := 0#32
  let v392 : BitVec 1 := Scalar.cmpi .eq c16_i32_217 c0_i32_218
  let c1_i32_219 : BitVec 32 := 1#32
  let v393 : BitVec 32 := Scalar.select v392 c1_i32_219 c16_i32_217
  let v394 : BitVec 32 := Scalar.remsi v391 v393
  let c0_i32_221 : BitVec 32 := 0#32
  let v396 : BitVec 1 := Scalar.cmpi .slt v394 c0_i32_221
  let c0_i32_222 : BitVec 32 := 0#32
  let v397 : BitVec 1 := Scalar.cmpi .slt v393 c0_i32_222
  let v398 : BitVec 1 := Scalar.xori v396 v397
  let c0_i32_220 : BitVec 32 := 0#32
  let v395 : BitVec 1 := Scalar.cmpi .ne v394 c0_i32_220
  let v399 : BitVec 1 := Scalar.andi v398 v395
  let v400 : BitVec 32 := Scalar.addi v394 v393
  let v401 : BitVec 32 := Scalar.select v399 v400 v394
  let c1_i32_228 : BitVec 32 := 1#32
  let v406 : BitVec 32 := Scalar.muli v401 c1_i32_228
  let v407 : BitVec 32 := Scalar.addi c0_i32_229 v406
  v407.toNat
def k0_dev18 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_233 : BitVec 32 := 3#32
  let v413 : BitVec 32 := Scalar.addi v2 c3_i32_233
  let c16_i32_234 : BitVec 32 := 16#32
  let c0_i32_235 : BitVec 32 := 0#32
  let v414 : BitVec 1 := Scalar.cmpi .eq c16_i32_234 c0_i32_235
  let c1_i32_236 : BitVec 32 := 1#32
  let v415 : BitVec 32 := Scalar.select v414 c1_i32_236 c16_i32_234
  let v416 : BitVec 32 := Scalar.remsi v413 v415
  let c0_i32_238 : BitVec 32 := 0#32
  let v418 : BitVec 1 := Scalar.cmpi .slt v416 c0_i32_238
  let c0_i32_239 : BitVec 32 := 0#32
  let v419 : BitVec 1 := Scalar.cmpi .slt v415 c0_i32_239
  let v420 : BitVec 1 := Scalar.xori v418 v419
  let c0_i32_237 : BitVec 32 := 0#32
  let v417 : BitVec 1 := Scalar.cmpi .ne v416 c0_i32_237
  let v421 : BitVec 1 := Scalar.andi v420 v417
  let v422 : BitVec 32 := Scalar.addi v416 v415
  let v423 : BitVec 32 := Scalar.select v421 v422 v416
  let c1_i32_245 : BitVec 32 := 1#32
  let v428 : BitVec 32 := Scalar.muli v423 c1_i32_245
  let v429 : BitVec 32 := Scalar.addi c0_i32_246 v428
  v429.toNat
def k0_dev19 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_250 : BitVec 32 := 4#32
  let v435 : BitVec 32 := Scalar.addi v2 c4_i32_250
  let c16_i32_251 : BitVec 32 := 16#32
  let c0_i32_252 : BitVec 32 := 0#32
  let v436 : BitVec 1 := Scalar.cmpi .eq c16_i32_251 c0_i32_252
  let c1_i32_253 : BitVec 32 := 1#32
  let v437 : BitVec 32 := Scalar.select v436 c1_i32_253 c16_i32_251
  let v438 : BitVec 32 := Scalar.remsi v435 v437
  let c0_i32_255 : BitVec 32 := 0#32
  let v440 : BitVec 1 := Scalar.cmpi .slt v438 c0_i32_255
  let c0_i32_256 : BitVec 32 := 0#32
  let v441 : BitVec 1 := Scalar.cmpi .slt v437 c0_i32_256
  let v442 : BitVec 1 := Scalar.xori v440 v441
  let c0_i32_254 : BitVec 32 := 0#32
  let v439 : BitVec 1 := Scalar.cmpi .ne v438 c0_i32_254
  let v443 : BitVec 1 := Scalar.andi v442 v439
  let v444 : BitVec 32 := Scalar.addi v438 v437
  let v445 : BitVec 32 := Scalar.select v443 v444 v438
  let c1_i32_262 : BitVec 32 := 1#32
  let v450 : BitVec 32 := Scalar.muli v445 c1_i32_262
  let v451 : BitVec 32 := Scalar.addi c0_i32_263 v450
  v451.toNat
def k0_dev20 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_267 : BitVec 32 := 5#32
  let v457 : BitVec 32 := Scalar.addi v2 c5_i32_267
  let c16_i32_268 : BitVec 32 := 16#32
  let c0_i32_269 : BitVec 32 := 0#32
  let v458 : BitVec 1 := Scalar.cmpi .eq c16_i32_268 c0_i32_269
  let c1_i32_270 : BitVec 32 := 1#32
  let v459 : BitVec 32 := Scalar.select v458 c1_i32_270 c16_i32_268
  let v460 : BitVec 32 := Scalar.remsi v457 v459
  let c0_i32_272 : BitVec 32 := 0#32
  let v462 : BitVec 1 := Scalar.cmpi .slt v460 c0_i32_272
  let c0_i32_273 : BitVec 32 := 0#32
  let v463 : BitVec 1 := Scalar.cmpi .slt v459 c0_i32_273
  let v464 : BitVec 1 := Scalar.xori v462 v463
  let c0_i32_271 : BitVec 32 := 0#32
  let v461 : BitVec 1 := Scalar.cmpi .ne v460 c0_i32_271
  let v465 : BitVec 1 := Scalar.andi v464 v461
  let v466 : BitVec 32 := Scalar.addi v460 v459
  let v467 : BitVec 32 := Scalar.select v465 v466 v460
  let c1_i32_279 : BitVec 32 := 1#32
  let v472 : BitVec 32 := Scalar.muli v467 c1_i32_279
  let v473 : BitVec 32 := Scalar.addi c0_i32_280 v472
  v473.toNat
def k0_dev21 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_284 : BitVec 32 := 6#32
  let v479 : BitVec 32 := Scalar.addi v2 c6_i32_284
  let c16_i32_285 : BitVec 32 := 16#32
  let c0_i32_286 : BitVec 32 := 0#32
  let v480 : BitVec 1 := Scalar.cmpi .eq c16_i32_285 c0_i32_286
  let c1_i32_287 : BitVec 32 := 1#32
  let v481 : BitVec 32 := Scalar.select v480 c1_i32_287 c16_i32_285
  let v482 : BitVec 32 := Scalar.remsi v479 v481
  let c0_i32_289 : BitVec 32 := 0#32
  let v484 : BitVec 1 := Scalar.cmpi .slt v482 c0_i32_289
  let c0_i32_290 : BitVec 32 := 0#32
  let v485 : BitVec 1 := Scalar.cmpi .slt v481 c0_i32_290
  let v486 : BitVec 1 := Scalar.xori v484 v485
  let c0_i32_288 : BitVec 32 := 0#32
  let v483 : BitVec 1 := Scalar.cmpi .ne v482 c0_i32_288
  let v487 : BitVec 1 := Scalar.andi v486 v483
  let v488 : BitVec 32 := Scalar.addi v482 v481
  let v489 : BitVec 32 := Scalar.select v487 v488 v482
  let c1_i32_296 : BitVec 32 := 1#32
  let v494 : BitVec 32 := Scalar.muli v489 c1_i32_296
  let v495 : BitVec 32 := Scalar.addi c0_i32_297 v494
  v495.toNat
def k0_dev22 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_301 : BitVec 32 := 7#32
  let v501 : BitVec 32 := Scalar.addi v2 c7_i32_301
  let c16_i32_302 : BitVec 32 := 16#32
  let c0_i32_303 : BitVec 32 := 0#32
  let v502 : BitVec 1 := Scalar.cmpi .eq c16_i32_302 c0_i32_303
  let c1_i32_304 : BitVec 32 := 1#32
  let v503 : BitVec 32 := Scalar.select v502 c1_i32_304 c16_i32_302
  let v504 : BitVec 32 := Scalar.remsi v501 v503
  let c0_i32_306 : BitVec 32 := 0#32
  let v506 : BitVec 1 := Scalar.cmpi .slt v504 c0_i32_306
  let c0_i32_307 : BitVec 32 := 0#32
  let v507 : BitVec 1 := Scalar.cmpi .slt v503 c0_i32_307
  let v508 : BitVec 1 := Scalar.xori v506 v507
  let c0_i32_305 : BitVec 32 := 0#32
  let v505 : BitVec 1 := Scalar.cmpi .ne v504 c0_i32_305
  let v509 : BitVec 1 := Scalar.andi v508 v505
  let v510 : BitVec 32 := Scalar.addi v504 v503
  let v511 : BitVec 32 := Scalar.select v509 v510 v504
  let c1_i32_313 : BitVec 32 := 1#32
  let v516 : BitVec 32 := Scalar.muli v511 c1_i32_313
  let v517 : BitVec 32 := Scalar.addi c0_i32_314 v516
  v517.toNat
def k0_dev23 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_318 : BitVec 32 := 8#32
  let v523 : BitVec 32 := Scalar.addi v2 c8_i32_318
  let c16_i32_319 : BitVec 32 := 16#32
  let c0_i32_320 : BitVec 32 := 0#32
  let v524 : BitVec 1 := Scalar.cmpi .eq c16_i32_319 c0_i32_320
  let c1_i32_321 : BitVec 32 := 1#32
  let v525 : BitVec 32 := Scalar.select v524 c1_i32_321 c16_i32_319
  let v526 : BitVec 32 := Scalar.remsi v523 v525
  let c0_i32_323 : BitVec 32 := 0#32
  let v528 : BitVec 1 := Scalar.cmpi .slt v526 c0_i32_323
  let c0_i32_324 : BitVec 32 := 0#32
  let v529 : BitVec 1 := Scalar.cmpi .slt v525 c0_i32_324
  let v530 : BitVec 1 := Scalar.xori v528 v529
  let c0_i32_322 : BitVec 32 := 0#32
  let v527 : BitVec 1 := Scalar.cmpi .ne v526 c0_i32_322
  let v531 : BitVec 1 := Scalar.andi v530 v527
  let v532 : BitVec 32 := Scalar.addi v526 v525
  let v533 : BitVec 32 := Scalar.select v531 v532 v526
  let c1_i32_330 : BitVec 32 := 1#32
  let v538 : BitVec 32 := Scalar.muli v533 c1_i32_330
  let v539 : BitVec 32 := Scalar.addi c0_i32_331 v538
  v539.toNat
def k0_dev24 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_335 : BitVec 32 := 9#32
  let v545 : BitVec 32 := Scalar.addi v2 c9_i32_335
  let c16_i32_336 : BitVec 32 := 16#32
  let c0_i32_337 : BitVec 32 := 0#32
  let v546 : BitVec 1 := Scalar.cmpi .eq c16_i32_336 c0_i32_337
  let c1_i32_338 : BitVec 32 := 1#32
  let v547 : BitVec 32 := Scalar.select v546 c1_i32_338 c16_i32_336
  let v548 : BitVec 32 := Scalar.remsi v545 v547
  let c0_i32_340 : BitVec 32 := 0#32
  let v550 : BitVec 1 := Scalar.cmpi .slt v548 c0_i32_340
  let c0_i32_341 : BitVec 32 := 0#32
  let v551 : BitVec 1 := Scalar.cmpi .slt v547 c0_i32_341
  let v552 : BitVec 1 := Scalar.xori v550 v551
  let c0_i32_339 : BitVec 32 := 0#32
  let v549 : BitVec 1 := Scalar.cmpi .ne v548 c0_i32_339
  let v553 : BitVec 1 := Scalar.andi v552 v549
  let v554 : BitVec 32 := Scalar.addi v548 v547
  let v555 : BitVec 32 := Scalar.select v553 v554 v548
  let c1_i32_347 : BitVec 32 := 1#32
  let v560 : BitVec 32 := Scalar.muli v555 c1_i32_347
  let v561 : BitVec 32 := Scalar.addi c0_i32_348 v560
  v561.toNat
def k0_dev25 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_352 : BitVec 32 := 10#32
  let v567 : BitVec 32 := Scalar.addi v2 c10_i32_352
  let c16_i32_353 : BitVec 32 := 16#32
  let c0_i32_354 : BitVec 32 := 0#32
  let v568 : BitVec 1 := Scalar.cmpi .eq c16_i32_353 c0_i32_354
  let c1_i32_355 : BitVec 32 := 1#32
  let v569 : BitVec 32 := Scalar.select v568 c1_i32_355 c16_i32_353
  let v570 : BitVec 32 := Scalar.remsi v567 v569
  let c0_i32_357 : BitVec 32 := 0#32
  let v572 : BitVec 1 := Scalar.cmpi .slt v570 c0_i32_357
  let c0_i32_358 : BitVec 32 := 0#32
  let v573 : BitVec 1 := Scalar.cmpi .slt v569 c0_i32_358
  let v574 : BitVec 1 := Scalar.xori v572 v573
  let c0_i32_356 : BitVec 32 := 0#32
  let v571 : BitVec 1 := Scalar.cmpi .ne v570 c0_i32_356
  let v575 : BitVec 1 := Scalar.andi v574 v571
  let v576 : BitVec 32 := Scalar.addi v570 v569
  let v577 : BitVec 32 := Scalar.select v575 v576 v570
  let c1_i32_364 : BitVec 32 := 1#32
  let v582 : BitVec 32 := Scalar.muli v577 c1_i32_364
  let v583 : BitVec 32 := Scalar.addi c0_i32_365 v582
  v583.toNat
def k0_dev26 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_369 : BitVec 32 := 11#32
  let v589 : BitVec 32 := Scalar.addi v2 c11_i32_369
  let c16_i32_370 : BitVec 32 := 16#32
  let c0_i32_371 : BitVec 32 := 0#32
  let v590 : BitVec 1 := Scalar.cmpi .eq c16_i32_370 c0_i32_371
  let c1_i32_372 : BitVec 32 := 1#32
  let v591 : BitVec 32 := Scalar.select v590 c1_i32_372 c16_i32_370
  let v592 : BitVec 32 := Scalar.remsi v589 v591
  let c0_i32_374 : BitVec 32 := 0#32
  let v594 : BitVec 1 := Scalar.cmpi .slt v592 c0_i32_374
  let c0_i32_375 : BitVec 32 := 0#32
  let v595 : BitVec 1 := Scalar.cmpi .slt v591 c0_i32_375
  let v596 : BitVec 1 := Scalar.xori v594 v595
  let c0_i32_373 : BitVec 32 := 0#32
  let v593 : BitVec 1 := Scalar.cmpi .ne v592 c0_i32_373
  let v597 : BitVec 1 := Scalar.andi v596 v593
  let v598 : BitVec 32 := Scalar.addi v592 v591
  let v599 : BitVec 32 := Scalar.select v597 v598 v592
  let c1_i32_381 : BitVec 32 := 1#32
  let v604 : BitVec 32 := Scalar.muli v599 c1_i32_381
  let v605 : BitVec 32 := Scalar.addi c0_i32_382 v604
  v605.toNat
def k0_dev27 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_386 : BitVec 32 := 12#32
  let v611 : BitVec 32 := Scalar.addi v2 c12_i32_386
  let c16_i32_387 : BitVec 32 := 16#32
  let c0_i32_388 : BitVec 32 := 0#32
  let v612 : BitVec 1 := Scalar.cmpi .eq c16_i32_387 c0_i32_388
  let c1_i32_389 : BitVec 32 := 1#32
  let v613 : BitVec 32 := Scalar.select v612 c1_i32_389 c16_i32_387
  let v614 : BitVec 32 := Scalar.remsi v611 v613
  let c0_i32_391 : BitVec 32 := 0#32
  let v616 : BitVec 1 := Scalar.cmpi .slt v614 c0_i32_391
  let c0_i32_392 : BitVec 32 := 0#32
  let v617 : BitVec 1 := Scalar.cmpi .slt v613 c0_i32_392
  let v618 : BitVec 1 := Scalar.xori v616 v617
  let c0_i32_390 : BitVec 32 := 0#32
  let v615 : BitVec 1 := Scalar.cmpi .ne v614 c0_i32_390
  let v619 : BitVec 1 := Scalar.andi v618 v615
  let v620 : BitVec 32 := Scalar.addi v614 v613
  let v621 : BitVec 32 := Scalar.select v619 v620 v614
  let c1_i32_398 : BitVec 32 := 1#32
  let v626 : BitVec 32 := Scalar.muli v621 c1_i32_398
  let v627 : BitVec 32 := Scalar.addi c0_i32_399 v626
  v627.toNat
def k0_dev28 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_403 : BitVec 32 := 13#32
  let v633 : BitVec 32 := Scalar.addi v2 c13_i32_403
  let c16_i32_404 : BitVec 32 := 16#32
  let c0_i32_405 : BitVec 32 := 0#32
  let v634 : BitVec 1 := Scalar.cmpi .eq c16_i32_404 c0_i32_405
  let c1_i32_406 : BitVec 32 := 1#32
  let v635 : BitVec 32 := Scalar.select v634 c1_i32_406 c16_i32_404
  let v636 : BitVec 32 := Scalar.remsi v633 v635
  let c0_i32_408 : BitVec 32 := 0#32
  let v638 : BitVec 1 := Scalar.cmpi .slt v636 c0_i32_408
  let c0_i32_409 : BitVec 32 := 0#32
  let v639 : BitVec 1 := Scalar.cmpi .slt v635 c0_i32_409
  let v640 : BitVec 1 := Scalar.xori v638 v639
  let c0_i32_407 : BitVec 32 := 0#32
  let v637 : BitVec 1 := Scalar.cmpi .ne v636 c0_i32_407
  let v641 : BitVec 1 := Scalar.andi v640 v637
  let v642 : BitVec 32 := Scalar.addi v636 v635
  let v643 : BitVec 32 := Scalar.select v641 v642 v636
  let c1_i32_415 : BitVec 32 := 1#32
  let v648 : BitVec 32 := Scalar.muli v643 c1_i32_415
  let v649 : BitVec 32 := Scalar.addi c0_i32_416 v648
  v649.toNat
def k0_dev29 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_420 : BitVec 32 := 14#32
  let v655 : BitVec 32 := Scalar.addi v2 c14_i32_420
  let c16_i32_421 : BitVec 32 := 16#32
  let c0_i32_422 : BitVec 32 := 0#32
  let v656 : BitVec 1 := Scalar.cmpi .eq c16_i32_421 c0_i32_422
  let c1_i32_423 : BitVec 32 := 1#32
  let v657 : BitVec 32 := Scalar.select v656 c1_i32_423 c16_i32_421
  let v658 : BitVec 32 := Scalar.remsi v655 v657
  let c0_i32_425 : BitVec 32 := 0#32
  let v660 : BitVec 1 := Scalar.cmpi .slt v658 c0_i32_425
  let c0_i32_426 : BitVec 32 := 0#32
  let v661 : BitVec 1 := Scalar.cmpi .slt v657 c0_i32_426
  let v662 : BitVec 1 := Scalar.xori v660 v661
  let c0_i32_424 : BitVec 32 := 0#32
  let v659 : BitVec 1 := Scalar.cmpi .ne v658 c0_i32_424
  let v663 : BitVec 1 := Scalar.andi v662 v659
  let v664 : BitVec 32 := Scalar.addi v658 v657
  let v665 : BitVec 32 := Scalar.select v663 v664 v658
  let c1_i32_432 : BitVec 32 := 1#32
  let v670 : BitVec 32 := Scalar.muli v665 c1_i32_432
  let v671 : BitVec 32 := Scalar.addi c0_i32_433 v670
  v671.toNat
def k0_dev30 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_437 : BitVec 32 := 15#32
  let v677 : BitVec 32 := Scalar.addi v2 c15_i32_437
  let c16_i32_438 : BitVec 32 := 16#32
  let c0_i32_439 : BitVec 32 := 0#32
  let v678 : BitVec 1 := Scalar.cmpi .eq c16_i32_438 c0_i32_439
  let c1_i32_440 : BitVec 32 := 1#32
  let v679 : BitVec 32 := Scalar.select v678 c1_i32_440 c16_i32_438
  let v680 : BitVec 32 := Scalar.remsi v677 v679
  let c0_i32_442 : BitVec 32 := 0#32
  let v682 : BitVec 1 := Scalar.cmpi .slt v680 c0_i32_442
  let c0_i32_443 : BitVec 32 := 0#32
  let v683 : BitVec 1 := Scalar.cmpi .slt v679 c0_i32_443
  let v684 : BitVec 1 := Scalar.xori v682 v683
  let c0_i32_441 : BitVec 32 := 0#32
  let v681 : BitVec 1 := Scalar.cmpi .ne v680 c0_i32_441
  let v685 : BitVec 1 := Scalar.andi v684 v681
  let v686 : BitVec 32 := Scalar.addi v680 v679
  let v687 : BitVec 32 := Scalar.select v685 v686 v680
  let c1_i32_449 : BitVec 32 := 1#32
  let v692 : BitVec 32 := Scalar.muli v687 c1_i32_449
  let v693 : BitVec 32 := Scalar.addi c0_i32_450 v692
  v693.toNat
def k0_dev31 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_494 : BitVec 32 := 1#32
  let v837 : BitVec 32 := Scalar.addi v2 c1_i32_494
  let c16_i32_495 : BitVec 32 := 16#32
  let c0_i32_496 : BitVec 32 := 0#32
  let v838 : BitVec 1 := Scalar.cmpi .eq c16_i32_495 c0_i32_496
  let c1_i32_497 : BitVec 32 := 1#32
  let v839 : BitVec 32 := Scalar.select v838 c1_i32_497 c16_i32_495
  let v840 : BitVec 32 := Scalar.remsi v837 v839
  let c0_i32_499 : BitVec 32 := 0#32
  let v842 : BitVec 1 := Scalar.cmpi .slt v840 c0_i32_499
  let c0_i32_500 : BitVec 32 := 0#32
  let v843 : BitVec 1 := Scalar.cmpi .slt v839 c0_i32_500
  let v844 : BitVec 1 := Scalar.xori v842 v843
  let c0_i32_498 : BitVec 32 := 0#32
  let v841 : BitVec 1 := Scalar.cmpi .ne v840 c0_i32_498
  let v845 : BitVec 1 := Scalar.andi v844 v841
  let v846 : BitVec 32 := Scalar.addi v840 v839
  let v847 : BitVec 32 := Scalar.select v845 v846 v840
  let c1_i32_505 : BitVec 32 := 1#32
  let v852 : BitVec 32 := Scalar.muli v847 c1_i32_505
  let v853 : BitVec 32 := Scalar.addi c0_i32_506 v852
  v853.toNat
def k0_dev32 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_510 : BitVec 32 := 2#32
  let v859 : BitVec 32 := Scalar.addi v2 c2_i32_510
  let c16_i32_511 : BitVec 32 := 16#32
  let c0_i32_512 : BitVec 32 := 0#32
  let v860 : BitVec 1 := Scalar.cmpi .eq c16_i32_511 c0_i32_512
  let c1_i32_513 : BitVec 32 := 1#32
  let v861 : BitVec 32 := Scalar.select v860 c1_i32_513 c16_i32_511
  let v862 : BitVec 32 := Scalar.remsi v859 v861
  let c0_i32_515 : BitVec 32 := 0#32
  let v864 : BitVec 1 := Scalar.cmpi .slt v862 c0_i32_515
  let c0_i32_516 : BitVec 32 := 0#32
  let v865 : BitVec 1 := Scalar.cmpi .slt v861 c0_i32_516
  let v866 : BitVec 1 := Scalar.xori v864 v865
  let c0_i32_514 : BitVec 32 := 0#32
  let v863 : BitVec 1 := Scalar.cmpi .ne v862 c0_i32_514
  let v867 : BitVec 1 := Scalar.andi v866 v863
  let v868 : BitVec 32 := Scalar.addi v862 v861
  let v869 : BitVec 32 := Scalar.select v867 v868 v862
  let c1_i32_522 : BitVec 32 := 1#32
  let v874 : BitVec 32 := Scalar.muli v869 c1_i32_522
  let v875 : BitVec 32 := Scalar.addi c0_i32_523 v874
  v875.toNat
def k0_dev33 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_527 : BitVec 32 := 3#32
  let v881 : BitVec 32 := Scalar.addi v2 c3_i32_527
  let c16_i32_528 : BitVec 32 := 16#32
  let c0_i32_529 : BitVec 32 := 0#32
  let v882 : BitVec 1 := Scalar.cmpi .eq c16_i32_528 c0_i32_529
  let c1_i32_530 : BitVec 32 := 1#32
  let v883 : BitVec 32 := Scalar.select v882 c1_i32_530 c16_i32_528
  let v884 : BitVec 32 := Scalar.remsi v881 v883
  let c0_i32_532 : BitVec 32 := 0#32
  let v886 : BitVec 1 := Scalar.cmpi .slt v884 c0_i32_532
  let c0_i32_533 : BitVec 32 := 0#32
  let v887 : BitVec 1 := Scalar.cmpi .slt v883 c0_i32_533
  let v888 : BitVec 1 := Scalar.xori v886 v887
  let c0_i32_531 : BitVec 32 := 0#32
  let v885 : BitVec 1 := Scalar.cmpi .ne v884 c0_i32_531
  let v889 : BitVec 1 := Scalar.andi v888 v885
  let v890 : BitVec 32 := Scalar.addi v884 v883
  let v891 : BitVec 32 := Scalar.select v889 v890 v884
  let c1_i32_539 : BitVec 32 := 1#32
  let v896 : BitVec 32 := Scalar.muli v891 c1_i32_539
  let v897 : BitVec 32 := Scalar.addi c0_i32_540 v896
  v897.toNat
def k0_dev34 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_544 : BitVec 32 := 4#32
  let v903 : BitVec 32 := Scalar.addi v2 c4_i32_544
  let c16_i32_545 : BitVec 32 := 16#32
  let c0_i32_546 : BitVec 32 := 0#32
  let v904 : BitVec 1 := Scalar.cmpi .eq c16_i32_545 c0_i32_546
  let c1_i32_547 : BitVec 32 := 1#32
  let v905 : BitVec 32 := Scalar.select v904 c1_i32_547 c16_i32_545
  let v906 : BitVec 32 := Scalar.remsi v903 v905
  let c0_i32_549 : BitVec 32 := 0#32
  let v908 : BitVec 1 := Scalar.cmpi .slt v906 c0_i32_549
  let c0_i32_550 : BitVec 32 := 0#32
  let v909 : BitVec 1 := Scalar.cmpi .slt v905 c0_i32_550
  let v910 : BitVec 1 := Scalar.xori v908 v909
  let c0_i32_548 : BitVec 32 := 0#32
  let v907 : BitVec 1 := Scalar.cmpi .ne v906 c0_i32_548
  let v911 : BitVec 1 := Scalar.andi v910 v907
  let v912 : BitVec 32 := Scalar.addi v906 v905
  let v913 : BitVec 32 := Scalar.select v911 v912 v906
  let c1_i32_556 : BitVec 32 := 1#32
  let v918 : BitVec 32 := Scalar.muli v913 c1_i32_556
  let v919 : BitVec 32 := Scalar.addi c0_i32_557 v918
  v919.toNat
def k0_dev35 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_561 : BitVec 32 := 5#32
  let v925 : BitVec 32 := Scalar.addi v2 c5_i32_561
  let c16_i32_562 : BitVec 32 := 16#32
  let c0_i32_563 : BitVec 32 := 0#32
  let v926 : BitVec 1 := Scalar.cmpi .eq c16_i32_562 c0_i32_563
  let c1_i32_564 : BitVec 32 := 1#32
  let v927 : BitVec 32 := Scalar.select v926 c1_i32_564 c16_i32_562
  let v928 : BitVec 32 := Scalar.remsi v925 v927
  let c0_i32_566 : BitVec 32 := 0#32
  let v930 : BitVec 1 := Scalar.cmpi .slt v928 c0_i32_566
  let c0_i32_567 : BitVec 32 := 0#32
  let v931 : BitVec 1 := Scalar.cmpi .slt v927 c0_i32_567
  let v932 : BitVec 1 := Scalar.xori v930 v931
  let c0_i32_565 : BitVec 32 := 0#32
  let v929 : BitVec 1 := Scalar.cmpi .ne v928 c0_i32_565
  let v933 : BitVec 1 := Scalar.andi v932 v929
  let v934 : BitVec 32 := Scalar.addi v928 v927
  let v935 : BitVec 32 := Scalar.select v933 v934 v928
  let c1_i32_573 : BitVec 32 := 1#32
  let v940 : BitVec 32 := Scalar.muli v935 c1_i32_573
  let v941 : BitVec 32 := Scalar.addi c0_i32_574 v940
  v941.toNat
def k0_dev36 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_578 : BitVec 32 := 6#32
  let v947 : BitVec 32 := Scalar.addi v2 c6_i32_578
  let c16_i32_579 : BitVec 32 := 16#32
  let c0_i32_580 : BitVec 32 := 0#32
  let v948 : BitVec 1 := Scalar.cmpi .eq c16_i32_579 c0_i32_580
  let c1_i32_581 : BitVec 32 := 1#32
  let v949 : BitVec 32 := Scalar.select v948 c1_i32_581 c16_i32_579
  let v950 : BitVec 32 := Scalar.remsi v947 v949
  let c0_i32_583 : BitVec 32 := 0#32
  let v952 : BitVec 1 := Scalar.cmpi .slt v950 c0_i32_583
  let c0_i32_584 : BitVec 32 := 0#32
  let v953 : BitVec 1 := Scalar.cmpi .slt v949 c0_i32_584
  let v954 : BitVec 1 := Scalar.xori v952 v953
  let c0_i32_582 : BitVec 32 := 0#32
  let v951 : BitVec 1 := Scalar.cmpi .ne v950 c0_i32_582
  let v955 : BitVec 1 := Scalar.andi v954 v951
  let v956 : BitVec 32 := Scalar.addi v950 v949
  let v957 : BitVec 32 := Scalar.select v955 v956 v950
  let c1_i32_590 : BitVec 32 := 1#32
  let v962 : BitVec 32 := Scalar.muli v957 c1_i32_590
  let v963 : BitVec 32 := Scalar.addi c0_i32_591 v962
  v963.toNat
def k0_dev37 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_595 : BitVec 32 := 7#32
  let v969 : BitVec 32 := Scalar.addi v2 c7_i32_595
  let c16_i32_596 : BitVec 32 := 16#32
  let c0_i32_597 : BitVec 32 := 0#32
  let v970 : BitVec 1 := Scalar.cmpi .eq c16_i32_596 c0_i32_597
  let c1_i32_598 : BitVec 32 := 1#32
  let v971 : BitVec 32 := Scalar.select v970 c1_i32_598 c16_i32_596
  let v972 : BitVec 32 := Scalar.remsi v969 v971
  let c0_i32_600 : BitVec 32 := 0#32
  let v974 : BitVec 1 := Scalar.cmpi .slt v972 c0_i32_600
  let c0_i32_601 : BitVec 32 := 0#32
  let v975 : BitVec 1 := Scalar.cmpi .slt v971 c0_i32_601
  let v976 : BitVec 1 := Scalar.xori v974 v975
  let c0_i32_599 : BitVec 32 := 0#32
  let v973 : BitVec 1 := Scalar.cmpi .ne v972 c0_i32_599
  let v977 : BitVec 1 := Scalar.andi v976 v973
  let v978 : BitVec 32 := Scalar.addi v972 v971
  let v979 : BitVec 32 := Scalar.select v977 v978 v972
  let c1_i32_607 : BitVec 32 := 1#32
  let v984 : BitVec 32 := Scalar.muli v979 c1_i32_607
  let v985 : BitVec 32 := Scalar.addi c0_i32_608 v984
  v985.toNat
def k0_dev38 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_612 : BitVec 32 := 8#32
  let v991 : BitVec 32 := Scalar.addi v2 c8_i32_612
  let c16_i32_613 : BitVec 32 := 16#32
  let c0_i32_614 : BitVec 32 := 0#32
  let v992 : BitVec 1 := Scalar.cmpi .eq c16_i32_613 c0_i32_614
  let c1_i32_615 : BitVec 32 := 1#32
  let v993 : BitVec 32 := Scalar.select v992 c1_i32_615 c16_i32_613
  let v994 : BitVec 32 := Scalar.remsi v991 v993
  let c0_i32_617 : BitVec 32 := 0#32
  let v996 : BitVec 1 := Scalar.cmpi .slt v994 c0_i32_617
  let c0_i32_618 : BitVec 32 := 0#32
  let v997 : BitVec 1 := Scalar.cmpi .slt v993 c0_i32_618
  let v998 : BitVec 1 := Scalar.xori v996 v997
  let c0_i32_616 : BitVec 32 := 0#32
  let v995 : BitVec 1 := Scalar.cmpi .ne v994 c0_i32_616
  let v999 : BitVec 1 := Scalar.andi v998 v995
  let v1000 : BitVec 32 := Scalar.addi v994 v993
  let v1001 : BitVec 32 := Scalar.select v999 v1000 v994
  let c1_i32_624 : BitVec 32 := 1#32
  let v1006 : BitVec 32 := Scalar.muli v1001 c1_i32_624
  let v1007 : BitVec 32 := Scalar.addi c0_i32_625 v1006
  v1007.toNat
def k0_dev39 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_629 : BitVec 32 := 9#32
  let v1013 : BitVec 32 := Scalar.addi v2 c9_i32_629
  let c16_i32_630 : BitVec 32 := 16#32
  let c0_i32_631 : BitVec 32 := 0#32
  let v1014 : BitVec 1 := Scalar.cmpi .eq c16_i32_630 c0_i32_631
  let c1_i32_632 : BitVec 32 := 1#32
  let v1015 : BitVec 32 := Scalar.select v1014 c1_i32_632 c16_i32_630
  let v1016 : BitVec 32 := Scalar.remsi v1013 v1015
  let c0_i32_634 : BitVec 32 := 0#32
  let v1018 : BitVec 1 := Scalar.cmpi .slt v1016 c0_i32_634
  let c0_i32_635 : BitVec 32 := 0#32
  let v1019 : BitVec 1 := Scalar.cmpi .slt v1015 c0_i32_635
  let v1020 : BitVec 1 := Scalar.xori v1018 v1019
  let c0_i32_633 : BitVec 32 := 0#32
  let v1017 : BitVec 1 := Scalar.cmpi .ne v1016 c0_i32_633
  let v1021 : BitVec 1 := Scalar.andi v1020 v1017
  let v1022 : BitVec 32 := Scalar.addi v1016 v1015
  let v1023 : BitVec 32 := Scalar.select v1021 v1022 v1016
  let c1_i32_641 : BitVec 32 := 1#32
  let v1028 : BitVec 32 := Scalar.muli v1023 c1_i32_641
  let v1029 : BitVec 32 := Scalar.addi c0_i32_642 v1028
  v1029.toNat
def k0_dev40 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_646 : BitVec 32 := 10#32
  let v1035 : BitVec 32 := Scalar.addi v2 c10_i32_646
  let c16_i32_647 : BitVec 32 := 16#32
  let c0_i32_648 : BitVec 32 := 0#32
  let v1036 : BitVec 1 := Scalar.cmpi .eq c16_i32_647 c0_i32_648
  let c1_i32_649 : BitVec 32 := 1#32
  let v1037 : BitVec 32 := Scalar.select v1036 c1_i32_649 c16_i32_647
  let v1038 : BitVec 32 := Scalar.remsi v1035 v1037
  let c0_i32_651 : BitVec 32 := 0#32
  let v1040 : BitVec 1 := Scalar.cmpi .slt v1038 c0_i32_651
  let c0_i32_652 : BitVec 32 := 0#32
  let v1041 : BitVec 1 := Scalar.cmpi .slt v1037 c0_i32_652
  let v1042 : BitVec 1 := Scalar.xori v1040 v1041
  let c0_i32_650 : BitVec 32 := 0#32
  let v1039 : BitVec 1 := Scalar.cmpi .ne v1038 c0_i32_650
  let v1043 : BitVec 1 := Scalar.andi v1042 v1039
  let v1044 : BitVec 32 := Scalar.addi v1038 v1037
  let v1045 : BitVec 32 := Scalar.select v1043 v1044 v1038
  let c1_i32_658 : BitVec 32 := 1#32
  let v1050 : BitVec 32 := Scalar.muli v1045 c1_i32_658
  let v1051 : BitVec 32 := Scalar.addi c0_i32_659 v1050
  v1051.toNat
def k0_dev41 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_663 : BitVec 32 := 11#32
  let v1057 : BitVec 32 := Scalar.addi v2 c11_i32_663
  let c16_i32_664 : BitVec 32 := 16#32
  let c0_i32_665 : BitVec 32 := 0#32
  let v1058 : BitVec 1 := Scalar.cmpi .eq c16_i32_664 c0_i32_665
  let c1_i32_666 : BitVec 32 := 1#32
  let v1059 : BitVec 32 := Scalar.select v1058 c1_i32_666 c16_i32_664
  let v1060 : BitVec 32 := Scalar.remsi v1057 v1059
  let c0_i32_668 : BitVec 32 := 0#32
  let v1062 : BitVec 1 := Scalar.cmpi .slt v1060 c0_i32_668
  let c0_i32_669 : BitVec 32 := 0#32
  let v1063 : BitVec 1 := Scalar.cmpi .slt v1059 c0_i32_669
  let v1064 : BitVec 1 := Scalar.xori v1062 v1063
  let c0_i32_667 : BitVec 32 := 0#32
  let v1061 : BitVec 1 := Scalar.cmpi .ne v1060 c0_i32_667
  let v1065 : BitVec 1 := Scalar.andi v1064 v1061
  let v1066 : BitVec 32 := Scalar.addi v1060 v1059
  let v1067 : BitVec 32 := Scalar.select v1065 v1066 v1060
  let c1_i32_675 : BitVec 32 := 1#32
  let v1072 : BitVec 32 := Scalar.muli v1067 c1_i32_675
  let v1073 : BitVec 32 := Scalar.addi c0_i32_676 v1072
  v1073.toNat
def k0_dev42 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_680 : BitVec 32 := 12#32
  let v1079 : BitVec 32 := Scalar.addi v2 c12_i32_680
  let c16_i32_681 : BitVec 32 := 16#32
  let c0_i32_682 : BitVec 32 := 0#32
  let v1080 : BitVec 1 := Scalar.cmpi .eq c16_i32_681 c0_i32_682
  let c1_i32_683 : BitVec 32 := 1#32
  let v1081 : BitVec 32 := Scalar.select v1080 c1_i32_683 c16_i32_681
  let v1082 : BitVec 32 := Scalar.remsi v1079 v1081
  let c0_i32_685 : BitVec 32 := 0#32
  let v1084 : BitVec 1 := Scalar.cmpi .slt v1082 c0_i32_685
  let c0_i32_686 : BitVec 32 := 0#32
  let v1085 : BitVec 1 := Scalar.cmpi .slt v1081 c0_i32_686
  let v1086 : BitVec 1 := Scalar.xori v1084 v1085
  let c0_i32_684 : BitVec 32 := 0#32
  let v1083 : BitVec 1 := Scalar.cmpi .ne v1082 c0_i32_684
  let v1087 : BitVec 1 := Scalar.andi v1086 v1083
  let v1088 : BitVec 32 := Scalar.addi v1082 v1081
  let v1089 : BitVec 32 := Scalar.select v1087 v1088 v1082
  let c1_i32_692 : BitVec 32 := 1#32
  let v1094 : BitVec 32 := Scalar.muli v1089 c1_i32_692
  let v1095 : BitVec 32 := Scalar.addi c0_i32_693 v1094
  v1095.toNat
def k0_dev43 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_697 : BitVec 32 := 13#32
  let v1101 : BitVec 32 := Scalar.addi v2 c13_i32_697
  let c16_i32_698 : BitVec 32 := 16#32
  let c0_i32_699 : BitVec 32 := 0#32
  let v1102 : BitVec 1 := Scalar.cmpi .eq c16_i32_698 c0_i32_699
  let c1_i32_700 : BitVec 32 := 1#32
  let v1103 : BitVec 32 := Scalar.select v1102 c1_i32_700 c16_i32_698
  let v1104 : BitVec 32 := Scalar.remsi v1101 v1103
  let c0_i32_702 : BitVec 32 := 0#32
  let v1106 : BitVec 1 := Scalar.cmpi .slt v1104 c0_i32_702
  let c0_i32_703 : BitVec 32 := 0#32
  let v1107 : BitVec 1 := Scalar.cmpi .slt v1103 c0_i32_703
  let v1108 : BitVec 1 := Scalar.xori v1106 v1107
  let c0_i32_701 : BitVec 32 := 0#32
  let v1105 : BitVec 1 := Scalar.cmpi .ne v1104 c0_i32_701
  let v1109 : BitVec 1 := Scalar.andi v1108 v1105
  let v1110 : BitVec 32 := Scalar.addi v1104 v1103
  let v1111 : BitVec 32 := Scalar.select v1109 v1110 v1104
  let c1_i32_709 : BitVec 32 := 1#32
  let v1116 : BitVec 32 := Scalar.muli v1111 c1_i32_709
  let v1117 : BitVec 32 := Scalar.addi c0_i32_710 v1116
  v1117.toNat
def k0_dev44 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_714 : BitVec 32 := 14#32
  let v1123 : BitVec 32 := Scalar.addi v2 c14_i32_714
  let c16_i32_715 : BitVec 32 := 16#32
  let c0_i32_716 : BitVec 32 := 0#32
  let v1124 : BitVec 1 := Scalar.cmpi .eq c16_i32_715 c0_i32_716
  let c1_i32_717 : BitVec 32 := 1#32
  let v1125 : BitVec 32 := Scalar.select v1124 c1_i32_717 c16_i32_715
  let v1126 : BitVec 32 := Scalar.remsi v1123 v1125
  let c0_i32_719 : BitVec 32 := 0#32
  let v1128 : BitVec 1 := Scalar.cmpi .slt v1126 c0_i32_719
  let c0_i32_720 : BitVec 32 := 0#32
  let v1129 : BitVec 1 := Scalar.cmpi .slt v1125 c0_i32_720
  let v1130 : BitVec 1 := Scalar.xori v1128 v1129
  let c0_i32_718 : BitVec 32 := 0#32
  let v1127 : BitVec 1 := Scalar.cmpi .ne v1126 c0_i32_718
  let v1131 : BitVec 1 := Scalar.andi v1130 v1127
  let v1132 : BitVec 32 := Scalar.addi v1126 v1125
  let v1133 : BitVec 32 := Scalar.select v1131 v1132 v1126
  let c1_i32_726 : BitVec 32 := 1#32
  let v1138 : BitVec 32 := Scalar.muli v1133 c1_i32_726
  let v1139 : BitVec 32 := Scalar.addi c0_i32_727 v1138
  v1139.toNat
def k0_dev45 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_731 : BitVec 32 := 15#32
  let v1145 : BitVec 32 := Scalar.addi v2 c15_i32_731
  let c16_i32_732 : BitVec 32 := 16#32
  let c0_i32_733 : BitVec 32 := 0#32
  let v1146 : BitVec 1 := Scalar.cmpi .eq c16_i32_732 c0_i32_733
  let c1_i32_734 : BitVec 32 := 1#32
  let v1147 : BitVec 32 := Scalar.select v1146 c1_i32_734 c16_i32_732
  let v1148 : BitVec 32 := Scalar.remsi v1145 v1147
  let c0_i32_736 : BitVec 32 := 0#32
  let v1150 : BitVec 1 := Scalar.cmpi .slt v1148 c0_i32_736
  let c0_i32_737 : BitVec 32 := 0#32
  let v1151 : BitVec 1 := Scalar.cmpi .slt v1147 c0_i32_737
  let v1152 : BitVec 1 := Scalar.xori v1150 v1151
  let c0_i32_735 : BitVec 32 := 0#32
  let v1149 : BitVec 1 := Scalar.cmpi .ne v1148 c0_i32_735
  let v1153 : BitVec 1 := Scalar.andi v1152 v1149
  let v1154 : BitVec 32 := Scalar.addi v1148 v1147
  let v1155 : BitVec 32 := Scalar.select v1153 v1154 v1148
  let c1_i32_743 : BitVec 32 := 1#32
  let v1160 : BitVec 32 := Scalar.muli v1155 c1_i32_743
  let v1161 : BitVec 32 := Scalar.addi c0_i32_744 v1160
  v1161.toNat
def k0_off5 (d0 : Dev nD) (c0_i32_854 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_853 : BitVec 32 := 16#32
  let v1257 : BitVec 32 := Scalar.muli v2 c16_i32_853
  let v1258 : BitVec 32 := Scalar.addi c0_i32_854 v1257
  let v1259 : Index := Scalar.indexCast v1258
  let c0_855 : Index := 0#32
  ![v1259.toNat, 0]
def k0_off6 (d0 : Dev nD) (c0_i32_892 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_891 : BitVec 32 := 16#32
  let v1330 : BitVec 32 := Scalar.muli v2 c16_i32_891
  let v1331 : BitVec 32 := Scalar.addi c0_i32_892 v1330
  let c0_i32_894 : BitVec 32 := 0#32
  ![v1331.toNat, 0]
def k0_dev46 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_897 : BitVec 32 := 1#32
  let v1336 : BitVec 32 := Scalar.addi v2 c1_i32_897
  let c16_i32_898 : BitVec 32 := 16#32
  let c0_i32_899 : BitVec 32 := 0#32
  let v1337 : BitVec 1 := Scalar.cmpi .eq c16_i32_898 c0_i32_899
  let c1_i32_900 : BitVec 32 := 1#32
  let v1338 : BitVec 32 := Scalar.select v1337 c1_i32_900 c16_i32_898
  let v1339 : BitVec 32 := Scalar.remsi v1336 v1338
  let c0_i32_902 : BitVec 32 := 0#32
  let v1341 : BitVec 1 := Scalar.cmpi .slt v1339 c0_i32_902
  let c0_i32_903 : BitVec 32 := 0#32
  let v1342 : BitVec 1 := Scalar.cmpi .slt v1338 c0_i32_903
  let v1343 : BitVec 1 := Scalar.xori v1341 v1342
  let c0_i32_901 : BitVec 32 := 0#32
  let v1340 : BitVec 1 := Scalar.cmpi .ne v1339 c0_i32_901
  let v1344 : BitVec 1 := Scalar.andi v1343 v1340
  let v1345 : BitVec 32 := Scalar.addi v1339 v1338
  let v1346 : BitVec 32 := Scalar.select v1344 v1345 v1339
  let c1_i32_904 : BitVec 32 := 1#32
  let v1347 : BitVec 32 := Scalar.muli v1346 c1_i32_904
  let v1348 : BitVec 32 := Scalar.addi c0_i32_905 v1347
  v1348.toNat
def k0_dev47 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_909 : BitVec 32 := 2#32
  let v1351 : BitVec 32 := Scalar.addi v2 c2_i32_909
  let c16_i32_910 : BitVec 32 := 16#32
  let c0_i32_911 : BitVec 32 := 0#32
  let v1352 : BitVec 1 := Scalar.cmpi .eq c16_i32_910 c0_i32_911
  let c1_i32_912 : BitVec 32 := 1#32
  let v1353 : BitVec 32 := Scalar.select v1352 c1_i32_912 c16_i32_910
  let v1354 : BitVec 32 := Scalar.remsi v1351 v1353
  let c0_i32_914 : BitVec 32 := 0#32
  let v1356 : BitVec 1 := Scalar.cmpi .slt v1354 c0_i32_914
  let c0_i32_915 : BitVec 32 := 0#32
  let v1357 : BitVec 1 := Scalar.cmpi .slt v1353 c0_i32_915
  let v1358 : BitVec 1 := Scalar.xori v1356 v1357
  let c0_i32_913 : BitVec 32 := 0#32
  let v1355 : BitVec 1 := Scalar.cmpi .ne v1354 c0_i32_913
  let v1359 : BitVec 1 := Scalar.andi v1358 v1355
  let v1360 : BitVec 32 := Scalar.addi v1354 v1353
  let v1361 : BitVec 32 := Scalar.select v1359 v1360 v1354
  let c1_i32_916 : BitVec 32 := 1#32
  let v1362 : BitVec 32 := Scalar.muli v1361 c1_i32_916
  let v1363 : BitVec 32 := Scalar.addi c0_i32_917 v1362
  v1363.toNat
def k0_dev48 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_921 : BitVec 32 := 3#32
  let v1366 : BitVec 32 := Scalar.addi v2 c3_i32_921
  let c16_i32_922 : BitVec 32 := 16#32
  let c0_i32_923 : BitVec 32 := 0#32
  let v1367 : BitVec 1 := Scalar.cmpi .eq c16_i32_922 c0_i32_923
  let c1_i32_924 : BitVec 32 := 1#32
  let v1368 : BitVec 32 := Scalar.select v1367 c1_i32_924 c16_i32_922
  let v1369 : BitVec 32 := Scalar.remsi v1366 v1368
  let c0_i32_926 : BitVec 32 := 0#32
  let v1371 : BitVec 1 := Scalar.cmpi .slt v1369 c0_i32_926
  let c0_i32_927 : BitVec 32 := 0#32
  let v1372 : BitVec 1 := Scalar.cmpi .slt v1368 c0_i32_927
  let v1373 : BitVec 1 := Scalar.xori v1371 v1372
  let c0_i32_925 : BitVec 32 := 0#32
  let v1370 : BitVec 1 := Scalar.cmpi .ne v1369 c0_i32_925
  let v1374 : BitVec 1 := Scalar.andi v1373 v1370
  let v1375 : BitVec 32 := Scalar.addi v1369 v1368
  let v1376 : BitVec 32 := Scalar.select v1374 v1375 v1369
  let c1_i32_928 : BitVec 32 := 1#32
  let v1377 : BitVec 32 := Scalar.muli v1376 c1_i32_928
  let v1378 : BitVec 32 := Scalar.addi c0_i32_929 v1377
  v1378.toNat
def k0_dev49 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_933 : BitVec 32 := 4#32
  let v1381 : BitVec 32 := Scalar.addi v2 c4_i32_933
  let c16_i32_934 : BitVec 32 := 16#32
  let c0_i32_935 : BitVec 32 := 0#32
  let v1382 : BitVec 1 := Scalar.cmpi .eq c16_i32_934 c0_i32_935
  let c1_i32_936 : BitVec 32 := 1#32
  let v1383 : BitVec 32 := Scalar.select v1382 c1_i32_936 c16_i32_934
  let v1384 : BitVec 32 := Scalar.remsi v1381 v1383
  let c0_i32_938 : BitVec 32 := 0#32
  let v1386 : BitVec 1 := Scalar.cmpi .slt v1384 c0_i32_938
  let c0_i32_939 : BitVec 32 := 0#32
  let v1387 : BitVec 1 := Scalar.cmpi .slt v1383 c0_i32_939
  let v1388 : BitVec 1 := Scalar.xori v1386 v1387
  let c0_i32_937 : BitVec 32 := 0#32
  let v1385 : BitVec 1 := Scalar.cmpi .ne v1384 c0_i32_937
  let v1389 : BitVec 1 := Scalar.andi v1388 v1385
  let v1390 : BitVec 32 := Scalar.addi v1384 v1383
  let v1391 : BitVec 32 := Scalar.select v1389 v1390 v1384
  let c1_i32_940 : BitVec 32 := 1#32
  let v1392 : BitVec 32 := Scalar.muli v1391 c1_i32_940
  let v1393 : BitVec 32 := Scalar.addi c0_i32_941 v1392
  v1393.toNat
def k0_dev50 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_945 : BitVec 32 := 5#32
  let v1396 : BitVec 32 := Scalar.addi v2 c5_i32_945
  let c16_i32_946 : BitVec 32 := 16#32
  let c0_i32_947 : BitVec 32 := 0#32
  let v1397 : BitVec 1 := Scalar.cmpi .eq c16_i32_946 c0_i32_947
  let c1_i32_948 : BitVec 32 := 1#32
  let v1398 : BitVec 32 := Scalar.select v1397 c1_i32_948 c16_i32_946
  let v1399 : BitVec 32 := Scalar.remsi v1396 v1398
  let c0_i32_950 : BitVec 32 := 0#32
  let v1401 : BitVec 1 := Scalar.cmpi .slt v1399 c0_i32_950
  let c0_i32_951 : BitVec 32 := 0#32
  let v1402 : BitVec 1 := Scalar.cmpi .slt v1398 c0_i32_951
  let v1403 : BitVec 1 := Scalar.xori v1401 v1402
  let c0_i32_949 : BitVec 32 := 0#32
  let v1400 : BitVec 1 := Scalar.cmpi .ne v1399 c0_i32_949
  let v1404 : BitVec 1 := Scalar.andi v1403 v1400
  let v1405 : BitVec 32 := Scalar.addi v1399 v1398
  let v1406 : BitVec 32 := Scalar.select v1404 v1405 v1399
  let c1_i32_952 : BitVec 32 := 1#32
  let v1407 : BitVec 32 := Scalar.muli v1406 c1_i32_952
  let v1408 : BitVec 32 := Scalar.addi c0_i32_953 v1407
  v1408.toNat
def k0_dev51 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_957 : BitVec 32 := 6#32
  let v1411 : BitVec 32 := Scalar.addi v2 c6_i32_957
  let c16_i32_958 : BitVec 32 := 16#32
  let c0_i32_959 : BitVec 32 := 0#32
  let v1412 : BitVec 1 := Scalar.cmpi .eq c16_i32_958 c0_i32_959
  let c1_i32_960 : BitVec 32 := 1#32
  let v1413 : BitVec 32 := Scalar.select v1412 c1_i32_960 c16_i32_958
  let v1414 : BitVec 32 := Scalar.remsi v1411 v1413
  let c0_i32_962 : BitVec 32 := 0#32
  let v1416 : BitVec 1 := Scalar.cmpi .slt v1414 c0_i32_962
  let c0_i32_963 : BitVec 32 := 0#32
  let v1417 : BitVec 1 := Scalar.cmpi .slt v1413 c0_i32_963
  let v1418 : BitVec 1 := Scalar.xori v1416 v1417
  let c0_i32_961 : BitVec 32 := 0#32
  let v1415 : BitVec 1 := Scalar.cmpi .ne v1414 c0_i32_961
  let v1419 : BitVec 1 := Scalar.andi v1418 v1415
  let v1420 : BitVec 32 := Scalar.addi v1414 v1413
  let v1421 : BitVec 32 := Scalar.select v1419 v1420 v1414
  let c1_i32_964 : BitVec 32 := 1#32
  let v1422 : BitVec 32 := Scalar.muli v1421 c1_i32_964
  let v1423 : BitVec 32 := Scalar.addi c0_i32_965 v1422
  v1423.toNat
def k0_dev52 (d0 : Dev nD) : Nat :=
  let c0_i32_977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_969 : BitVec 32 := 7#32
  let v1426 : BitVec 32 := Scalar.addi v2 c7_i32_969
  let c16_i32_970 : BitVec 32 := 16#32
  let c0_i32_971 : BitVec 32 := 0#32
  let v1427 : BitVec 1 := Scalar.cmpi .eq c16_i32_970 c0_i32_971
  let c1_i32_972 : BitVec 32 := 1#32
  let v1428 : BitVec 32 := Scalar.select v1427 c1_i32_972 c16_i32_970
  let v1429 : BitVec 32 := Scalar.remsi v1426 v1428
  let c0_i32_974 : BitVec 32 := 0#32
  let v1431 : BitVec 1 := Scalar.cmpi .slt v1429 c0_i32_974
  let c0_i32_975 : BitVec 32 := 0#32
  let v1432 : BitVec 1 := Scalar.cmpi .slt v1428 c0_i32_975
  let v1433 : BitVec 1 := Scalar.xori v1431 v1432
  let c0_i32_973 : BitVec 32 := 0#32
  let v1430 : BitVec 1 := Scalar.cmpi .ne v1429 c0_i32_973
  let v1434 : BitVec 1 := Scalar.andi v1433 v1430
  let v1435 : BitVec 32 := Scalar.addi v1429 v1428
  let v1436 : BitVec 32 := Scalar.select v1434 v1435 v1429
  let c1_i32_976 : BitVec 32 := 1#32
  let v1437 : BitVec 32 := Scalar.muli v1436 c1_i32_976
  let v1438 : BitVec 32 := Scalar.addi c0_i32_977 v1437
  v1438.toNat
def k0_dev53 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_981 : BitVec 32 := 8#32
  let v1441 : BitVec 32 := Scalar.addi v2 c8_i32_981
  let c16_i32_982 : BitVec 32 := 16#32
  let c0_i32_983 : BitVec 32 := 0#32
  let v1442 : BitVec 1 := Scalar.cmpi .eq c16_i32_982 c0_i32_983
  let c1_i32_984 : BitVec 32 := 1#32
  let v1443 : BitVec 32 := Scalar.select v1442 c1_i32_984 c16_i32_982
  let v1444 : BitVec 32 := Scalar.remsi v1441 v1443
  let c0_i32_986 : BitVec 32 := 0#32
  let v1446 : BitVec 1 := Scalar.cmpi .slt v1444 c0_i32_986
  let c0_i32_987 : BitVec 32 := 0#32
  let v1447 : BitVec 1 := Scalar.cmpi .slt v1443 c0_i32_987
  let v1448 : BitVec 1 := Scalar.xori v1446 v1447
  let c0_i32_985 : BitVec 32 := 0#32
  let v1445 : BitVec 1 := Scalar.cmpi .ne v1444 c0_i32_985
  let v1449 : BitVec 1 := Scalar.andi v1448 v1445
  let v1450 : BitVec 32 := Scalar.addi v1444 v1443
  let v1451 : BitVec 32 := Scalar.select v1449 v1450 v1444
  let c1_i32_988 : BitVec 32 := 1#32
  let v1452 : BitVec 32 := Scalar.muli v1451 c1_i32_988
  let v1453 : BitVec 32 := Scalar.addi c0_i32_989 v1452
  v1453.toNat
def k0_dev54 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_993 : BitVec 32 := 9#32
  let v1456 : BitVec 32 := Scalar.addi v2 c9_i32_993
  let c16_i32_994 : BitVec 32 := 16#32
  let c0_i32_995 : BitVec 32 := 0#32
  let v1457 : BitVec 1 := Scalar.cmpi .eq c16_i32_994 c0_i32_995
  let c1_i32_996 : BitVec 32 := 1#32
  let v1458 : BitVec 32 := Scalar.select v1457 c1_i32_996 c16_i32_994
  let v1459 : BitVec 32 := Scalar.remsi v1456 v1458
  let c0_i32_998 : BitVec 32 := 0#32
  let v1461 : BitVec 1 := Scalar.cmpi .slt v1459 c0_i32_998
  let c0_i32_999 : BitVec 32 := 0#32
  let v1462 : BitVec 1 := Scalar.cmpi .slt v1458 c0_i32_999
  let v1463 : BitVec 1 := Scalar.xori v1461 v1462
  let c0_i32_997 : BitVec 32 := 0#32
  let v1460 : BitVec 1 := Scalar.cmpi .ne v1459 c0_i32_997
  let v1464 : BitVec 1 := Scalar.andi v1463 v1460
  let v1465 : BitVec 32 := Scalar.addi v1459 v1458
  let v1466 : BitVec 32 := Scalar.select v1464 v1465 v1459
  let c1_i32_1000 : BitVec 32 := 1#32
  let v1467 : BitVec 32 := Scalar.muli v1466 c1_i32_1000
  let v1468 : BitVec 32 := Scalar.addi c0_i32_1001 v1467
  v1468.toNat
def k0_dev55 (d0 : Dev nD) : Nat :=
  let c0_i32_1013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1005 : BitVec 32 := 10#32
  let v1471 : BitVec 32 := Scalar.addi v2 c10_i32_1005
  let c16_i32_1006 : BitVec 32 := 16#32
  let c0_i32_1007 : BitVec 32 := 0#32
  let v1472 : BitVec 1 := Scalar.cmpi .eq c16_i32_1006 c0_i32_1007
  let c1_i32_1008 : BitVec 32 := 1#32
  let v1473 : BitVec 32 := Scalar.select v1472 c1_i32_1008 c16_i32_1006
  let v1474 : BitVec 32 := Scalar.remsi v1471 v1473
  let c0_i32_1010 : BitVec 32 := 0#32
  let v1476 : BitVec 1 := Scalar.cmpi .slt v1474 c0_i32_1010
  let c0_i32_1011 : BitVec 32 := 0#32
  let v1477 : BitVec 1 := Scalar.cmpi .slt v1473 c0_i32_1011
  let v1478 : BitVec 1 := Scalar.xori v1476 v1477
  let c0_i32_1009 : BitVec 32 := 0#32
  let v1475 : BitVec 1 := Scalar.cmpi .ne v1474 c0_i32_1009
  let v1479 : BitVec 1 := Scalar.andi v1478 v1475
  let v1480 : BitVec 32 := Scalar.addi v1474 v1473
  let v1481 : BitVec 32 := Scalar.select v1479 v1480 v1474
  let c1_i32_1012 : BitVec 32 := 1#32
  let v1482 : BitVec 32 := Scalar.muli v1481 c1_i32_1012
  let v1483 : BitVec 32 := Scalar.addi c0_i32_1013 v1482
  v1483.toNat
def k0_dev56 (d0 : Dev nD) : Nat :=
  let c0_i32_1025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1017 : BitVec 32 := 11#32
  let v1486 : BitVec 32 := Scalar.addi v2 c11_i32_1017
  let c16_i32_1018 : BitVec 32 := 16#32
  let c0_i32_1019 : BitVec 32 := 0#32
  let v1487 : BitVec 1 := Scalar.cmpi .eq c16_i32_1018 c0_i32_1019
  let c1_i32_1020 : BitVec 32 := 1#32
  let v1488 : BitVec 32 := Scalar.select v1487 c1_i32_1020 c16_i32_1018
  let v1489 : BitVec 32 := Scalar.remsi v1486 v1488
  let c0_i32_1022 : BitVec 32 := 0#32
  let v1491 : BitVec 1 := Scalar.cmpi .slt v1489 c0_i32_1022
  let c0_i32_1023 : BitVec 32 := 0#32
  let v1492 : BitVec 1 := Scalar.cmpi .slt v1488 c0_i32_1023
  let v1493 : BitVec 1 := Scalar.xori v1491 v1492
  let c0_i32_1021 : BitVec 32 := 0#32
  let v1490 : BitVec 1 := Scalar.cmpi .ne v1489 c0_i32_1021
  let v1494 : BitVec 1 := Scalar.andi v1493 v1490
  let v1495 : BitVec 32 := Scalar.addi v1489 v1488
  let v1496 : BitVec 32 := Scalar.select v1494 v1495 v1489
  let c1_i32_1024 : BitVec 32 := 1#32
  let v1497 : BitVec 32 := Scalar.muli v1496 c1_i32_1024
  let v1498 : BitVec 32 := Scalar.addi c0_i32_1025 v1497
  v1498.toNat
def k0_dev57 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1029 : BitVec 32 := 12#32
  let v1501 : BitVec 32 := Scalar.addi v2 c12_i32_1029
  let c16_i32_1030 : BitVec 32 := 16#32
  let c0_i32_1031 : BitVec 32 := 0#32
  let v1502 : BitVec 1 := Scalar.cmpi .eq c16_i32_1030 c0_i32_1031
  let c1_i32_1032 : BitVec 32 := 1#32
  let v1503 : BitVec 32 := Scalar.select v1502 c1_i32_1032 c16_i32_1030
  let v1504 : BitVec 32 := Scalar.remsi v1501 v1503
  let c0_i32_1034 : BitVec 32 := 0#32
  let v1506 : BitVec 1 := Scalar.cmpi .slt v1504 c0_i32_1034
  let c0_i32_1035 : BitVec 32 := 0#32
  let v1507 : BitVec 1 := Scalar.cmpi .slt v1503 c0_i32_1035
  let v1508 : BitVec 1 := Scalar.xori v1506 v1507
  let c0_i32_1033 : BitVec 32 := 0#32
  let v1505 : BitVec 1 := Scalar.cmpi .ne v1504 c0_i32_1033
  let v1509 : BitVec 1 := Scalar.andi v1508 v1505
  let v1510 : BitVec 32 := Scalar.addi v1504 v1503
  let v1511 : BitVec 32 := Scalar.select v1509 v1510 v1504
  let c1_i32_1036 : BitVec 32 := 1#32
  let v1512 : BitVec 32 := Scalar.muli v1511 c1_i32_1036
  let v1513 : BitVec 32 := Scalar.addi c0_i32_1037 v1512
  v1513.toNat
def k0_dev58 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1041 : BitVec 32 := 13#32
  let v1516 : BitVec 32 := Scalar.addi v2 c13_i32_1041
  let c16_i32_1042 : BitVec 32 := 16#32
  let c0_i32_1043 : BitVec 32 := 0#32
  let v1517 : BitVec 1 := Scalar.cmpi .eq c16_i32_1042 c0_i32_1043
  let c1_i32_1044 : BitVec 32 := 1#32
  let v1518 : BitVec 32 := Scalar.select v1517 c1_i32_1044 c16_i32_1042
  let v1519 : BitVec 32 := Scalar.remsi v1516 v1518
  let c0_i32_1046 : BitVec 32 := 0#32
  let v1521 : BitVec 1 := Scalar.cmpi .slt v1519 c0_i32_1046
  let c0_i32_1047 : BitVec 32 := 0#32
  let v1522 : BitVec 1 := Scalar.cmpi .slt v1518 c0_i32_1047
  let v1523 : BitVec 1 := Scalar.xori v1521 v1522
  let c0_i32_1045 : BitVec 32 := 0#32
  let v1520 : BitVec 1 := Scalar.cmpi .ne v1519 c0_i32_1045
  let v1524 : BitVec 1 := Scalar.andi v1523 v1520
  let v1525 : BitVec 32 := Scalar.addi v1519 v1518
  let v1526 : BitVec 32 := Scalar.select v1524 v1525 v1519
  let c1_i32_1048 : BitVec 32 := 1#32
  let v1527 : BitVec 32 := Scalar.muli v1526 c1_i32_1048
  let v1528 : BitVec 32 := Scalar.addi c0_i32_1049 v1527
  v1528.toNat
def k0_dev59 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1053 : BitVec 32 := 14#32
  let v1531 : BitVec 32 := Scalar.addi v2 c14_i32_1053
  let c16_i32_1054 : BitVec 32 := 16#32
  let c0_i32_1055 : BitVec 32 := 0#32
  let v1532 : BitVec 1 := Scalar.cmpi .eq c16_i32_1054 c0_i32_1055
  let c1_i32_1056 : BitVec 32 := 1#32
  let v1533 : BitVec 32 := Scalar.select v1532 c1_i32_1056 c16_i32_1054
  let v1534 : BitVec 32 := Scalar.remsi v1531 v1533
  let c0_i32_1058 : BitVec 32 := 0#32
  let v1536 : BitVec 1 := Scalar.cmpi .slt v1534 c0_i32_1058
  let c0_i32_1059 : BitVec 32 := 0#32
  let v1537 : BitVec 1 := Scalar.cmpi .slt v1533 c0_i32_1059
  let v1538 : BitVec 1 := Scalar.xori v1536 v1537
  let c0_i32_1057 : BitVec 32 := 0#32
  let v1535 : BitVec 1 := Scalar.cmpi .ne v1534 c0_i32_1057
  let v1539 : BitVec 1 := Scalar.andi v1538 v1535
  let v1540 : BitVec 32 := Scalar.addi v1534 v1533
  let v1541 : BitVec 32 := Scalar.select v1539 v1540 v1534
  let c1_i32_1060 : BitVec 32 := 1#32
  let v1542 : BitVec 32 := Scalar.muli v1541 c1_i32_1060
  let v1543 : BitVec 32 := Scalar.addi c0_i32_1061 v1542
  v1543.toNat
def k0_dev60 (d0 : Dev nD) : Nat :=
  let c0_i32_1073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1065 : BitVec 32 := 15#32
  let v1546 : BitVec 32 := Scalar.addi v2 c15_i32_1065
  let c16_i32_1066 : BitVec 32 := 16#32
  let c0_i32_1067 : BitVec 32 := 0#32
  let v1547 : BitVec 1 := Scalar.cmpi .eq c16_i32_1066 c0_i32_1067
  let c1_i32_1068 : BitVec 32 := 1#32
  let v1548 : BitVec 32 := Scalar.select v1547 c1_i32_1068 c16_i32_1066
  let v1549 : BitVec 32 := Scalar.remsi v1546 v1548
  let c0_i32_1070 : BitVec 32 := 0#32
  let v1551 : BitVec 1 := Scalar.cmpi .slt v1549 c0_i32_1070
  let c0_i32_1071 : BitVec 32 := 0#32
  let v1552 : BitVec 1 := Scalar.cmpi .slt v1548 c0_i32_1071
  let v1553 : BitVec 1 := Scalar.xori v1551 v1552
  let c0_i32_1069 : BitVec 32 := 0#32
  let v1550 : BitVec 1 := Scalar.cmpi .ne v1549 c0_i32_1069
  let v1554 : BitVec 1 := Scalar.andi v1553 v1550
  let v1555 : BitVec 32 := Scalar.addi v1549 v1548
  let v1556 : BitVec 32 := Scalar.select v1554 v1555 v1549
  let c1_i32_1072 : BitVec 32 := 1#32
  let v1557 : BitVec 32 := Scalar.muli v1556 c1_i32_1072
  let v1558 : BitVec 32 := Scalar.addi c0_i32_1073 v1557
  v1558.toNat
def k0_dev61 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1117 : BitVec 32 := 1#32
  let v1699 : BitVec 32 := Scalar.addi v2 c1_i32_1117
  let c16_i32_1118 : BitVec 32 := 16#32
  let c0_i32_1119 : BitVec 32 := 0#32
  let v1700 : BitVec 1 := Scalar.cmpi .eq c16_i32_1118 c0_i32_1119
  let c1_i32_1120 : BitVec 32 := 1#32
  let v1701 : BitVec 32 := Scalar.select v1700 c1_i32_1120 c16_i32_1118
  let v1702 : BitVec 32 := Scalar.remsi v1699 v1701
  let c0_i32_1122 : BitVec 32 := 0#32
  let v1704 : BitVec 1 := Scalar.cmpi .slt v1702 c0_i32_1122
  let c0_i32_1123 : BitVec 32 := 0#32
  let v1705 : BitVec 1 := Scalar.cmpi .slt v1701 c0_i32_1123
  let v1706 : BitVec 1 := Scalar.xori v1704 v1705
  let c0_i32_1121 : BitVec 32 := 0#32
  let v1703 : BitVec 1 := Scalar.cmpi .ne v1702 c0_i32_1121
  let v1707 : BitVec 1 := Scalar.andi v1706 v1703
  let v1708 : BitVec 32 := Scalar.addi v1702 v1701
  let v1709 : BitVec 32 := Scalar.select v1707 v1708 v1702
  let c1_i32_1128 : BitVec 32 := 1#32
  let v1714 : BitVec 32 := Scalar.muli v1709 c1_i32_1128
  let v1715 : BitVec 32 := Scalar.addi c0_i32_1129 v1714
  v1715.toNat
def k0_dev62 (d0 : Dev nD) : Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1133 : BitVec 32 := 2#32
  let v1721 : BitVec 32 := Scalar.addi v2 c2_i32_1133
  let c16_i32_1134 : BitVec 32 := 16#32
  let c0_i32_1135 : BitVec 32 := 0#32
  let v1722 : BitVec 1 := Scalar.cmpi .eq c16_i32_1134 c0_i32_1135
  let c1_i32_1136 : BitVec 32 := 1#32
  let v1723 : BitVec 32 := Scalar.select v1722 c1_i32_1136 c16_i32_1134
  let v1724 : BitVec 32 := Scalar.remsi v1721 v1723
  let c0_i32_1138 : BitVec 32 := 0#32
  let v1726 : BitVec 1 := Scalar.cmpi .slt v1724 c0_i32_1138
  let c0_i32_1139 : BitVec 32 := 0#32
  let v1727 : BitVec 1 := Scalar.cmpi .slt v1723 c0_i32_1139
  let v1728 : BitVec 1 := Scalar.xori v1726 v1727
  let c0_i32_1137 : BitVec 32 := 0#32
  let v1725 : BitVec 1 := Scalar.cmpi .ne v1724 c0_i32_1137
  let v1729 : BitVec 1 := Scalar.andi v1728 v1725
  let v1730 : BitVec 32 := Scalar.addi v1724 v1723
  let v1731 : BitVec 32 := Scalar.select v1729 v1730 v1724
  let c1_i32_1145 : BitVec 32 := 1#32
  let v1736 : BitVec 32 := Scalar.muli v1731 c1_i32_1145
  let v1737 : BitVec 32 := Scalar.addi c0_i32_1146 v1736
  v1737.toNat
def k0_dev63 (d0 : Dev nD) : Nat :=
  let c0_i32_1163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1150 : BitVec 32 := 3#32
  let v1743 : BitVec 32 := Scalar.addi v2 c3_i32_1150
  let c16_i32_1151 : BitVec 32 := 16#32
  let c0_i32_1152 : BitVec 32 := 0#32
  let v1744 : BitVec 1 := Scalar.cmpi .eq c16_i32_1151 c0_i32_1152
  let c1_i32_1153 : BitVec 32 := 1#32
  let v1745 : BitVec 32 := Scalar.select v1744 c1_i32_1153 c16_i32_1151
  let v1746 : BitVec 32 := Scalar.remsi v1743 v1745
  let c0_i32_1155 : BitVec 32 := 0#32
  let v1748 : BitVec 1 := Scalar.cmpi .slt v1746 c0_i32_1155
  let c0_i32_1156 : BitVec 32 := 0#32
  let v1749 : BitVec 1 := Scalar.cmpi .slt v1745 c0_i32_1156
  let v1750 : BitVec 1 := Scalar.xori v1748 v1749
  let c0_i32_1154 : BitVec 32 := 0#32
  let v1747 : BitVec 1 := Scalar.cmpi .ne v1746 c0_i32_1154
  let v1751 : BitVec 1 := Scalar.andi v1750 v1747
  let v1752 : BitVec 32 := Scalar.addi v1746 v1745
  let v1753 : BitVec 32 := Scalar.select v1751 v1752 v1746
  let c1_i32_1162 : BitVec 32 := 1#32
  let v1758 : BitVec 32 := Scalar.muli v1753 c1_i32_1162
  let v1759 : BitVec 32 := Scalar.addi c0_i32_1163 v1758
  v1759.toNat
def k0_dev64 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1167 : BitVec 32 := 4#32
  let v1765 : BitVec 32 := Scalar.addi v2 c4_i32_1167
  let c16_i32_1168 : BitVec 32 := 16#32
  let c0_i32_1169 : BitVec 32 := 0#32
  let v1766 : BitVec 1 := Scalar.cmpi .eq c16_i32_1168 c0_i32_1169
  let c1_i32_1170 : BitVec 32 := 1#32
  let v1767 : BitVec 32 := Scalar.select v1766 c1_i32_1170 c16_i32_1168
  let v1768 : BitVec 32 := Scalar.remsi v1765 v1767
  let c0_i32_1172 : BitVec 32 := 0#32
  let v1770 : BitVec 1 := Scalar.cmpi .slt v1768 c0_i32_1172
  let c0_i32_1173 : BitVec 32 := 0#32
  let v1771 : BitVec 1 := Scalar.cmpi .slt v1767 c0_i32_1173
  let v1772 : BitVec 1 := Scalar.xori v1770 v1771
  let c0_i32_1171 : BitVec 32 := 0#32
  let v1769 : BitVec 1 := Scalar.cmpi .ne v1768 c0_i32_1171
  let v1773 : BitVec 1 := Scalar.andi v1772 v1769
  let v1774 : BitVec 32 := Scalar.addi v1768 v1767
  let v1775 : BitVec 32 := Scalar.select v1773 v1774 v1768
  let c1_i32_1179 : BitVec 32 := 1#32
  let v1780 : BitVec 32 := Scalar.muli v1775 c1_i32_1179
  let v1781 : BitVec 32 := Scalar.addi c0_i32_1180 v1780
  v1781.toNat
def k0_dev65 (d0 : Dev nD) : Nat :=
  let c0_i32_1197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1184 : BitVec 32 := 5#32
  let v1787 : BitVec 32 := Scalar.addi v2 c5_i32_1184
  let c16_i32_1185 : BitVec 32 := 16#32
  let c0_i32_1186 : BitVec 32 := 0#32
  let v1788 : BitVec 1 := Scalar.cmpi .eq c16_i32_1185 c0_i32_1186
  let c1_i32_1187 : BitVec 32 := 1#32
  let v1789 : BitVec 32 := Scalar.select v1788 c1_i32_1187 c16_i32_1185
  let v1790 : BitVec 32 := Scalar.remsi v1787 v1789
  let c0_i32_1189 : BitVec 32 := 0#32
  let v1792 : BitVec 1 := Scalar.cmpi .slt v1790 c0_i32_1189
  let c0_i32_1190 : BitVec 32 := 0#32
  let v1793 : BitVec 1 := Scalar.cmpi .slt v1789 c0_i32_1190
  let v1794 : BitVec 1 := Scalar.xori v1792 v1793
  let c0_i32_1188 : BitVec 32 := 0#32
  let v1791 : BitVec 1 := Scalar.cmpi .ne v1790 c0_i32_1188
  let v1795 : BitVec 1 := Scalar.andi v1794 v1791
  let v1796 : BitVec 32 := Scalar.addi v1790 v1789
  let v1797 : BitVec 32 := Scalar.select v1795 v1796 v1790
  let c1_i32_1196 : BitVec 32 := 1#32
  let v1802 : BitVec 32 := Scalar.muli v1797 c1_i32_1196
  let v1803 : BitVec 32 := Scalar.addi c0_i32_1197 v1802
  v1803.toNat
def k0_dev66 (d0 : Dev nD) : Nat :=
  let c0_i32_1214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1201 : BitVec 32 := 6#32
  let v1809 : BitVec 32 := Scalar.addi v2 c6_i32_1201
  let c16_i32_1202 : BitVec 32 := 16#32
  let c0_i32_1203 : BitVec 32 := 0#32
  let v1810 : BitVec 1 := Scalar.cmpi .eq c16_i32_1202 c0_i32_1203
  let c1_i32_1204 : BitVec 32 := 1#32
  let v1811 : BitVec 32 := Scalar.select v1810 c1_i32_1204 c16_i32_1202
  let v1812 : BitVec 32 := Scalar.remsi v1809 v1811
  let c0_i32_1206 : BitVec 32 := 0#32
  let v1814 : BitVec 1 := Scalar.cmpi .slt v1812 c0_i32_1206
  let c0_i32_1207 : BitVec 32 := 0#32
  let v1815 : BitVec 1 := Scalar.cmpi .slt v1811 c0_i32_1207
  let v1816 : BitVec 1 := Scalar.xori v1814 v1815
  let c0_i32_1205 : BitVec 32 := 0#32
  let v1813 : BitVec 1 := Scalar.cmpi .ne v1812 c0_i32_1205
  let v1817 : BitVec 1 := Scalar.andi v1816 v1813
  let v1818 : BitVec 32 := Scalar.addi v1812 v1811
  let v1819 : BitVec 32 := Scalar.select v1817 v1818 v1812
  let c1_i32_1213 : BitVec 32 := 1#32
  let v1824 : BitVec 32 := Scalar.muli v1819 c1_i32_1213
  let v1825 : BitVec 32 := Scalar.addi c0_i32_1214 v1824
  v1825.toNat
def k0_dev67 (d0 : Dev nD) : Nat :=
  let c0_i32_1231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1218 : BitVec 32 := 7#32
  let v1831 : BitVec 32 := Scalar.addi v2 c7_i32_1218
  let c16_i32_1219 : BitVec 32 := 16#32
  let c0_i32_1220 : BitVec 32 := 0#32
  let v1832 : BitVec 1 := Scalar.cmpi .eq c16_i32_1219 c0_i32_1220
  let c1_i32_1221 : BitVec 32 := 1#32
  let v1833 : BitVec 32 := Scalar.select v1832 c1_i32_1221 c16_i32_1219
  let v1834 : BitVec 32 := Scalar.remsi v1831 v1833
  let c0_i32_1223 : BitVec 32 := 0#32
  let v1836 : BitVec 1 := Scalar.cmpi .slt v1834 c0_i32_1223
  let c0_i32_1224 : BitVec 32 := 0#32
  let v1837 : BitVec 1 := Scalar.cmpi .slt v1833 c0_i32_1224
  let v1838 : BitVec 1 := Scalar.xori v1836 v1837
  let c0_i32_1222 : BitVec 32 := 0#32
  let v1835 : BitVec 1 := Scalar.cmpi .ne v1834 c0_i32_1222
  let v1839 : BitVec 1 := Scalar.andi v1838 v1835
  let v1840 : BitVec 32 := Scalar.addi v1834 v1833
  let v1841 : BitVec 32 := Scalar.select v1839 v1840 v1834
  let c1_i32_1230 : BitVec 32 := 1#32
  let v1846 : BitVec 32 := Scalar.muli v1841 c1_i32_1230
  let v1847 : BitVec 32 := Scalar.addi c0_i32_1231 v1846
  v1847.toNat
def k0_dev68 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1235 : BitVec 32 := 8#32
  let v1853 : BitVec 32 := Scalar.addi v2 c8_i32_1235
  let c16_i32_1236 : BitVec 32 := 16#32
  let c0_i32_1237 : BitVec 32 := 0#32
  let v1854 : BitVec 1 := Scalar.cmpi .eq c16_i32_1236 c0_i32_1237
  let c1_i32_1238 : BitVec 32 := 1#32
  let v1855 : BitVec 32 := Scalar.select v1854 c1_i32_1238 c16_i32_1236
  let v1856 : BitVec 32 := Scalar.remsi v1853 v1855
  let c0_i32_1240 : BitVec 32 := 0#32
  let v1858 : BitVec 1 := Scalar.cmpi .slt v1856 c0_i32_1240
  let c0_i32_1241 : BitVec 32 := 0#32
  let v1859 : BitVec 1 := Scalar.cmpi .slt v1855 c0_i32_1241
  let v1860 : BitVec 1 := Scalar.xori v1858 v1859
  let c0_i32_1239 : BitVec 32 := 0#32
  let v1857 : BitVec 1 := Scalar.cmpi .ne v1856 c0_i32_1239
  let v1861 : BitVec 1 := Scalar.andi v1860 v1857
  let v1862 : BitVec 32 := Scalar.addi v1856 v1855
  let v1863 : BitVec 32 := Scalar.select v1861 v1862 v1856
  let c1_i32_1247 : BitVec 32 := 1#32
  let v1868 : BitVec 32 := Scalar.muli v1863 c1_i32_1247
  let v1869 : BitVec 32 := Scalar.addi c0_i32_1248 v1868
  v1869.toNat
def k0_dev69 (d0 : Dev nD) : Nat :=
  let c0_i32_1265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1252 : BitVec 32 := 9#32
  let v1875 : BitVec 32 := Scalar.addi v2 c9_i32_1252
  let c16_i32_1253 : BitVec 32 := 16#32
  let c0_i32_1254 : BitVec 32 := 0#32
  let v1876 : BitVec 1 := Scalar.cmpi .eq c16_i32_1253 c0_i32_1254
  let c1_i32_1255 : BitVec 32 := 1#32
  let v1877 : BitVec 32 := Scalar.select v1876 c1_i32_1255 c16_i32_1253
  let v1878 : BitVec 32 := Scalar.remsi v1875 v1877
  let c0_i32_1257 : BitVec 32 := 0#32
  let v1880 : BitVec 1 := Scalar.cmpi .slt v1878 c0_i32_1257
  let c0_i32_1258 : BitVec 32 := 0#32
  let v1881 : BitVec 1 := Scalar.cmpi .slt v1877 c0_i32_1258
  let v1882 : BitVec 1 := Scalar.xori v1880 v1881
  let c0_i32_1256 : BitVec 32 := 0#32
  let v1879 : BitVec 1 := Scalar.cmpi .ne v1878 c0_i32_1256
  let v1883 : BitVec 1 := Scalar.andi v1882 v1879
  let v1884 : BitVec 32 := Scalar.addi v1878 v1877
  let v1885 : BitVec 32 := Scalar.select v1883 v1884 v1878
  let c1_i32_1264 : BitVec 32 := 1#32
  let v1890 : BitVec 32 := Scalar.muli v1885 c1_i32_1264
  let v1891 : BitVec 32 := Scalar.addi c0_i32_1265 v1890
  v1891.toNat
def k0_dev70 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1269 : BitVec 32 := 10#32
  let v1897 : BitVec 32 := Scalar.addi v2 c10_i32_1269
  let c16_i32_1270 : BitVec 32 := 16#32
  let c0_i32_1271 : BitVec 32 := 0#32
  let v1898 : BitVec 1 := Scalar.cmpi .eq c16_i32_1270 c0_i32_1271
  let c1_i32_1272 : BitVec 32 := 1#32
  let v1899 : BitVec 32 := Scalar.select v1898 c1_i32_1272 c16_i32_1270
  let v1900 : BitVec 32 := Scalar.remsi v1897 v1899
  let c0_i32_1274 : BitVec 32 := 0#32
  let v1902 : BitVec 1 := Scalar.cmpi .slt v1900 c0_i32_1274
  let c0_i32_1275 : BitVec 32 := 0#32
  let v1903 : BitVec 1 := Scalar.cmpi .slt v1899 c0_i32_1275
  let v1904 : BitVec 1 := Scalar.xori v1902 v1903
  let c0_i32_1273 : BitVec 32 := 0#32
  let v1901 : BitVec 1 := Scalar.cmpi .ne v1900 c0_i32_1273
  let v1905 : BitVec 1 := Scalar.andi v1904 v1901
  let v1906 : BitVec 32 := Scalar.addi v1900 v1899
  let v1907 : BitVec 32 := Scalar.select v1905 v1906 v1900
  let c1_i32_1281 : BitVec 32 := 1#32
  let v1912 : BitVec 32 := Scalar.muli v1907 c1_i32_1281
  let v1913 : BitVec 32 := Scalar.addi c0_i32_1282 v1912
  v1913.toNat
def k0_dev71 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1286 : BitVec 32 := 11#32
  let v1919 : BitVec 32 := Scalar.addi v2 c11_i32_1286
  let c16_i32_1287 : BitVec 32 := 16#32
  let c0_i32_1288 : BitVec 32 := 0#32
  let v1920 : BitVec 1 := Scalar.cmpi .eq c16_i32_1287 c0_i32_1288
  let c1_i32_1289 : BitVec 32 := 1#32
  let v1921 : BitVec 32 := Scalar.select v1920 c1_i32_1289 c16_i32_1287
  let v1922 : BitVec 32 := Scalar.remsi v1919 v1921
  let c0_i32_1291 : BitVec 32 := 0#32
  let v1924 : BitVec 1 := Scalar.cmpi .slt v1922 c0_i32_1291
  let c0_i32_1292 : BitVec 32 := 0#32
  let v1925 : BitVec 1 := Scalar.cmpi .slt v1921 c0_i32_1292
  let v1926 : BitVec 1 := Scalar.xori v1924 v1925
  let c0_i32_1290 : BitVec 32 := 0#32
  let v1923 : BitVec 1 := Scalar.cmpi .ne v1922 c0_i32_1290
  let v1927 : BitVec 1 := Scalar.andi v1926 v1923
  let v1928 : BitVec 32 := Scalar.addi v1922 v1921
  let v1929 : BitVec 32 := Scalar.select v1927 v1928 v1922
  let c1_i32_1298 : BitVec 32 := 1#32
  let v1934 : BitVec 32 := Scalar.muli v1929 c1_i32_1298
  let v1935 : BitVec 32 := Scalar.addi c0_i32_1299 v1934
  v1935.toNat
def k0_dev72 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1303 : BitVec 32 := 12#32
  let v1941 : BitVec 32 := Scalar.addi v2 c12_i32_1303
  let c16_i32_1304 : BitVec 32 := 16#32
  let c0_i32_1305 : BitVec 32 := 0#32
  let v1942 : BitVec 1 := Scalar.cmpi .eq c16_i32_1304 c0_i32_1305
  let c1_i32_1306 : BitVec 32 := 1#32
  let v1943 : BitVec 32 := Scalar.select v1942 c1_i32_1306 c16_i32_1304
  let v1944 : BitVec 32 := Scalar.remsi v1941 v1943
  let c0_i32_1308 : BitVec 32 := 0#32
  let v1946 : BitVec 1 := Scalar.cmpi .slt v1944 c0_i32_1308
  let c0_i32_1309 : BitVec 32 := 0#32
  let v1947 : BitVec 1 := Scalar.cmpi .slt v1943 c0_i32_1309
  let v1948 : BitVec 1 := Scalar.xori v1946 v1947
  let c0_i32_1307 : BitVec 32 := 0#32
  let v1945 : BitVec 1 := Scalar.cmpi .ne v1944 c0_i32_1307
  let v1949 : BitVec 1 := Scalar.andi v1948 v1945
  let v1950 : BitVec 32 := Scalar.addi v1944 v1943
  let v1951 : BitVec 32 := Scalar.select v1949 v1950 v1944
  let c1_i32_1315 : BitVec 32 := 1#32
  let v1956 : BitVec 32 := Scalar.muli v1951 c1_i32_1315
  let v1957 : BitVec 32 := Scalar.addi c0_i32_1316 v1956
  v1957.toNat
def k0_dev73 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1320 : BitVec 32 := 13#32
  let v1963 : BitVec 32 := Scalar.addi v2 c13_i32_1320
  let c16_i32_1321 : BitVec 32 := 16#32
  let c0_i32_1322 : BitVec 32 := 0#32
  let v1964 : BitVec 1 := Scalar.cmpi .eq c16_i32_1321 c0_i32_1322
  let c1_i32_1323 : BitVec 32 := 1#32
  let v1965 : BitVec 32 := Scalar.select v1964 c1_i32_1323 c16_i32_1321
  let v1966 : BitVec 32 := Scalar.remsi v1963 v1965
  let c0_i32_1325 : BitVec 32 := 0#32
  let v1968 : BitVec 1 := Scalar.cmpi .slt v1966 c0_i32_1325
  let c0_i32_1326 : BitVec 32 := 0#32
  let v1969 : BitVec 1 := Scalar.cmpi .slt v1965 c0_i32_1326
  let v1970 : BitVec 1 := Scalar.xori v1968 v1969
  let c0_i32_1324 : BitVec 32 := 0#32
  let v1967 : BitVec 1 := Scalar.cmpi .ne v1966 c0_i32_1324
  let v1971 : BitVec 1 := Scalar.andi v1970 v1967
  let v1972 : BitVec 32 := Scalar.addi v1966 v1965
  let v1973 : BitVec 32 := Scalar.select v1971 v1972 v1966
  let c1_i32_1332 : BitVec 32 := 1#32
  let v1978 : BitVec 32 := Scalar.muli v1973 c1_i32_1332
  let v1979 : BitVec 32 := Scalar.addi c0_i32_1333 v1978
  v1979.toNat
def k0_dev74 (d0 : Dev nD) : Nat :=
  let c0_i32_1350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1337 : BitVec 32 := 14#32
  let v1985 : BitVec 32 := Scalar.addi v2 c14_i32_1337
  let c16_i32_1338 : BitVec 32 := 16#32
  let c0_i32_1339 : BitVec 32 := 0#32
  let v1986 : BitVec 1 := Scalar.cmpi .eq c16_i32_1338 c0_i32_1339
  let c1_i32_1340 : BitVec 32 := 1#32
  let v1987 : BitVec 32 := Scalar.select v1986 c1_i32_1340 c16_i32_1338
  let v1988 : BitVec 32 := Scalar.remsi v1985 v1987
  let c0_i32_1342 : BitVec 32 := 0#32
  let v1990 : BitVec 1 := Scalar.cmpi .slt v1988 c0_i32_1342
  let c0_i32_1343 : BitVec 32 := 0#32
  let v1991 : BitVec 1 := Scalar.cmpi .slt v1987 c0_i32_1343
  let v1992 : BitVec 1 := Scalar.xori v1990 v1991
  let c0_i32_1341 : BitVec 32 := 0#32
  let v1989 : BitVec 1 := Scalar.cmpi .ne v1988 c0_i32_1341
  let v1993 : BitVec 1 := Scalar.andi v1992 v1989
  let v1994 : BitVec 32 := Scalar.addi v1988 v1987
  let v1995 : BitVec 32 := Scalar.select v1993 v1994 v1988
  let c1_i32_1349 : BitVec 32 := 1#32
  let v2000 : BitVec 32 := Scalar.muli v1995 c1_i32_1349
  let v2001 : BitVec 32 := Scalar.addi c0_i32_1350 v2000
  v2001.toNat
def k0_dev75 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1354 : BitVec 32 := 15#32
  let v2007 : BitVec 32 := Scalar.addi v2 c15_i32_1354
  let c16_i32_1355 : BitVec 32 := 16#32
  let c0_i32_1356 : BitVec 32 := 0#32
  let v2008 : BitVec 1 := Scalar.cmpi .eq c16_i32_1355 c0_i32_1356
  let c1_i32_1357 : BitVec 32 := 1#32
  let v2009 : BitVec 32 := Scalar.select v2008 c1_i32_1357 c16_i32_1355
  let v2010 : BitVec 32 := Scalar.remsi v2007 v2009
  let c0_i32_1359 : BitVec 32 := 0#32
  let v2012 : BitVec 1 := Scalar.cmpi .slt v2010 c0_i32_1359
  let c0_i32_1360 : BitVec 32 := 0#32
  let v2013 : BitVec 1 := Scalar.cmpi .slt v2009 c0_i32_1360
  let v2014 : BitVec 1 := Scalar.xori v2012 v2013
  let c0_i32_1358 : BitVec 32 := 0#32
  let v2011 : BitVec 1 := Scalar.cmpi .ne v2010 c0_i32_1358
  let v2015 : BitVec 1 := Scalar.andi v2014 v2011
  let v2016 : BitVec 32 := Scalar.addi v2010 v2009
  let v2017 : BitVec 32 := Scalar.select v2015 v2016 v2010
  let c1_i32_1366 : BitVec 32 := 1#32
  let v2022 : BitVec 32 := Scalar.muli v2017 c1_i32_1366
  let v2023 : BitVec 32 := Scalar.addi c0_i32_1367 v2022
  v2023.toNat
def k0_dev76 (d0 : Dev nD) : Nat :=
  let c0_i32_1528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1520 : BitVec 32 := 1#32
  let v2198 : BitVec 32 := Scalar.addi v2 c1_i32_1520
  let c16_i32_1521 : BitVec 32 := 16#32
  let c0_i32_1522 : BitVec 32 := 0#32
  let v2199 : BitVec 1 := Scalar.cmpi .eq c16_i32_1521 c0_i32_1522
  let c1_i32_1523 : BitVec 32 := 1#32
  let v2200 : BitVec 32 := Scalar.select v2199 c1_i32_1523 c16_i32_1521
  let v2201 : BitVec 32 := Scalar.remsi v2198 v2200
  let c0_i32_1525 : BitVec 32 := 0#32
  let v2203 : BitVec 1 := Scalar.cmpi .slt v2201 c0_i32_1525
  let c0_i32_1526 : BitVec 32 := 0#32
  let v2204 : BitVec 1 := Scalar.cmpi .slt v2200 c0_i32_1526
  let v2205 : BitVec 1 := Scalar.xori v2203 v2204
  let c0_i32_1524 : BitVec 32 := 0#32
  let v2202 : BitVec 1 := Scalar.cmpi .ne v2201 c0_i32_1524
  let v2206 : BitVec 1 := Scalar.andi v2205 v2202
  let v2207 : BitVec 32 := Scalar.addi v2201 v2200
  let v2208 : BitVec 32 := Scalar.select v2206 v2207 v2201
  let c1_i32_1527 : BitVec 32 := 1#32
  let v2209 : BitVec 32 := Scalar.muli v2208 c1_i32_1527
  let v2210 : BitVec 32 := Scalar.addi c0_i32_1528 v2209
  v2210.toNat
def k0_dev77 (d0 : Dev nD) : Nat :=
  let c0_i32_1540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1532 : BitVec 32 := 2#32
  let v2213 : BitVec 32 := Scalar.addi v2 c2_i32_1532
  let c16_i32_1533 : BitVec 32 := 16#32
  let c0_i32_1534 : BitVec 32 := 0#32
  let v2214 : BitVec 1 := Scalar.cmpi .eq c16_i32_1533 c0_i32_1534
  let c1_i32_1535 : BitVec 32 := 1#32
  let v2215 : BitVec 32 := Scalar.select v2214 c1_i32_1535 c16_i32_1533
  let v2216 : BitVec 32 := Scalar.remsi v2213 v2215
  let c0_i32_1537 : BitVec 32 := 0#32
  let v2218 : BitVec 1 := Scalar.cmpi .slt v2216 c0_i32_1537
  let c0_i32_1538 : BitVec 32 := 0#32
  let v2219 : BitVec 1 := Scalar.cmpi .slt v2215 c0_i32_1538
  let v2220 : BitVec 1 := Scalar.xori v2218 v2219
  let c0_i32_1536 : BitVec 32 := 0#32
  let v2217 : BitVec 1 := Scalar.cmpi .ne v2216 c0_i32_1536
  let v2221 : BitVec 1 := Scalar.andi v2220 v2217
  let v2222 : BitVec 32 := Scalar.addi v2216 v2215
  let v2223 : BitVec 32 := Scalar.select v2221 v2222 v2216
  let c1_i32_1539 : BitVec 32 := 1#32
  let v2224 : BitVec 32 := Scalar.muli v2223 c1_i32_1539
  let v2225 : BitVec 32 := Scalar.addi c0_i32_1540 v2224
  v2225.toNat
def k0_dev78 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1544 : BitVec 32 := 3#32
  let v2228 : BitVec 32 := Scalar.addi v2 c3_i32_1544
  let c16_i32_1545 : BitVec 32 := 16#32
  let c0_i32_1546 : BitVec 32 := 0#32
  let v2229 : BitVec 1 := Scalar.cmpi .eq c16_i32_1545 c0_i32_1546
  let c1_i32_1547 : BitVec 32 := 1#32
  let v2230 : BitVec 32 := Scalar.select v2229 c1_i32_1547 c16_i32_1545
  let v2231 : BitVec 32 := Scalar.remsi v2228 v2230
  let c0_i32_1549 : BitVec 32 := 0#32
  let v2233 : BitVec 1 := Scalar.cmpi .slt v2231 c0_i32_1549
  let c0_i32_1550 : BitVec 32 := 0#32
  let v2234 : BitVec 1 := Scalar.cmpi .slt v2230 c0_i32_1550
  let v2235 : BitVec 1 := Scalar.xori v2233 v2234
  let c0_i32_1548 : BitVec 32 := 0#32
  let v2232 : BitVec 1 := Scalar.cmpi .ne v2231 c0_i32_1548
  let v2236 : BitVec 1 := Scalar.andi v2235 v2232
  let v2237 : BitVec 32 := Scalar.addi v2231 v2230
  let v2238 : BitVec 32 := Scalar.select v2236 v2237 v2231
  let c1_i32_1551 : BitVec 32 := 1#32
  let v2239 : BitVec 32 := Scalar.muli v2238 c1_i32_1551
  let v2240 : BitVec 32 := Scalar.addi c0_i32_1552 v2239
  v2240.toNat
def k0_dev79 (d0 : Dev nD) : Nat :=
  let c0_i32_1564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1556 : BitVec 32 := 4#32
  let v2243 : BitVec 32 := Scalar.addi v2 c4_i32_1556
  let c16_i32_1557 : BitVec 32 := 16#32
  let c0_i32_1558 : BitVec 32 := 0#32
  let v2244 : BitVec 1 := Scalar.cmpi .eq c16_i32_1557 c0_i32_1558
  let c1_i32_1559 : BitVec 32 := 1#32
  let v2245 : BitVec 32 := Scalar.select v2244 c1_i32_1559 c16_i32_1557
  let v2246 : BitVec 32 := Scalar.remsi v2243 v2245
  let c0_i32_1561 : BitVec 32 := 0#32
  let v2248 : BitVec 1 := Scalar.cmpi .slt v2246 c0_i32_1561
  let c0_i32_1562 : BitVec 32 := 0#32
  let v2249 : BitVec 1 := Scalar.cmpi .slt v2245 c0_i32_1562
  let v2250 : BitVec 1 := Scalar.xori v2248 v2249
  let c0_i32_1560 : BitVec 32 := 0#32
  let v2247 : BitVec 1 := Scalar.cmpi .ne v2246 c0_i32_1560
  let v2251 : BitVec 1 := Scalar.andi v2250 v2247
  let v2252 : BitVec 32 := Scalar.addi v2246 v2245
  let v2253 : BitVec 32 := Scalar.select v2251 v2252 v2246
  let c1_i32_1563 : BitVec 32 := 1#32
  let v2254 : BitVec 32 := Scalar.muli v2253 c1_i32_1563
  let v2255 : BitVec 32 := Scalar.addi c0_i32_1564 v2254
  v2255.toNat
def k0_dev80 (d0 : Dev nD) : Nat :=
  let c0_i32_1576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1568 : BitVec 32 := 5#32
  let v2258 : BitVec 32 := Scalar.addi v2 c5_i32_1568
  let c16_i32_1569 : BitVec 32 := 16#32
  let c0_i32_1570 : BitVec 32 := 0#32
  let v2259 : BitVec 1 := Scalar.cmpi .eq c16_i32_1569 c0_i32_1570
  let c1_i32_1571 : BitVec 32 := 1#32
  let v2260 : BitVec 32 := Scalar.select v2259 c1_i32_1571 c16_i32_1569
  let v2261 : BitVec 32 := Scalar.remsi v2258 v2260
  let c0_i32_1573 : BitVec 32 := 0#32
  let v2263 : BitVec 1 := Scalar.cmpi .slt v2261 c0_i32_1573
  let c0_i32_1574 : BitVec 32 := 0#32
  let v2264 : BitVec 1 := Scalar.cmpi .slt v2260 c0_i32_1574
  let v2265 : BitVec 1 := Scalar.xori v2263 v2264
  let c0_i32_1572 : BitVec 32 := 0#32
  let v2262 : BitVec 1 := Scalar.cmpi .ne v2261 c0_i32_1572
  let v2266 : BitVec 1 := Scalar.andi v2265 v2262
  let v2267 : BitVec 32 := Scalar.addi v2261 v2260
  let v2268 : BitVec 32 := Scalar.select v2266 v2267 v2261
  let c1_i32_1575 : BitVec 32 := 1#32
  let v2269 : BitVec 32 := Scalar.muli v2268 c1_i32_1575
  let v2270 : BitVec 32 := Scalar.addi c0_i32_1576 v2269
  v2270.toNat
def k0_dev81 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1580 : BitVec 32 := 6#32
  let v2273 : BitVec 32 := Scalar.addi v2 c6_i32_1580
  let c16_i32_1581 : BitVec 32 := 16#32
  let c0_i32_1582 : BitVec 32 := 0#32
  let v2274 : BitVec 1 := Scalar.cmpi .eq c16_i32_1581 c0_i32_1582
  let c1_i32_1583 : BitVec 32 := 1#32
  let v2275 : BitVec 32 := Scalar.select v2274 c1_i32_1583 c16_i32_1581
  let v2276 : BitVec 32 := Scalar.remsi v2273 v2275
  let c0_i32_1585 : BitVec 32 := 0#32
  let v2278 : BitVec 1 := Scalar.cmpi .slt v2276 c0_i32_1585
  let c0_i32_1586 : BitVec 32 := 0#32
  let v2279 : BitVec 1 := Scalar.cmpi .slt v2275 c0_i32_1586
  let v2280 : BitVec 1 := Scalar.xori v2278 v2279
  let c0_i32_1584 : BitVec 32 := 0#32
  let v2277 : BitVec 1 := Scalar.cmpi .ne v2276 c0_i32_1584
  let v2281 : BitVec 1 := Scalar.andi v2280 v2277
  let v2282 : BitVec 32 := Scalar.addi v2276 v2275
  let v2283 : BitVec 32 := Scalar.select v2281 v2282 v2276
  let c1_i32_1587 : BitVec 32 := 1#32
  let v2284 : BitVec 32 := Scalar.muli v2283 c1_i32_1587
  let v2285 : BitVec 32 := Scalar.addi c0_i32_1588 v2284
  v2285.toNat
def k0_dev82 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1592 : BitVec 32 := 7#32
  let v2288 : BitVec 32 := Scalar.addi v2 c7_i32_1592
  let c16_i32_1593 : BitVec 32 := 16#32
  let c0_i32_1594 : BitVec 32 := 0#32
  let v2289 : BitVec 1 := Scalar.cmpi .eq c16_i32_1593 c0_i32_1594
  let c1_i32_1595 : BitVec 32 := 1#32
  let v2290 : BitVec 32 := Scalar.select v2289 c1_i32_1595 c16_i32_1593
  let v2291 : BitVec 32 := Scalar.remsi v2288 v2290
  let c0_i32_1597 : BitVec 32 := 0#32
  let v2293 : BitVec 1 := Scalar.cmpi .slt v2291 c0_i32_1597
  let c0_i32_1598 : BitVec 32 := 0#32
  let v2294 : BitVec 1 := Scalar.cmpi .slt v2290 c0_i32_1598
  let v2295 : BitVec 1 := Scalar.xori v2293 v2294
  let c0_i32_1596 : BitVec 32 := 0#32
  let v2292 : BitVec 1 := Scalar.cmpi .ne v2291 c0_i32_1596
  let v2296 : BitVec 1 := Scalar.andi v2295 v2292
  let v2297 : BitVec 32 := Scalar.addi v2291 v2290
  let v2298 : BitVec 32 := Scalar.select v2296 v2297 v2291
  let c1_i32_1599 : BitVec 32 := 1#32
  let v2299 : BitVec 32 := Scalar.muli v2298 c1_i32_1599
  let v2300 : BitVec 32 := Scalar.addi c0_i32_1600 v2299
  v2300.toNat
def k0_dev83 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1604 : BitVec 32 := 8#32
  let v2303 : BitVec 32 := Scalar.addi v2 c8_i32_1604
  let c16_i32_1605 : BitVec 32 := 16#32
  let c0_i32_1606 : BitVec 32 := 0#32
  let v2304 : BitVec 1 := Scalar.cmpi .eq c16_i32_1605 c0_i32_1606
  let c1_i32_1607 : BitVec 32 := 1#32
  let v2305 : BitVec 32 := Scalar.select v2304 c1_i32_1607 c16_i32_1605
  let v2306 : BitVec 32 := Scalar.remsi v2303 v2305
  let c0_i32_1609 : BitVec 32 := 0#32
  let v2308 : BitVec 1 := Scalar.cmpi .slt v2306 c0_i32_1609
  let c0_i32_1610 : BitVec 32 := 0#32
  let v2309 : BitVec 1 := Scalar.cmpi .slt v2305 c0_i32_1610
  let v2310 : BitVec 1 := Scalar.xori v2308 v2309
  let c0_i32_1608 : BitVec 32 := 0#32
  let v2307 : BitVec 1 := Scalar.cmpi .ne v2306 c0_i32_1608
  let v2311 : BitVec 1 := Scalar.andi v2310 v2307
  let v2312 : BitVec 32 := Scalar.addi v2306 v2305
  let v2313 : BitVec 32 := Scalar.select v2311 v2312 v2306
  let c1_i32_1611 : BitVec 32 := 1#32
  let v2314 : BitVec 32 := Scalar.muli v2313 c1_i32_1611
  let v2315 : BitVec 32 := Scalar.addi c0_i32_1612 v2314
  v2315.toNat
def k0_dev84 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1616 : BitVec 32 := 9#32
  let v2318 : BitVec 32 := Scalar.addi v2 c9_i32_1616
  let c16_i32_1617 : BitVec 32 := 16#32
  let c0_i32_1618 : BitVec 32 := 0#32
  let v2319 : BitVec 1 := Scalar.cmpi .eq c16_i32_1617 c0_i32_1618
  let c1_i32_1619 : BitVec 32 := 1#32
  let v2320 : BitVec 32 := Scalar.select v2319 c1_i32_1619 c16_i32_1617
  let v2321 : BitVec 32 := Scalar.remsi v2318 v2320
  let c0_i32_1621 : BitVec 32 := 0#32
  let v2323 : BitVec 1 := Scalar.cmpi .slt v2321 c0_i32_1621
  let c0_i32_1622 : BitVec 32 := 0#32
  let v2324 : BitVec 1 := Scalar.cmpi .slt v2320 c0_i32_1622
  let v2325 : BitVec 1 := Scalar.xori v2323 v2324
  let c0_i32_1620 : BitVec 32 := 0#32
  let v2322 : BitVec 1 := Scalar.cmpi .ne v2321 c0_i32_1620
  let v2326 : BitVec 1 := Scalar.andi v2325 v2322
  let v2327 : BitVec 32 := Scalar.addi v2321 v2320
  let v2328 : BitVec 32 := Scalar.select v2326 v2327 v2321
  let c1_i32_1623 : BitVec 32 := 1#32
  let v2329 : BitVec 32 := Scalar.muli v2328 c1_i32_1623
  let v2330 : BitVec 32 := Scalar.addi c0_i32_1624 v2329
  v2330.toNat
def k0_dev85 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1628 : BitVec 32 := 10#32
  let v2333 : BitVec 32 := Scalar.addi v2 c10_i32_1628
  let c16_i32_1629 : BitVec 32 := 16#32
  let c0_i32_1630 : BitVec 32 := 0#32
  let v2334 : BitVec 1 := Scalar.cmpi .eq c16_i32_1629 c0_i32_1630
  let c1_i32_1631 : BitVec 32 := 1#32
  let v2335 : BitVec 32 := Scalar.select v2334 c1_i32_1631 c16_i32_1629
  let v2336 : BitVec 32 := Scalar.remsi v2333 v2335
  let c0_i32_1633 : BitVec 32 := 0#32
  let v2338 : BitVec 1 := Scalar.cmpi .slt v2336 c0_i32_1633
  let c0_i32_1634 : BitVec 32 := 0#32
  let v2339 : BitVec 1 := Scalar.cmpi .slt v2335 c0_i32_1634
  let v2340 : BitVec 1 := Scalar.xori v2338 v2339
  let c0_i32_1632 : BitVec 32 := 0#32
  let v2337 : BitVec 1 := Scalar.cmpi .ne v2336 c0_i32_1632
  let v2341 : BitVec 1 := Scalar.andi v2340 v2337
  let v2342 : BitVec 32 := Scalar.addi v2336 v2335
  let v2343 : BitVec 32 := Scalar.select v2341 v2342 v2336
  let c1_i32_1635 : BitVec 32 := 1#32
  let v2344 : BitVec 32 := Scalar.muli v2343 c1_i32_1635
  let v2345 : BitVec 32 := Scalar.addi c0_i32_1636 v2344
  v2345.toNat
def k0_dev86 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1640 : BitVec 32 := 11#32
  let v2348 : BitVec 32 := Scalar.addi v2 c11_i32_1640
  let c16_i32_1641 : BitVec 32 := 16#32
  let c0_i32_1642 : BitVec 32 := 0#32
  let v2349 : BitVec 1 := Scalar.cmpi .eq c16_i32_1641 c0_i32_1642
  let c1_i32_1643 : BitVec 32 := 1#32
  let v2350 : BitVec 32 := Scalar.select v2349 c1_i32_1643 c16_i32_1641
  let v2351 : BitVec 32 := Scalar.remsi v2348 v2350
  let c0_i32_1645 : BitVec 32 := 0#32
  let v2353 : BitVec 1 := Scalar.cmpi .slt v2351 c0_i32_1645
  let c0_i32_1646 : BitVec 32 := 0#32
  let v2354 : BitVec 1 := Scalar.cmpi .slt v2350 c0_i32_1646
  let v2355 : BitVec 1 := Scalar.xori v2353 v2354
  let c0_i32_1644 : BitVec 32 := 0#32
  let v2352 : BitVec 1 := Scalar.cmpi .ne v2351 c0_i32_1644
  let v2356 : BitVec 1 := Scalar.andi v2355 v2352
  let v2357 : BitVec 32 := Scalar.addi v2351 v2350
  let v2358 : BitVec 32 := Scalar.select v2356 v2357 v2351
  let c1_i32_1647 : BitVec 32 := 1#32
  let v2359 : BitVec 32 := Scalar.muli v2358 c1_i32_1647
  let v2360 : BitVec 32 := Scalar.addi c0_i32_1648 v2359
  v2360.toNat
def k0_dev87 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1652 : BitVec 32 := 12#32
  let v2363 : BitVec 32 := Scalar.addi v2 c12_i32_1652
  let c16_i32_1653 : BitVec 32 := 16#32
  let c0_i32_1654 : BitVec 32 := 0#32
  let v2364 : BitVec 1 := Scalar.cmpi .eq c16_i32_1653 c0_i32_1654
  let c1_i32_1655 : BitVec 32 := 1#32
  let v2365 : BitVec 32 := Scalar.select v2364 c1_i32_1655 c16_i32_1653
  let v2366 : BitVec 32 := Scalar.remsi v2363 v2365
  let c0_i32_1657 : BitVec 32 := 0#32
  let v2368 : BitVec 1 := Scalar.cmpi .slt v2366 c0_i32_1657
  let c0_i32_1658 : BitVec 32 := 0#32
  let v2369 : BitVec 1 := Scalar.cmpi .slt v2365 c0_i32_1658
  let v2370 : BitVec 1 := Scalar.xori v2368 v2369
  let c0_i32_1656 : BitVec 32 := 0#32
  let v2367 : BitVec 1 := Scalar.cmpi .ne v2366 c0_i32_1656
  let v2371 : BitVec 1 := Scalar.andi v2370 v2367
  let v2372 : BitVec 32 := Scalar.addi v2366 v2365
  let v2373 : BitVec 32 := Scalar.select v2371 v2372 v2366
  let c1_i32_1659 : BitVec 32 := 1#32
  let v2374 : BitVec 32 := Scalar.muli v2373 c1_i32_1659
  let v2375 : BitVec 32 := Scalar.addi c0_i32_1660 v2374
  v2375.toNat
def k0_dev88 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1664 : BitVec 32 := 13#32
  let v2378 : BitVec 32 := Scalar.addi v2 c13_i32_1664
  let c16_i32_1665 : BitVec 32 := 16#32
  let c0_i32_1666 : BitVec 32 := 0#32
  let v2379 : BitVec 1 := Scalar.cmpi .eq c16_i32_1665 c0_i32_1666
  let c1_i32_1667 : BitVec 32 := 1#32
  let v2380 : BitVec 32 := Scalar.select v2379 c1_i32_1667 c16_i32_1665
  let v2381 : BitVec 32 := Scalar.remsi v2378 v2380
  let c0_i32_1669 : BitVec 32 := 0#32
  let v2383 : BitVec 1 := Scalar.cmpi .slt v2381 c0_i32_1669
  let c0_i32_1670 : BitVec 32 := 0#32
  let v2384 : BitVec 1 := Scalar.cmpi .slt v2380 c0_i32_1670
  let v2385 : BitVec 1 := Scalar.xori v2383 v2384
  let c0_i32_1668 : BitVec 32 := 0#32
  let v2382 : BitVec 1 := Scalar.cmpi .ne v2381 c0_i32_1668
  let v2386 : BitVec 1 := Scalar.andi v2385 v2382
  let v2387 : BitVec 32 := Scalar.addi v2381 v2380
  let v2388 : BitVec 32 := Scalar.select v2386 v2387 v2381
  let c1_i32_1671 : BitVec 32 := 1#32
  let v2389 : BitVec 32 := Scalar.muli v2388 c1_i32_1671
  let v2390 : BitVec 32 := Scalar.addi c0_i32_1672 v2389
  v2390.toNat
def k0_dev89 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1676 : BitVec 32 := 14#32
  let v2393 : BitVec 32 := Scalar.addi v2 c14_i32_1676
  let c16_i32_1677 : BitVec 32 := 16#32
  let c0_i32_1678 : BitVec 32 := 0#32
  let v2394 : BitVec 1 := Scalar.cmpi .eq c16_i32_1677 c0_i32_1678
  let c1_i32_1679 : BitVec 32 := 1#32
  let v2395 : BitVec 32 := Scalar.select v2394 c1_i32_1679 c16_i32_1677
  let v2396 : BitVec 32 := Scalar.remsi v2393 v2395
  let c0_i32_1681 : BitVec 32 := 0#32
  let v2398 : BitVec 1 := Scalar.cmpi .slt v2396 c0_i32_1681
  let c0_i32_1682 : BitVec 32 := 0#32
  let v2399 : BitVec 1 := Scalar.cmpi .slt v2395 c0_i32_1682
  let v2400 : BitVec 1 := Scalar.xori v2398 v2399
  let c0_i32_1680 : BitVec 32 := 0#32
  let v2397 : BitVec 1 := Scalar.cmpi .ne v2396 c0_i32_1680
  let v2401 : BitVec 1 := Scalar.andi v2400 v2397
  let v2402 : BitVec 32 := Scalar.addi v2396 v2395
  let v2403 : BitVec 32 := Scalar.select v2401 v2402 v2396
  let c1_i32_1683 : BitVec 32 := 1#32
  let v2404 : BitVec 32 := Scalar.muli v2403 c1_i32_1683
  let v2405 : BitVec 32 := Scalar.addi c0_i32_1684 v2404
  v2405.toNat
def k0_dev90 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1688 : BitVec 32 := 15#32
  let v2408 : BitVec 32 := Scalar.addi v2 c15_i32_1688
  let c16_i32_1689 : BitVec 32 := 16#32
  let c0_i32_1690 : BitVec 32 := 0#32
  let v2409 : BitVec 1 := Scalar.cmpi .eq c16_i32_1689 c0_i32_1690
  let c1_i32_1691 : BitVec 32 := 1#32
  let v2410 : BitVec 32 := Scalar.select v2409 c1_i32_1691 c16_i32_1689
  let v2411 : BitVec 32 := Scalar.remsi v2408 v2410
  let c0_i32_1693 : BitVec 32 := 0#32
  let v2413 : BitVec 1 := Scalar.cmpi .slt v2411 c0_i32_1693
  let c0_i32_1694 : BitVec 32 := 0#32
  let v2414 : BitVec 1 := Scalar.cmpi .slt v2410 c0_i32_1694
  let v2415 : BitVec 1 := Scalar.xori v2413 v2414
  let c0_i32_1692 : BitVec 32 := 0#32
  let v2412 : BitVec 1 := Scalar.cmpi .ne v2411 c0_i32_1692
  let v2416 : BitVec 1 := Scalar.andi v2415 v2412
  let v2417 : BitVec 32 := Scalar.addi v2411 v2410
  let v2418 : BitVec 32 := Scalar.select v2416 v2417 v2411
  let c1_i32_1695 : BitVec 32 := 1#32
  let v2419 : BitVec 32 := Scalar.muli v2418 c1_i32_1695
  let v2420 : BitVec 32 := Scalar.addi c0_i32_1696 v2419
  v2420.toNat
def k0_dev91 (d0 : Dev nD) : Nat :=
  let c0_i32_1752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1740 : BitVec 32 := 1#32
  let v2561 : BitVec 32 := Scalar.addi v2 c1_i32_1740
  let c16_i32_1741 : BitVec 32 := 16#32
  let c0_i32_1742 : BitVec 32 := 0#32
  let v2562 : BitVec 1 := Scalar.cmpi .eq c16_i32_1741 c0_i32_1742
  let c1_i32_1743 : BitVec 32 := 1#32
  let v2563 : BitVec 32 := Scalar.select v2562 c1_i32_1743 c16_i32_1741
  let v2564 : BitVec 32 := Scalar.remsi v2561 v2563
  let c0_i32_1745 : BitVec 32 := 0#32
  let v2566 : BitVec 1 := Scalar.cmpi .slt v2564 c0_i32_1745
  let c0_i32_1746 : BitVec 32 := 0#32
  let v2567 : BitVec 1 := Scalar.cmpi .slt v2563 c0_i32_1746
  let v2568 : BitVec 1 := Scalar.xori v2566 v2567
  let c0_i32_1744 : BitVec 32 := 0#32
  let v2565 : BitVec 1 := Scalar.cmpi .ne v2564 c0_i32_1744
  let v2569 : BitVec 1 := Scalar.andi v2568 v2565
  let v2570 : BitVec 32 := Scalar.addi v2564 v2563
  let v2571 : BitVec 32 := Scalar.select v2569 v2570 v2564
  let c1_i32_1751 : BitVec 32 := 1#32
  let v2576 : BitVec 32 := Scalar.muli v2571 c1_i32_1751
  let v2577 : BitVec 32 := Scalar.addi c0_i32_1752 v2576
  v2577.toNat
def k0_dev92 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1756 : BitVec 32 := 2#32
  let v2583 : BitVec 32 := Scalar.addi v2 c2_i32_1756
  let c16_i32_1757 : BitVec 32 := 16#32
  let c0_i32_1758 : BitVec 32 := 0#32
  let v2584 : BitVec 1 := Scalar.cmpi .eq c16_i32_1757 c0_i32_1758
  let c1_i32_1759 : BitVec 32 := 1#32
  let v2585 : BitVec 32 := Scalar.select v2584 c1_i32_1759 c16_i32_1757
  let v2586 : BitVec 32 := Scalar.remsi v2583 v2585
  let c0_i32_1761 : BitVec 32 := 0#32
  let v2588 : BitVec 1 := Scalar.cmpi .slt v2586 c0_i32_1761
  let c0_i32_1762 : BitVec 32 := 0#32
  let v2589 : BitVec 1 := Scalar.cmpi .slt v2585 c0_i32_1762
  let v2590 : BitVec 1 := Scalar.xori v2588 v2589
  let c0_i32_1760 : BitVec 32 := 0#32
  let v2587 : BitVec 1 := Scalar.cmpi .ne v2586 c0_i32_1760
  let v2591 : BitVec 1 := Scalar.andi v2590 v2587
  let v2592 : BitVec 32 := Scalar.addi v2586 v2585
  let v2593 : BitVec 32 := Scalar.select v2591 v2592 v2586
  let c1_i32_1768 : BitVec 32 := 1#32
  let v2598 : BitVec 32 := Scalar.muli v2593 c1_i32_1768
  let v2599 : BitVec 32 := Scalar.addi c0_i32_1769 v2598
  v2599.toNat
def k0_dev93 (d0 : Dev nD) : Nat :=
  let c0_i32_1786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1773 : BitVec 32 := 3#32
  let v2605 : BitVec 32 := Scalar.addi v2 c3_i32_1773
  let c16_i32_1774 : BitVec 32 := 16#32
  let c0_i32_1775 : BitVec 32 := 0#32
  let v2606 : BitVec 1 := Scalar.cmpi .eq c16_i32_1774 c0_i32_1775
  let c1_i32_1776 : BitVec 32 := 1#32
  let v2607 : BitVec 32 := Scalar.select v2606 c1_i32_1776 c16_i32_1774
  let v2608 : BitVec 32 := Scalar.remsi v2605 v2607
  let c0_i32_1778 : BitVec 32 := 0#32
  let v2610 : BitVec 1 := Scalar.cmpi .slt v2608 c0_i32_1778
  let c0_i32_1779 : BitVec 32 := 0#32
  let v2611 : BitVec 1 := Scalar.cmpi .slt v2607 c0_i32_1779
  let v2612 : BitVec 1 := Scalar.xori v2610 v2611
  let c0_i32_1777 : BitVec 32 := 0#32
  let v2609 : BitVec 1 := Scalar.cmpi .ne v2608 c0_i32_1777
  let v2613 : BitVec 1 := Scalar.andi v2612 v2609
  let v2614 : BitVec 32 := Scalar.addi v2608 v2607
  let v2615 : BitVec 32 := Scalar.select v2613 v2614 v2608
  let c1_i32_1785 : BitVec 32 := 1#32
  let v2620 : BitVec 32 := Scalar.muli v2615 c1_i32_1785
  let v2621 : BitVec 32 := Scalar.addi c0_i32_1786 v2620
  v2621.toNat
def k0_dev94 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1790 : BitVec 32 := 4#32
  let v2627 : BitVec 32 := Scalar.addi v2 c4_i32_1790
  let c16_i32_1791 : BitVec 32 := 16#32
  let c0_i32_1792 : BitVec 32 := 0#32
  let v2628 : BitVec 1 := Scalar.cmpi .eq c16_i32_1791 c0_i32_1792
  let c1_i32_1793 : BitVec 32 := 1#32
  let v2629 : BitVec 32 := Scalar.select v2628 c1_i32_1793 c16_i32_1791
  let v2630 : BitVec 32 := Scalar.remsi v2627 v2629
  let c0_i32_1795 : BitVec 32 := 0#32
  let v2632 : BitVec 1 := Scalar.cmpi .slt v2630 c0_i32_1795
  let c0_i32_1796 : BitVec 32 := 0#32
  let v2633 : BitVec 1 := Scalar.cmpi .slt v2629 c0_i32_1796
  let v2634 : BitVec 1 := Scalar.xori v2632 v2633
  let c0_i32_1794 : BitVec 32 := 0#32
  let v2631 : BitVec 1 := Scalar.cmpi .ne v2630 c0_i32_1794
  let v2635 : BitVec 1 := Scalar.andi v2634 v2631
  let v2636 : BitVec 32 := Scalar.addi v2630 v2629
  let v2637 : BitVec 32 := Scalar.select v2635 v2636 v2630
  let c1_i32_1802 : BitVec 32 := 1#32
  let v2642 : BitVec 32 := Scalar.muli v2637 c1_i32_1802
  let v2643 : BitVec 32 := Scalar.addi c0_i32_1803 v2642
  v2643.toNat
def k0_dev95 (d0 : Dev nD) : Nat :=
  let c0_i32_1820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1807 : BitVec 32 := 5#32
  let v2649 : BitVec 32 := Scalar.addi v2 c5_i32_1807
  let c16_i32_1808 : BitVec 32 := 16#32
  let c0_i32_1809 : BitVec 32 := 0#32
  let v2650 : BitVec 1 := Scalar.cmpi .eq c16_i32_1808 c0_i32_1809
  let c1_i32_1810 : BitVec 32 := 1#32
  let v2651 : BitVec 32 := Scalar.select v2650 c1_i32_1810 c16_i32_1808
  let v2652 : BitVec 32 := Scalar.remsi v2649 v2651
  let c0_i32_1812 : BitVec 32 := 0#32
  let v2654 : BitVec 1 := Scalar.cmpi .slt v2652 c0_i32_1812
  let c0_i32_1813 : BitVec 32 := 0#32
  let v2655 : BitVec 1 := Scalar.cmpi .slt v2651 c0_i32_1813
  let v2656 : BitVec 1 := Scalar.xori v2654 v2655
  let c0_i32_1811 : BitVec 32 := 0#32
  let v2653 : BitVec 1 := Scalar.cmpi .ne v2652 c0_i32_1811
  let v2657 : BitVec 1 := Scalar.andi v2656 v2653
  let v2658 : BitVec 32 := Scalar.addi v2652 v2651
  let v2659 : BitVec 32 := Scalar.select v2657 v2658 v2652
  let c1_i32_1819 : BitVec 32 := 1#32
  let v2664 : BitVec 32 := Scalar.muli v2659 c1_i32_1819
  let v2665 : BitVec 32 := Scalar.addi c0_i32_1820 v2664
  v2665.toNat
def k0_dev96 (d0 : Dev nD) : Nat :=
  let c0_i32_1837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1824 : BitVec 32 := 6#32
  let v2671 : BitVec 32 := Scalar.addi v2 c6_i32_1824
  let c16_i32_1825 : BitVec 32 := 16#32
  let c0_i32_1826 : BitVec 32 := 0#32
  let v2672 : BitVec 1 := Scalar.cmpi .eq c16_i32_1825 c0_i32_1826
  let c1_i32_1827 : BitVec 32 := 1#32
  let v2673 : BitVec 32 := Scalar.select v2672 c1_i32_1827 c16_i32_1825
  let v2674 : BitVec 32 := Scalar.remsi v2671 v2673
  let c0_i32_1829 : BitVec 32 := 0#32
  let v2676 : BitVec 1 := Scalar.cmpi .slt v2674 c0_i32_1829
  let c0_i32_1830 : BitVec 32 := 0#32
  let v2677 : BitVec 1 := Scalar.cmpi .slt v2673 c0_i32_1830
  let v2678 : BitVec 1 := Scalar.xori v2676 v2677
  let c0_i32_1828 : BitVec 32 := 0#32
  let v2675 : BitVec 1 := Scalar.cmpi .ne v2674 c0_i32_1828
  let v2679 : BitVec 1 := Scalar.andi v2678 v2675
  let v2680 : BitVec 32 := Scalar.addi v2674 v2673
  let v2681 : BitVec 32 := Scalar.select v2679 v2680 v2674
  let c1_i32_1836 : BitVec 32 := 1#32
  let v2686 : BitVec 32 := Scalar.muli v2681 c1_i32_1836
  let v2687 : BitVec 32 := Scalar.addi c0_i32_1837 v2686
  v2687.toNat
def k0_dev97 (d0 : Dev nD) : Nat :=
  let c0_i32_1854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1841 : BitVec 32 := 7#32
  let v2693 : BitVec 32 := Scalar.addi v2 c7_i32_1841
  let c16_i32_1842 : BitVec 32 := 16#32
  let c0_i32_1843 : BitVec 32 := 0#32
  let v2694 : BitVec 1 := Scalar.cmpi .eq c16_i32_1842 c0_i32_1843
  let c1_i32_1844 : BitVec 32 := 1#32
  let v2695 : BitVec 32 := Scalar.select v2694 c1_i32_1844 c16_i32_1842
  let v2696 : BitVec 32 := Scalar.remsi v2693 v2695
  let c0_i32_1846 : BitVec 32 := 0#32
  let v2698 : BitVec 1 := Scalar.cmpi .slt v2696 c0_i32_1846
  let c0_i32_1847 : BitVec 32 := 0#32
  let v2699 : BitVec 1 := Scalar.cmpi .slt v2695 c0_i32_1847
  let v2700 : BitVec 1 := Scalar.xori v2698 v2699
  let c0_i32_1845 : BitVec 32 := 0#32
  let v2697 : BitVec 1 := Scalar.cmpi .ne v2696 c0_i32_1845
  let v2701 : BitVec 1 := Scalar.andi v2700 v2697
  let v2702 : BitVec 32 := Scalar.addi v2696 v2695
  let v2703 : BitVec 32 := Scalar.select v2701 v2702 v2696
  let c1_i32_1853 : BitVec 32 := 1#32
  let v2708 : BitVec 32 := Scalar.muli v2703 c1_i32_1853
  let v2709 : BitVec 32 := Scalar.addi c0_i32_1854 v2708
  v2709.toNat
def k0_dev98 (d0 : Dev nD) : Nat :=
  let c0_i32_1871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1858 : BitVec 32 := 8#32
  let v2715 : BitVec 32 := Scalar.addi v2 c8_i32_1858
  let c16_i32_1859 : BitVec 32 := 16#32
  let c0_i32_1860 : BitVec 32 := 0#32
  let v2716 : BitVec 1 := Scalar.cmpi .eq c16_i32_1859 c0_i32_1860
  let c1_i32_1861 : BitVec 32 := 1#32
  let v2717 : BitVec 32 := Scalar.select v2716 c1_i32_1861 c16_i32_1859
  let v2718 : BitVec 32 := Scalar.remsi v2715 v2717
  let c0_i32_1863 : BitVec 32 := 0#32
  let v2720 : BitVec 1 := Scalar.cmpi .slt v2718 c0_i32_1863
  let c0_i32_1864 : BitVec 32 := 0#32
  let v2721 : BitVec 1 := Scalar.cmpi .slt v2717 c0_i32_1864
  let v2722 : BitVec 1 := Scalar.xori v2720 v2721
  let c0_i32_1862 : BitVec 32 := 0#32
  let v2719 : BitVec 1 := Scalar.cmpi .ne v2718 c0_i32_1862
  let v2723 : BitVec 1 := Scalar.andi v2722 v2719
  let v2724 : BitVec 32 := Scalar.addi v2718 v2717
  let v2725 : BitVec 32 := Scalar.select v2723 v2724 v2718
  let c1_i32_1870 : BitVec 32 := 1#32
  let v2730 : BitVec 32 := Scalar.muli v2725 c1_i32_1870
  let v2731 : BitVec 32 := Scalar.addi c0_i32_1871 v2730
  v2731.toNat
def k0_dev99 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1875 : BitVec 32 := 9#32
  let v2737 : BitVec 32 := Scalar.addi v2 c9_i32_1875
  let c16_i32_1876 : BitVec 32 := 16#32
  let c0_i32_1877 : BitVec 32 := 0#32
  let v2738 : BitVec 1 := Scalar.cmpi .eq c16_i32_1876 c0_i32_1877
  let c1_i32_1878 : BitVec 32 := 1#32
  let v2739 : BitVec 32 := Scalar.select v2738 c1_i32_1878 c16_i32_1876
  let v2740 : BitVec 32 := Scalar.remsi v2737 v2739
  let c0_i32_1880 : BitVec 32 := 0#32
  let v2742 : BitVec 1 := Scalar.cmpi .slt v2740 c0_i32_1880
  let c0_i32_1881 : BitVec 32 := 0#32
  let v2743 : BitVec 1 := Scalar.cmpi .slt v2739 c0_i32_1881
  let v2744 : BitVec 1 := Scalar.xori v2742 v2743
  let c0_i32_1879 : BitVec 32 := 0#32
  let v2741 : BitVec 1 := Scalar.cmpi .ne v2740 c0_i32_1879
  let v2745 : BitVec 1 := Scalar.andi v2744 v2741
  let v2746 : BitVec 32 := Scalar.addi v2740 v2739
  let v2747 : BitVec 32 := Scalar.select v2745 v2746 v2740
  let c1_i32_1887 : BitVec 32 := 1#32
  let v2752 : BitVec 32 := Scalar.muli v2747 c1_i32_1887
  let v2753 : BitVec 32 := Scalar.addi c0_i32_1888 v2752
  v2753.toNat
def k0_dev100 (d0 : Dev nD) : Nat :=
  let c0_i32_1905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1892 : BitVec 32 := 10#32
  let v2759 : BitVec 32 := Scalar.addi v2 c10_i32_1892
  let c16_i32_1893 : BitVec 32 := 16#32
  let c0_i32_1894 : BitVec 32 := 0#32
  let v2760 : BitVec 1 := Scalar.cmpi .eq c16_i32_1893 c0_i32_1894
  let c1_i32_1895 : BitVec 32 := 1#32
  let v2761 : BitVec 32 := Scalar.select v2760 c1_i32_1895 c16_i32_1893
  let v2762 : BitVec 32 := Scalar.remsi v2759 v2761
  let c0_i32_1897 : BitVec 32 := 0#32
  let v2764 : BitVec 1 := Scalar.cmpi .slt v2762 c0_i32_1897
  let c0_i32_1898 : BitVec 32 := 0#32
  let v2765 : BitVec 1 := Scalar.cmpi .slt v2761 c0_i32_1898
  let v2766 : BitVec 1 := Scalar.xori v2764 v2765
  let c0_i32_1896 : BitVec 32 := 0#32
  let v2763 : BitVec 1 := Scalar.cmpi .ne v2762 c0_i32_1896
  let v2767 : BitVec 1 := Scalar.andi v2766 v2763
  let v2768 : BitVec 32 := Scalar.addi v2762 v2761
  let v2769 : BitVec 32 := Scalar.select v2767 v2768 v2762
  let c1_i32_1904 : BitVec 32 := 1#32
  let v2774 : BitVec 32 := Scalar.muli v2769 c1_i32_1904
  let v2775 : BitVec 32 := Scalar.addi c0_i32_1905 v2774
  v2775.toNat
def k0_dev101 (d0 : Dev nD) : Nat :=
  let c0_i32_1922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1909 : BitVec 32 := 11#32
  let v2781 : BitVec 32 := Scalar.addi v2 c11_i32_1909
  let c16_i32_1910 : BitVec 32 := 16#32
  let c0_i32_1911 : BitVec 32 := 0#32
  let v2782 : BitVec 1 := Scalar.cmpi .eq c16_i32_1910 c0_i32_1911
  let c1_i32_1912 : BitVec 32 := 1#32
  let v2783 : BitVec 32 := Scalar.select v2782 c1_i32_1912 c16_i32_1910
  let v2784 : BitVec 32 := Scalar.remsi v2781 v2783
  let c0_i32_1914 : BitVec 32 := 0#32
  let v2786 : BitVec 1 := Scalar.cmpi .slt v2784 c0_i32_1914
  let c0_i32_1915 : BitVec 32 := 0#32
  let v2787 : BitVec 1 := Scalar.cmpi .slt v2783 c0_i32_1915
  let v2788 : BitVec 1 := Scalar.xori v2786 v2787
  let c0_i32_1913 : BitVec 32 := 0#32
  let v2785 : BitVec 1 := Scalar.cmpi .ne v2784 c0_i32_1913
  let v2789 : BitVec 1 := Scalar.andi v2788 v2785
  let v2790 : BitVec 32 := Scalar.addi v2784 v2783
  let v2791 : BitVec 32 := Scalar.select v2789 v2790 v2784
  let c1_i32_1921 : BitVec 32 := 1#32
  let v2796 : BitVec 32 := Scalar.muli v2791 c1_i32_1921
  let v2797 : BitVec 32 := Scalar.addi c0_i32_1922 v2796
  v2797.toNat
def k0_dev102 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1926 : BitVec 32 := 12#32
  let v2803 : BitVec 32 := Scalar.addi v2 c12_i32_1926
  let c16_i32_1927 : BitVec 32 := 16#32
  let c0_i32_1928 : BitVec 32 := 0#32
  let v2804 : BitVec 1 := Scalar.cmpi .eq c16_i32_1927 c0_i32_1928
  let c1_i32_1929 : BitVec 32 := 1#32
  let v2805 : BitVec 32 := Scalar.select v2804 c1_i32_1929 c16_i32_1927
  let v2806 : BitVec 32 := Scalar.remsi v2803 v2805
  let c0_i32_1931 : BitVec 32 := 0#32
  let v2808 : BitVec 1 := Scalar.cmpi .slt v2806 c0_i32_1931
  let c0_i32_1932 : BitVec 32 := 0#32
  let v2809 : BitVec 1 := Scalar.cmpi .slt v2805 c0_i32_1932
  let v2810 : BitVec 1 := Scalar.xori v2808 v2809
  let c0_i32_1930 : BitVec 32 := 0#32
  let v2807 : BitVec 1 := Scalar.cmpi .ne v2806 c0_i32_1930
  let v2811 : BitVec 1 := Scalar.andi v2810 v2807
  let v2812 : BitVec 32 := Scalar.addi v2806 v2805
  let v2813 : BitVec 32 := Scalar.select v2811 v2812 v2806
  let c1_i32_1938 : BitVec 32 := 1#32
  let v2818 : BitVec 32 := Scalar.muli v2813 c1_i32_1938
  let v2819 : BitVec 32 := Scalar.addi c0_i32_1939 v2818
  v2819.toNat
def k0_dev103 (d0 : Dev nD) : Nat :=
  let c0_i32_1956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1943 : BitVec 32 := 13#32
  let v2825 : BitVec 32 := Scalar.addi v2 c13_i32_1943
  let c16_i32_1944 : BitVec 32 := 16#32
  let c0_i32_1945 : BitVec 32 := 0#32
  let v2826 : BitVec 1 := Scalar.cmpi .eq c16_i32_1944 c0_i32_1945
  let c1_i32_1946 : BitVec 32 := 1#32
  let v2827 : BitVec 32 := Scalar.select v2826 c1_i32_1946 c16_i32_1944
  let v2828 : BitVec 32 := Scalar.remsi v2825 v2827
  let c0_i32_1948 : BitVec 32 := 0#32
  let v2830 : BitVec 1 := Scalar.cmpi .slt v2828 c0_i32_1948
  let c0_i32_1949 : BitVec 32 := 0#32
  let v2831 : BitVec 1 := Scalar.cmpi .slt v2827 c0_i32_1949
  let v2832 : BitVec 1 := Scalar.xori v2830 v2831
  let c0_i32_1947 : BitVec 32 := 0#32
  let v2829 : BitVec 1 := Scalar.cmpi .ne v2828 c0_i32_1947
  let v2833 : BitVec 1 := Scalar.andi v2832 v2829
  let v2834 : BitVec 32 := Scalar.addi v2828 v2827
  let v2835 : BitVec 32 := Scalar.select v2833 v2834 v2828
  let c1_i32_1955 : BitVec 32 := 1#32
  let v2840 : BitVec 32 := Scalar.muli v2835 c1_i32_1955
  let v2841 : BitVec 32 := Scalar.addi c0_i32_1956 v2840
  v2841.toNat
def k0_dev104 (d0 : Dev nD) : Nat :=
  let c0_i32_1973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1960 : BitVec 32 := 14#32
  let v2847 : BitVec 32 := Scalar.addi v2 c14_i32_1960
  let c16_i32_1961 : BitVec 32 := 16#32
  let c0_i32_1962 : BitVec 32 := 0#32
  let v2848 : BitVec 1 := Scalar.cmpi .eq c16_i32_1961 c0_i32_1962
  let c1_i32_1963 : BitVec 32 := 1#32
  let v2849 : BitVec 32 := Scalar.select v2848 c1_i32_1963 c16_i32_1961
  let v2850 : BitVec 32 := Scalar.remsi v2847 v2849
  let c0_i32_1965 : BitVec 32 := 0#32
  let v2852 : BitVec 1 := Scalar.cmpi .slt v2850 c0_i32_1965
  let c0_i32_1966 : BitVec 32 := 0#32
  let v2853 : BitVec 1 := Scalar.cmpi .slt v2849 c0_i32_1966
  let v2854 : BitVec 1 := Scalar.xori v2852 v2853
  let c0_i32_1964 : BitVec 32 := 0#32
  let v2851 : BitVec 1 := Scalar.cmpi .ne v2850 c0_i32_1964
  let v2855 : BitVec 1 := Scalar.andi v2854 v2851
  let v2856 : BitVec 32 := Scalar.addi v2850 v2849
  let v2857 : BitVec 32 := Scalar.select v2855 v2856 v2850
  let c1_i32_1972 : BitVec 32 := 1#32
  let v2862 : BitVec 32 := Scalar.muli v2857 c1_i32_1972
  let v2863 : BitVec 32 := Scalar.addi c0_i32_1973 v2862
  v2863.toNat
def k0_dev105 (d0 : Dev nD) : Nat :=
  let c0_i32_1990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1977 : BitVec 32 := 15#32
  let v2869 : BitVec 32 := Scalar.addi v2 c15_i32_1977
  let c16_i32_1978 : BitVec 32 := 16#32
  let c0_i32_1979 : BitVec 32 := 0#32
  let v2870 : BitVec 1 := Scalar.cmpi .eq c16_i32_1978 c0_i32_1979
  let c1_i32_1980 : BitVec 32 := 1#32
  let v2871 : BitVec 32 := Scalar.select v2870 c1_i32_1980 c16_i32_1978
  let v2872 : BitVec 32 := Scalar.remsi v2869 v2871
  let c0_i32_1982 : BitVec 32 := 0#32
  let v2874 : BitVec 1 := Scalar.cmpi .slt v2872 c0_i32_1982
  let c0_i32_1983 : BitVec 32 := 0#32
  let v2875 : BitVec 1 := Scalar.cmpi .slt v2871 c0_i32_1983
  let v2876 : BitVec 1 := Scalar.xori v2874 v2875
  let c0_i32_1981 : BitVec 32 := 0#32
  let v2873 : BitVec 1 := Scalar.cmpi .ne v2872 c0_i32_1981
  let v2877 : BitVec 1 := Scalar.andi v2876 v2873
  let v2878 : BitVec 32 := Scalar.addi v2872 v2871
  let v2879 : BitVec 32 := Scalar.select v2877 v2878 v2872
  let c1_i32_1989 : BitVec 32 := 1#32
  let v2884 : BitVec 32 := Scalar.muli v2879 c1_i32_1989
  let v2885 : BitVec 32 := Scalar.addi c0_i32_1990 v2884
  v2885.toNat
def k0_dev106 (d0 : Dev nD) : Nat :=
  let c0_i32_2150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2142 : BitVec 32 := 1#32
  let v3060 : BitVec 32 := Scalar.addi v2 c1_i32_2142
  let c16_i32_2143 : BitVec 32 := 16#32
  let c0_i32_2144 : BitVec 32 := 0#32
  let v3061 : BitVec 1 := Scalar.cmpi .eq c16_i32_2143 c0_i32_2144
  let c1_i32_2145 : BitVec 32 := 1#32
  let v3062 : BitVec 32 := Scalar.select v3061 c1_i32_2145 c16_i32_2143
  let v3063 : BitVec 32 := Scalar.remsi v3060 v3062
  let c0_i32_2147 : BitVec 32 := 0#32
  let v3065 : BitVec 1 := Scalar.cmpi .slt v3063 c0_i32_2147
  let c0_i32_2148 : BitVec 32 := 0#32
  let v3066 : BitVec 1 := Scalar.cmpi .slt v3062 c0_i32_2148
  let v3067 : BitVec 1 := Scalar.xori v3065 v3066
  let c0_i32_2146 : BitVec 32 := 0#32
  let v3064 : BitVec 1 := Scalar.cmpi .ne v3063 c0_i32_2146
  let v3068 : BitVec 1 := Scalar.andi v3067 v3064
  let v3069 : BitVec 32 := Scalar.addi v3063 v3062
  let v3070 : BitVec 32 := Scalar.select v3068 v3069 v3063
  let c1_i32_2149 : BitVec 32 := 1#32
  let v3071 : BitVec 32 := Scalar.muli v3070 c1_i32_2149
  let v3072 : BitVec 32 := Scalar.addi c0_i32_2150 v3071
  v3072.toNat
def k0_dev107 (d0 : Dev nD) : Nat :=
  let c0_i32_2162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2154 : BitVec 32 := 2#32
  let v3075 : BitVec 32 := Scalar.addi v2 c2_i32_2154
  let c16_i32_2155 : BitVec 32 := 16#32
  let c0_i32_2156 : BitVec 32 := 0#32
  let v3076 : BitVec 1 := Scalar.cmpi .eq c16_i32_2155 c0_i32_2156
  let c1_i32_2157 : BitVec 32 := 1#32
  let v3077 : BitVec 32 := Scalar.select v3076 c1_i32_2157 c16_i32_2155
  let v3078 : BitVec 32 := Scalar.remsi v3075 v3077
  let c0_i32_2159 : BitVec 32 := 0#32
  let v3080 : BitVec 1 := Scalar.cmpi .slt v3078 c0_i32_2159
  let c0_i32_2160 : BitVec 32 := 0#32
  let v3081 : BitVec 1 := Scalar.cmpi .slt v3077 c0_i32_2160
  let v3082 : BitVec 1 := Scalar.xori v3080 v3081
  let c0_i32_2158 : BitVec 32 := 0#32
  let v3079 : BitVec 1 := Scalar.cmpi .ne v3078 c0_i32_2158
  let v3083 : BitVec 1 := Scalar.andi v3082 v3079
  let v3084 : BitVec 32 := Scalar.addi v3078 v3077
  let v3085 : BitVec 32 := Scalar.select v3083 v3084 v3078
  let c1_i32_2161 : BitVec 32 := 1#32
  let v3086 : BitVec 32 := Scalar.muli v3085 c1_i32_2161
  let v3087 : BitVec 32 := Scalar.addi c0_i32_2162 v3086
  v3087.toNat
def k0_dev108 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2166 : BitVec 32 := 3#32
  let v3090 : BitVec 32 := Scalar.addi v2 c3_i32_2166
  let c16_i32_2167 : BitVec 32 := 16#32
  let c0_i32_2168 : BitVec 32 := 0#32
  let v3091 : BitVec 1 := Scalar.cmpi .eq c16_i32_2167 c0_i32_2168
  let c1_i32_2169 : BitVec 32 := 1#32
  let v3092 : BitVec 32 := Scalar.select v3091 c1_i32_2169 c16_i32_2167
  let v3093 : BitVec 32 := Scalar.remsi v3090 v3092
  let c0_i32_2171 : BitVec 32 := 0#32
  let v3095 : BitVec 1 := Scalar.cmpi .slt v3093 c0_i32_2171
  let c0_i32_2172 : BitVec 32 := 0#32
  let v3096 : BitVec 1 := Scalar.cmpi .slt v3092 c0_i32_2172
  let v3097 : BitVec 1 := Scalar.xori v3095 v3096
  let c0_i32_2170 : BitVec 32 := 0#32
  let v3094 : BitVec 1 := Scalar.cmpi .ne v3093 c0_i32_2170
  let v3098 : BitVec 1 := Scalar.andi v3097 v3094
  let v3099 : BitVec 32 := Scalar.addi v3093 v3092
  let v3100 : BitVec 32 := Scalar.select v3098 v3099 v3093
  let c1_i32_2173 : BitVec 32 := 1#32
  let v3101 : BitVec 32 := Scalar.muli v3100 c1_i32_2173
  let v3102 : BitVec 32 := Scalar.addi c0_i32_2174 v3101
  v3102.toNat
def k0_dev109 (d0 : Dev nD) : Nat :=
  let c0_i32_2186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2178 : BitVec 32 := 4#32
  let v3105 : BitVec 32 := Scalar.addi v2 c4_i32_2178
  let c16_i32_2179 : BitVec 32 := 16#32
  let c0_i32_2180 : BitVec 32 := 0#32
  let v3106 : BitVec 1 := Scalar.cmpi .eq c16_i32_2179 c0_i32_2180
  let c1_i32_2181 : BitVec 32 := 1#32
  let v3107 : BitVec 32 := Scalar.select v3106 c1_i32_2181 c16_i32_2179
  let v3108 : BitVec 32 := Scalar.remsi v3105 v3107
  let c0_i32_2183 : BitVec 32 := 0#32
  let v3110 : BitVec 1 := Scalar.cmpi .slt v3108 c0_i32_2183
  let c0_i32_2184 : BitVec 32 := 0#32
  let v3111 : BitVec 1 := Scalar.cmpi .slt v3107 c0_i32_2184
  let v3112 : BitVec 1 := Scalar.xori v3110 v3111
  let c0_i32_2182 : BitVec 32 := 0#32
  let v3109 : BitVec 1 := Scalar.cmpi .ne v3108 c0_i32_2182
  let v3113 : BitVec 1 := Scalar.andi v3112 v3109
  let v3114 : BitVec 32 := Scalar.addi v3108 v3107
  let v3115 : BitVec 32 := Scalar.select v3113 v3114 v3108
  let c1_i32_2185 : BitVec 32 := 1#32
  let v3116 : BitVec 32 := Scalar.muli v3115 c1_i32_2185
  let v3117 : BitVec 32 := Scalar.addi c0_i32_2186 v3116
  v3117.toNat
def k0_dev110 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2190 : BitVec 32 := 5#32
  let v3120 : BitVec 32 := Scalar.addi v2 c5_i32_2190
  let c16_i32_2191 : BitVec 32 := 16#32
  let c0_i32_2192 : BitVec 32 := 0#32
  let v3121 : BitVec 1 := Scalar.cmpi .eq c16_i32_2191 c0_i32_2192
  let c1_i32_2193 : BitVec 32 := 1#32
  let v3122 : BitVec 32 := Scalar.select v3121 c1_i32_2193 c16_i32_2191
  let v3123 : BitVec 32 := Scalar.remsi v3120 v3122
  let c0_i32_2195 : BitVec 32 := 0#32
  let v3125 : BitVec 1 := Scalar.cmpi .slt v3123 c0_i32_2195
  let c0_i32_2196 : BitVec 32 := 0#32
  let v3126 : BitVec 1 := Scalar.cmpi .slt v3122 c0_i32_2196
  let v3127 : BitVec 1 := Scalar.xori v3125 v3126
  let c0_i32_2194 : BitVec 32 := 0#32
  let v3124 : BitVec 1 := Scalar.cmpi .ne v3123 c0_i32_2194
  let v3128 : BitVec 1 := Scalar.andi v3127 v3124
  let v3129 : BitVec 32 := Scalar.addi v3123 v3122
  let v3130 : BitVec 32 := Scalar.select v3128 v3129 v3123
  let c1_i32_2197 : BitVec 32 := 1#32
  let v3131 : BitVec 32 := Scalar.muli v3130 c1_i32_2197
  let v3132 : BitVec 32 := Scalar.addi c0_i32_2198 v3131
  v3132.toNat
def k0_dev111 (d0 : Dev nD) : Nat :=
  let c0_i32_2210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2202 : BitVec 32 := 6#32
  let v3135 : BitVec 32 := Scalar.addi v2 c6_i32_2202
  let c16_i32_2203 : BitVec 32 := 16#32
  let c0_i32_2204 : BitVec 32 := 0#32
  let v3136 : BitVec 1 := Scalar.cmpi .eq c16_i32_2203 c0_i32_2204
  let c1_i32_2205 : BitVec 32 := 1#32
  let v3137 : BitVec 32 := Scalar.select v3136 c1_i32_2205 c16_i32_2203
  let v3138 : BitVec 32 := Scalar.remsi v3135 v3137
  let c0_i32_2207 : BitVec 32 := 0#32
  let v3140 : BitVec 1 := Scalar.cmpi .slt v3138 c0_i32_2207
  let c0_i32_2208 : BitVec 32 := 0#32
  let v3141 : BitVec 1 := Scalar.cmpi .slt v3137 c0_i32_2208
  let v3142 : BitVec 1 := Scalar.xori v3140 v3141
  let c0_i32_2206 : BitVec 32 := 0#32
  let v3139 : BitVec 1 := Scalar.cmpi .ne v3138 c0_i32_2206
  let v3143 : BitVec 1 := Scalar.andi v3142 v3139
  let v3144 : BitVec 32 := Scalar.addi v3138 v3137
  let v3145 : BitVec 32 := Scalar.select v3143 v3144 v3138
  let c1_i32_2209 : BitVec 32 := 1#32
  let v3146 : BitVec 32 := Scalar.muli v3145 c1_i32_2209
  let v3147 : BitVec 32 := Scalar.addi c0_i32_2210 v3146
  v3147.toNat
def k0_dev112 (d0 : Dev nD) : Nat :=
  let c0_i32_2222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2214 : BitVec 32 := 7#32
  let v3150 : BitVec 32 := Scalar.addi v2 c7_i32_2214
  let c16_i32_2215 : BitVec 32 := 16#32
  let c0_i32_2216 : BitVec 32 := 0#32
  let v3151 : BitVec 1 := Scalar.cmpi .eq c16_i32_2215 c0_i32_2216
  let c1_i32_2217 : BitVec 32 := 1#32
  let v3152 : BitVec 32 := Scalar.select v3151 c1_i32_2217 c16_i32_2215
  let v3153 : BitVec 32 := Scalar.remsi v3150 v3152
  let c0_i32_2219 : BitVec 32 := 0#32
  let v3155 : BitVec 1 := Scalar.cmpi .slt v3153 c0_i32_2219
  let c0_i32_2220 : BitVec 32 := 0#32
  let v3156 : BitVec 1 := Scalar.cmpi .slt v3152 c0_i32_2220
  let v3157 : BitVec 1 := Scalar.xori v3155 v3156
  let c0_i32_2218 : BitVec 32 := 0#32
  let v3154 : BitVec 1 := Scalar.cmpi .ne v3153 c0_i32_2218
  let v3158 : BitVec 1 := Scalar.andi v3157 v3154
  let v3159 : BitVec 32 := Scalar.addi v3153 v3152
  let v3160 : BitVec 32 := Scalar.select v3158 v3159 v3153
  let c1_i32_2221 : BitVec 32 := 1#32
  let v3161 : BitVec 32 := Scalar.muli v3160 c1_i32_2221
  let v3162 : BitVec 32 := Scalar.addi c0_i32_2222 v3161
  v3162.toNat
def k0_dev113 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2226 : BitVec 32 := 8#32
  let v3165 : BitVec 32 := Scalar.addi v2 c8_i32_2226
  let c16_i32_2227 : BitVec 32 := 16#32
  let c0_i32_2228 : BitVec 32 := 0#32
  let v3166 : BitVec 1 := Scalar.cmpi .eq c16_i32_2227 c0_i32_2228
  let c1_i32_2229 : BitVec 32 := 1#32
  let v3167 : BitVec 32 := Scalar.select v3166 c1_i32_2229 c16_i32_2227
  let v3168 : BitVec 32 := Scalar.remsi v3165 v3167
  let c0_i32_2231 : BitVec 32 := 0#32
  let v3170 : BitVec 1 := Scalar.cmpi .slt v3168 c0_i32_2231
  let c0_i32_2232 : BitVec 32 := 0#32
  let v3171 : BitVec 1 := Scalar.cmpi .slt v3167 c0_i32_2232
  let v3172 : BitVec 1 := Scalar.xori v3170 v3171
  let c0_i32_2230 : BitVec 32 := 0#32
  let v3169 : BitVec 1 := Scalar.cmpi .ne v3168 c0_i32_2230
  let v3173 : BitVec 1 := Scalar.andi v3172 v3169
  let v3174 : BitVec 32 := Scalar.addi v3168 v3167
  let v3175 : BitVec 32 := Scalar.select v3173 v3174 v3168
  let c1_i32_2233 : BitVec 32 := 1#32
  let v3176 : BitVec 32 := Scalar.muli v3175 c1_i32_2233
  let v3177 : BitVec 32 := Scalar.addi c0_i32_2234 v3176
  v3177.toNat
def k0_dev114 (d0 : Dev nD) : Nat :=
  let c0_i32_2246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2238 : BitVec 32 := 9#32
  let v3180 : BitVec 32 := Scalar.addi v2 c9_i32_2238
  let c16_i32_2239 : BitVec 32 := 16#32
  let c0_i32_2240 : BitVec 32 := 0#32
  let v3181 : BitVec 1 := Scalar.cmpi .eq c16_i32_2239 c0_i32_2240
  let c1_i32_2241 : BitVec 32 := 1#32
  let v3182 : BitVec 32 := Scalar.select v3181 c1_i32_2241 c16_i32_2239
  let v3183 : BitVec 32 := Scalar.remsi v3180 v3182
  let c0_i32_2243 : BitVec 32 := 0#32
  let v3185 : BitVec 1 := Scalar.cmpi .slt v3183 c0_i32_2243
  let c0_i32_2244 : BitVec 32 := 0#32
  let v3186 : BitVec 1 := Scalar.cmpi .slt v3182 c0_i32_2244
  let v3187 : BitVec 1 := Scalar.xori v3185 v3186
  let c0_i32_2242 : BitVec 32 := 0#32
  let v3184 : BitVec 1 := Scalar.cmpi .ne v3183 c0_i32_2242
  let v3188 : BitVec 1 := Scalar.andi v3187 v3184
  let v3189 : BitVec 32 := Scalar.addi v3183 v3182
  let v3190 : BitVec 32 := Scalar.select v3188 v3189 v3183
  let c1_i32_2245 : BitVec 32 := 1#32
  let v3191 : BitVec 32 := Scalar.muli v3190 c1_i32_2245
  let v3192 : BitVec 32 := Scalar.addi c0_i32_2246 v3191
  v3192.toNat
def k0_dev115 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2250 : BitVec 32 := 10#32
  let v3195 : BitVec 32 := Scalar.addi v2 c10_i32_2250
  let c16_i32_2251 : BitVec 32 := 16#32
  let c0_i32_2252 : BitVec 32 := 0#32
  let v3196 : BitVec 1 := Scalar.cmpi .eq c16_i32_2251 c0_i32_2252
  let c1_i32_2253 : BitVec 32 := 1#32
  let v3197 : BitVec 32 := Scalar.select v3196 c1_i32_2253 c16_i32_2251
  let v3198 : BitVec 32 := Scalar.remsi v3195 v3197
  let c0_i32_2255 : BitVec 32 := 0#32
  let v3200 : BitVec 1 := Scalar.cmpi .slt v3198 c0_i32_2255
  let c0_i32_2256 : BitVec 32 := 0#32
  let v3201 : BitVec 1 := Scalar.cmpi .slt v3197 c0_i32_2256
  let v3202 : BitVec 1 := Scalar.xori v3200 v3201
  let c0_i32_2254 : BitVec 32 := 0#32
  let v3199 : BitVec 1 := Scalar.cmpi .ne v3198 c0_i32_2254
  let v3203 : BitVec 1 := Scalar.andi v3202 v3199
  let v3204 : BitVec 32 := Scalar.addi v3198 v3197
  let v3205 : BitVec 32 := Scalar.select v3203 v3204 v3198
  let c1_i32_2257 : BitVec 32 := 1#32
  let v3206 : BitVec 32 := Scalar.muli v3205 c1_i32_2257
  let v3207 : BitVec 32 := Scalar.addi c0_i32_2258 v3206
  v3207.toNat
def k0_dev116 (d0 : Dev nD) : Nat :=
  let c0_i32_2270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2262 : BitVec 32 := 11#32
  let v3210 : BitVec 32 := Scalar.addi v2 c11_i32_2262
  let c16_i32_2263 : BitVec 32 := 16#32
  let c0_i32_2264 : BitVec 32 := 0#32
  let v3211 : BitVec 1 := Scalar.cmpi .eq c16_i32_2263 c0_i32_2264
  let c1_i32_2265 : BitVec 32 := 1#32
  let v3212 : BitVec 32 := Scalar.select v3211 c1_i32_2265 c16_i32_2263
  let v3213 : BitVec 32 := Scalar.remsi v3210 v3212
  let c0_i32_2267 : BitVec 32 := 0#32
  let v3215 : BitVec 1 := Scalar.cmpi .slt v3213 c0_i32_2267
  let c0_i32_2268 : BitVec 32 := 0#32
  let v3216 : BitVec 1 := Scalar.cmpi .slt v3212 c0_i32_2268
  let v3217 : BitVec 1 := Scalar.xori v3215 v3216
  let c0_i32_2266 : BitVec 32 := 0#32
  let v3214 : BitVec 1 := Scalar.cmpi .ne v3213 c0_i32_2266
  let v3218 : BitVec 1 := Scalar.andi v3217 v3214
  let v3219 : BitVec 32 := Scalar.addi v3213 v3212
  let v3220 : BitVec 32 := Scalar.select v3218 v3219 v3213
  let c1_i32_2269 : BitVec 32 := 1#32
  let v3221 : BitVec 32 := Scalar.muli v3220 c1_i32_2269
  let v3222 : BitVec 32 := Scalar.addi c0_i32_2270 v3221
  v3222.toNat
def k0_dev117 (d0 : Dev nD) : Nat :=
  let c0_i32_2282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2274 : BitVec 32 := 12#32
  let v3225 : BitVec 32 := Scalar.addi v2 c12_i32_2274
  let c16_i32_2275 : BitVec 32 := 16#32
  let c0_i32_2276 : BitVec 32 := 0#32
  let v3226 : BitVec 1 := Scalar.cmpi .eq c16_i32_2275 c0_i32_2276
  let c1_i32_2277 : BitVec 32 := 1#32
  let v3227 : BitVec 32 := Scalar.select v3226 c1_i32_2277 c16_i32_2275
  let v3228 : BitVec 32 := Scalar.remsi v3225 v3227
  let c0_i32_2279 : BitVec 32 := 0#32
  let v3230 : BitVec 1 := Scalar.cmpi .slt v3228 c0_i32_2279
  let c0_i32_2280 : BitVec 32 := 0#32
  let v3231 : BitVec 1 := Scalar.cmpi .slt v3227 c0_i32_2280
  let v3232 : BitVec 1 := Scalar.xori v3230 v3231
  let c0_i32_2278 : BitVec 32 := 0#32
  let v3229 : BitVec 1 := Scalar.cmpi .ne v3228 c0_i32_2278
  let v3233 : BitVec 1 := Scalar.andi v3232 v3229
  let v3234 : BitVec 32 := Scalar.addi v3228 v3227
  let v3235 : BitVec 32 := Scalar.select v3233 v3234 v3228
  let c1_i32_2281 : BitVec 32 := 1#32
  let v3236 : BitVec 32 := Scalar.muli v3235 c1_i32_2281
  let v3237 : BitVec 32 := Scalar.addi c0_i32_2282 v3236
  v3237.toNat
def k0_dev118 (d0 : Dev nD) : Nat :=
  let c0_i32_2294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2286 : BitVec 32 := 13#32
  let v3240 : BitVec 32 := Scalar.addi v2 c13_i32_2286
  let c16_i32_2287 : BitVec 32 := 16#32
  let c0_i32_2288 : BitVec 32 := 0#32
  let v3241 : BitVec 1 := Scalar.cmpi .eq c16_i32_2287 c0_i32_2288
  let c1_i32_2289 : BitVec 32 := 1#32
  let v3242 : BitVec 32 := Scalar.select v3241 c1_i32_2289 c16_i32_2287
  let v3243 : BitVec 32 := Scalar.remsi v3240 v3242
  let c0_i32_2291 : BitVec 32 := 0#32
  let v3245 : BitVec 1 := Scalar.cmpi .slt v3243 c0_i32_2291
  let c0_i32_2292 : BitVec 32 := 0#32
  let v3246 : BitVec 1 := Scalar.cmpi .slt v3242 c0_i32_2292
  let v3247 : BitVec 1 := Scalar.xori v3245 v3246
  let c0_i32_2290 : BitVec 32 := 0#32
  let v3244 : BitVec 1 := Scalar.cmpi .ne v3243 c0_i32_2290
  let v3248 : BitVec 1 := Scalar.andi v3247 v3244
  let v3249 : BitVec 32 := Scalar.addi v3243 v3242
  let v3250 : BitVec 32 := Scalar.select v3248 v3249 v3243
  let c1_i32_2293 : BitVec 32 := 1#32
  let v3251 : BitVec 32 := Scalar.muli v3250 c1_i32_2293
  let v3252 : BitVec 32 := Scalar.addi c0_i32_2294 v3251
  v3252.toNat
def k0_dev119 (d0 : Dev nD) : Nat :=
  let c0_i32_2306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2298 : BitVec 32 := 14#32
  let v3255 : BitVec 32 := Scalar.addi v2 c14_i32_2298
  let c16_i32_2299 : BitVec 32 := 16#32
  let c0_i32_2300 : BitVec 32 := 0#32
  let v3256 : BitVec 1 := Scalar.cmpi .eq c16_i32_2299 c0_i32_2300
  let c1_i32_2301 : BitVec 32 := 1#32
  let v3257 : BitVec 32 := Scalar.select v3256 c1_i32_2301 c16_i32_2299
  let v3258 : BitVec 32 := Scalar.remsi v3255 v3257
  let c0_i32_2303 : BitVec 32 := 0#32
  let v3260 : BitVec 1 := Scalar.cmpi .slt v3258 c0_i32_2303
  let c0_i32_2304 : BitVec 32 := 0#32
  let v3261 : BitVec 1 := Scalar.cmpi .slt v3257 c0_i32_2304
  let v3262 : BitVec 1 := Scalar.xori v3260 v3261
  let c0_i32_2302 : BitVec 32 := 0#32
  let v3259 : BitVec 1 := Scalar.cmpi .ne v3258 c0_i32_2302
  let v3263 : BitVec 1 := Scalar.andi v3262 v3259
  let v3264 : BitVec 32 := Scalar.addi v3258 v3257
  let v3265 : BitVec 32 := Scalar.select v3263 v3264 v3258
  let c1_i32_2305 : BitVec 32 := 1#32
  let v3266 : BitVec 32 := Scalar.muli v3265 c1_i32_2305
  let v3267 : BitVec 32 := Scalar.addi c0_i32_2306 v3266
  v3267.toNat
def k0_dev120 (d0 : Dev nD) : Nat :=
  let c0_i32_2318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2310 : BitVec 32 := 15#32
  let v3270 : BitVec 32 := Scalar.addi v2 c15_i32_2310
  let c16_i32_2311 : BitVec 32 := 16#32
  let c0_i32_2312 : BitVec 32 := 0#32
  let v3271 : BitVec 1 := Scalar.cmpi .eq c16_i32_2311 c0_i32_2312
  let c1_i32_2313 : BitVec 32 := 1#32
  let v3272 : BitVec 32 := Scalar.select v3271 c1_i32_2313 c16_i32_2311
  let v3273 : BitVec 32 := Scalar.remsi v3270 v3272
  let c0_i32_2315 : BitVec 32 := 0#32
  let v3275 : BitVec 1 := Scalar.cmpi .slt v3273 c0_i32_2315
  let c0_i32_2316 : BitVec 32 := 0#32
  let v3276 : BitVec 1 := Scalar.cmpi .slt v3272 c0_i32_2316
  let v3277 : BitVec 1 := Scalar.xori v3275 v3276
  let c0_i32_2314 : BitVec 32 := 0#32
  let v3274 : BitVec 1 := Scalar.cmpi .ne v3273 c0_i32_2314
  let v3278 : BitVec 1 := Scalar.andi v3277 v3274
  let v3279 : BitVec 32 := Scalar.addi v3273 v3272
  let v3280 : BitVec 32 := Scalar.select v3278 v3279 v3273
  let c1_i32_2317 : BitVec 32 := 1#32
  let v3281 : BitVec 32 := Scalar.muli v3280 c1_i32_2317
  let v3282 : BitVec 32 := Scalar.addi c0_i32_2318 v3281
  v3282.toNat
def k0_dev121 (d0 : Dev nD) : Nat :=
  let c0_i32_2478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2470 : BitVec 32 := 1#32
  let v3454 : BitVec 32 := Scalar.addi v2 c1_i32_2470
  let c16_i32_2471 : BitVec 32 := 16#32
  let c0_i32_2472 : BitVec 32 := 0#32
  let v3455 : BitVec 1 := Scalar.cmpi .eq c16_i32_2471 c0_i32_2472
  let c1_i32_2473 : BitVec 32 := 1#32
  let v3456 : BitVec 32 := Scalar.select v3455 c1_i32_2473 c16_i32_2471
  let v3457 : BitVec 32 := Scalar.remsi v3454 v3456
  let c0_i32_2475 : BitVec 32 := 0#32
  let v3459 : BitVec 1 := Scalar.cmpi .slt v3457 c0_i32_2475
  let c0_i32_2476 : BitVec 32 := 0#32
  let v3460 : BitVec 1 := Scalar.cmpi .slt v3456 c0_i32_2476
  let v3461 : BitVec 1 := Scalar.xori v3459 v3460
  let c0_i32_2474 : BitVec 32 := 0#32
  let v3458 : BitVec 1 := Scalar.cmpi .ne v3457 c0_i32_2474
  let v3462 : BitVec 1 := Scalar.andi v3461 v3458
  let v3463 : BitVec 32 := Scalar.addi v3457 v3456
  let v3464 : BitVec 32 := Scalar.select v3462 v3463 v3457
  let c1_i32_2477 : BitVec 32 := 1#32
  let v3465 : BitVec 32 := Scalar.muli v3464 c1_i32_2477
  let v3466 : BitVec 32 := Scalar.addi c0_i32_2478 v3465
  v3466.toNat
def k0_dev122 (d0 : Dev nD) : Nat :=
  let c0_i32_2490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2482 : BitVec 32 := 2#32
  let v3469 : BitVec 32 := Scalar.addi v2 c2_i32_2482
  let c16_i32_2483 : BitVec 32 := 16#32
  let c0_i32_2484 : BitVec 32 := 0#32
  let v3470 : BitVec 1 := Scalar.cmpi .eq c16_i32_2483 c0_i32_2484
  let c1_i32_2485 : BitVec 32 := 1#32
  let v3471 : BitVec 32 := Scalar.select v3470 c1_i32_2485 c16_i32_2483
  let v3472 : BitVec 32 := Scalar.remsi v3469 v3471
  let c0_i32_2487 : BitVec 32 := 0#32
  let v3474 : BitVec 1 := Scalar.cmpi .slt v3472 c0_i32_2487
  let c0_i32_2488 : BitVec 32 := 0#32
  let v3475 : BitVec 1 := Scalar.cmpi .slt v3471 c0_i32_2488
  let v3476 : BitVec 1 := Scalar.xori v3474 v3475
  let c0_i32_2486 : BitVec 32 := 0#32
  let v3473 : BitVec 1 := Scalar.cmpi .ne v3472 c0_i32_2486
  let v3477 : BitVec 1 := Scalar.andi v3476 v3473
  let v3478 : BitVec 32 := Scalar.addi v3472 v3471
  let v3479 : BitVec 32 := Scalar.select v3477 v3478 v3472
  let c1_i32_2489 : BitVec 32 := 1#32
  let v3480 : BitVec 32 := Scalar.muli v3479 c1_i32_2489
  let v3481 : BitVec 32 := Scalar.addi c0_i32_2490 v3480
  v3481.toNat
def k0_dev123 (d0 : Dev nD) : Nat :=
  let c0_i32_2502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2494 : BitVec 32 := 3#32
  let v3484 : BitVec 32 := Scalar.addi v2 c3_i32_2494
  let c16_i32_2495 : BitVec 32 := 16#32
  let c0_i32_2496 : BitVec 32 := 0#32
  let v3485 : BitVec 1 := Scalar.cmpi .eq c16_i32_2495 c0_i32_2496
  let c1_i32_2497 : BitVec 32 := 1#32
  let v3486 : BitVec 32 := Scalar.select v3485 c1_i32_2497 c16_i32_2495
  let v3487 : BitVec 32 := Scalar.remsi v3484 v3486
  let c0_i32_2499 : BitVec 32 := 0#32
  let v3489 : BitVec 1 := Scalar.cmpi .slt v3487 c0_i32_2499
  let c0_i32_2500 : BitVec 32 := 0#32
  let v3490 : BitVec 1 := Scalar.cmpi .slt v3486 c0_i32_2500
  let v3491 : BitVec 1 := Scalar.xori v3489 v3490
  let c0_i32_2498 : BitVec 32 := 0#32
  let v3488 : BitVec 1 := Scalar.cmpi .ne v3487 c0_i32_2498
  let v3492 : BitVec 1 := Scalar.andi v3491 v3488
  let v3493 : BitVec 32 := Scalar.addi v3487 v3486
  let v3494 : BitVec 32 := Scalar.select v3492 v3493 v3487
  let c1_i32_2501 : BitVec 32 := 1#32
  let v3495 : BitVec 32 := Scalar.muli v3494 c1_i32_2501
  let v3496 : BitVec 32 := Scalar.addi c0_i32_2502 v3495
  v3496.toNat
def k0_dev124 (d0 : Dev nD) : Nat :=
  let c0_i32_2514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2506 : BitVec 32 := 4#32
  let v3499 : BitVec 32 := Scalar.addi v2 c4_i32_2506
  let c16_i32_2507 : BitVec 32 := 16#32
  let c0_i32_2508 : BitVec 32 := 0#32
  let v3500 : BitVec 1 := Scalar.cmpi .eq c16_i32_2507 c0_i32_2508
  let c1_i32_2509 : BitVec 32 := 1#32
  let v3501 : BitVec 32 := Scalar.select v3500 c1_i32_2509 c16_i32_2507
  let v3502 : BitVec 32 := Scalar.remsi v3499 v3501
  let c0_i32_2511 : BitVec 32 := 0#32
  let v3504 : BitVec 1 := Scalar.cmpi .slt v3502 c0_i32_2511
  let c0_i32_2512 : BitVec 32 := 0#32
  let v3505 : BitVec 1 := Scalar.cmpi .slt v3501 c0_i32_2512
  let v3506 : BitVec 1 := Scalar.xori v3504 v3505
  let c0_i32_2510 : BitVec 32 := 0#32
  let v3503 : BitVec 1 := Scalar.cmpi .ne v3502 c0_i32_2510
  let v3507 : BitVec 1 := Scalar.andi v3506 v3503
  let v3508 : BitVec 32 := Scalar.addi v3502 v3501
  let v3509 : BitVec 32 := Scalar.select v3507 v3508 v3502
  let c1_i32_2513 : BitVec 32 := 1#32
  let v3510 : BitVec 32 := Scalar.muli v3509 c1_i32_2513
  let v3511 : BitVec 32 := Scalar.addi c0_i32_2514 v3510
  v3511.toNat
def k0_dev125 (d0 : Dev nD) : Nat :=
  let c0_i32_2526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2518 : BitVec 32 := 5#32
  let v3514 : BitVec 32 := Scalar.addi v2 c5_i32_2518
  let c16_i32_2519 : BitVec 32 := 16#32
  let c0_i32_2520 : BitVec 32 := 0#32
  let v3515 : BitVec 1 := Scalar.cmpi .eq c16_i32_2519 c0_i32_2520
  let c1_i32_2521 : BitVec 32 := 1#32
  let v3516 : BitVec 32 := Scalar.select v3515 c1_i32_2521 c16_i32_2519
  let v3517 : BitVec 32 := Scalar.remsi v3514 v3516
  let c0_i32_2523 : BitVec 32 := 0#32
  let v3519 : BitVec 1 := Scalar.cmpi .slt v3517 c0_i32_2523
  let c0_i32_2524 : BitVec 32 := 0#32
  let v3520 : BitVec 1 := Scalar.cmpi .slt v3516 c0_i32_2524
  let v3521 : BitVec 1 := Scalar.xori v3519 v3520
  let c0_i32_2522 : BitVec 32 := 0#32
  let v3518 : BitVec 1 := Scalar.cmpi .ne v3517 c0_i32_2522
  let v3522 : BitVec 1 := Scalar.andi v3521 v3518
  let v3523 : BitVec 32 := Scalar.addi v3517 v3516
  let v3524 : BitVec 32 := Scalar.select v3522 v3523 v3517
  let c1_i32_2525 : BitVec 32 := 1#32
  let v3525 : BitVec 32 := Scalar.muli v3524 c1_i32_2525
  let v3526 : BitVec 32 := Scalar.addi c0_i32_2526 v3525
  v3526.toNat
def k0_dev126 (d0 : Dev nD) : Nat :=
  let c0_i32_2538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2530 : BitVec 32 := 6#32
  let v3529 : BitVec 32 := Scalar.addi v2 c6_i32_2530
  let c16_i32_2531 : BitVec 32 := 16#32
  let c0_i32_2532 : BitVec 32 := 0#32
  let v3530 : BitVec 1 := Scalar.cmpi .eq c16_i32_2531 c0_i32_2532
  let c1_i32_2533 : BitVec 32 := 1#32
  let v3531 : BitVec 32 := Scalar.select v3530 c1_i32_2533 c16_i32_2531
  let v3532 : BitVec 32 := Scalar.remsi v3529 v3531
  let c0_i32_2535 : BitVec 32 := 0#32
  let v3534 : BitVec 1 := Scalar.cmpi .slt v3532 c0_i32_2535
  let c0_i32_2536 : BitVec 32 := 0#32
  let v3535 : BitVec 1 := Scalar.cmpi .slt v3531 c0_i32_2536
  let v3536 : BitVec 1 := Scalar.xori v3534 v3535
  let c0_i32_2534 : BitVec 32 := 0#32
  let v3533 : BitVec 1 := Scalar.cmpi .ne v3532 c0_i32_2534
  let v3537 : BitVec 1 := Scalar.andi v3536 v3533
  let v3538 : BitVec 32 := Scalar.addi v3532 v3531
  let v3539 : BitVec 32 := Scalar.select v3537 v3538 v3532
  let c1_i32_2537 : BitVec 32 := 1#32
  let v3540 : BitVec 32 := Scalar.muli v3539 c1_i32_2537
  let v3541 : BitVec 32 := Scalar.addi c0_i32_2538 v3540
  v3541.toNat
def k0_dev127 (d0 : Dev nD) : Nat :=
  let c0_i32_2550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2542 : BitVec 32 := 7#32
  let v3544 : BitVec 32 := Scalar.addi v2 c7_i32_2542
  let c16_i32_2543 : BitVec 32 := 16#32
  let c0_i32_2544 : BitVec 32 := 0#32
  let v3545 : BitVec 1 := Scalar.cmpi .eq c16_i32_2543 c0_i32_2544
  let c1_i32_2545 : BitVec 32 := 1#32
  let v3546 : BitVec 32 := Scalar.select v3545 c1_i32_2545 c16_i32_2543
  let v3547 : BitVec 32 := Scalar.remsi v3544 v3546
  let c0_i32_2547 : BitVec 32 := 0#32
  let v3549 : BitVec 1 := Scalar.cmpi .slt v3547 c0_i32_2547
  let c0_i32_2548 : BitVec 32 := 0#32
  let v3550 : BitVec 1 := Scalar.cmpi .slt v3546 c0_i32_2548
  let v3551 : BitVec 1 := Scalar.xori v3549 v3550
  let c0_i32_2546 : BitVec 32 := 0#32
  let v3548 : BitVec 1 := Scalar.cmpi .ne v3547 c0_i32_2546
  let v3552 : BitVec 1 := Scalar.andi v3551 v3548
  let v3553 : BitVec 32 := Scalar.addi v3547 v3546
  let v3554 : BitVec 32 := Scalar.select v3552 v3553 v3547
  let c1_i32_2549 : BitVec 32 := 1#32
  let v3555 : BitVec 32 := Scalar.muli v3554 c1_i32_2549
  let v3556 : BitVec 32 := Scalar.addi c0_i32_2550 v3555
  v3556.toNat
def k0_dev128 (d0 : Dev nD) : Nat :=
  let c0_i32_2562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2554 : BitVec 32 := 8#32
  let v3559 : BitVec 32 := Scalar.addi v2 c8_i32_2554
  let c16_i32_2555 : BitVec 32 := 16#32
  let c0_i32_2556 : BitVec 32 := 0#32
  let v3560 : BitVec 1 := Scalar.cmpi .eq c16_i32_2555 c0_i32_2556
  let c1_i32_2557 : BitVec 32 := 1#32
  let v3561 : BitVec 32 := Scalar.select v3560 c1_i32_2557 c16_i32_2555
  let v3562 : BitVec 32 := Scalar.remsi v3559 v3561
  let c0_i32_2559 : BitVec 32 := 0#32
  let v3564 : BitVec 1 := Scalar.cmpi .slt v3562 c0_i32_2559
  let c0_i32_2560 : BitVec 32 := 0#32
  let v3565 : BitVec 1 := Scalar.cmpi .slt v3561 c0_i32_2560
  let v3566 : BitVec 1 := Scalar.xori v3564 v3565
  let c0_i32_2558 : BitVec 32 := 0#32
  let v3563 : BitVec 1 := Scalar.cmpi .ne v3562 c0_i32_2558
  let v3567 : BitVec 1 := Scalar.andi v3566 v3563
  let v3568 : BitVec 32 := Scalar.addi v3562 v3561
  let v3569 : BitVec 32 := Scalar.select v3567 v3568 v3562
  let c1_i32_2561 : BitVec 32 := 1#32
  let v3570 : BitVec 32 := Scalar.muli v3569 c1_i32_2561
  let v3571 : BitVec 32 := Scalar.addi c0_i32_2562 v3570
  v3571.toNat
def k0_dev129 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2566 : BitVec 32 := 9#32
  let v3574 : BitVec 32 := Scalar.addi v2 c9_i32_2566
  let c16_i32_2567 : BitVec 32 := 16#32
  let c0_i32_2568 : BitVec 32 := 0#32
  let v3575 : BitVec 1 := Scalar.cmpi .eq c16_i32_2567 c0_i32_2568
  let c1_i32_2569 : BitVec 32 := 1#32
  let v3576 : BitVec 32 := Scalar.select v3575 c1_i32_2569 c16_i32_2567
  let v3577 : BitVec 32 := Scalar.remsi v3574 v3576
  let c0_i32_2571 : BitVec 32 := 0#32
  let v3579 : BitVec 1 := Scalar.cmpi .slt v3577 c0_i32_2571
  let c0_i32_2572 : BitVec 32 := 0#32
  let v3580 : BitVec 1 := Scalar.cmpi .slt v3576 c0_i32_2572
  let v3581 : BitVec 1 := Scalar.xori v3579 v3580
  let c0_i32_2570 : BitVec 32 := 0#32
  let v3578 : BitVec 1 := Scalar.cmpi .ne v3577 c0_i32_2570
  let v3582 : BitVec 1 := Scalar.andi v3581 v3578
  let v3583 : BitVec 32 := Scalar.addi v3577 v3576
  let v3584 : BitVec 32 := Scalar.select v3582 v3583 v3577
  let c1_i32_2573 : BitVec 32 := 1#32
  let v3585 : BitVec 32 := Scalar.muli v3584 c1_i32_2573
  let v3586 : BitVec 32 := Scalar.addi c0_i32_2574 v3585
  v3586.toNat
def k0_dev130 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2578 : BitVec 32 := 10#32
  let v3589 : BitVec 32 := Scalar.addi v2 c10_i32_2578
  let c16_i32_2579 : BitVec 32 := 16#32
  let c0_i32_2580 : BitVec 32 := 0#32
  let v3590 : BitVec 1 := Scalar.cmpi .eq c16_i32_2579 c0_i32_2580
  let c1_i32_2581 : BitVec 32 := 1#32
  let v3591 : BitVec 32 := Scalar.select v3590 c1_i32_2581 c16_i32_2579
  let v3592 : BitVec 32 := Scalar.remsi v3589 v3591
  let c0_i32_2583 : BitVec 32 := 0#32
  let v3594 : BitVec 1 := Scalar.cmpi .slt v3592 c0_i32_2583
  let c0_i32_2584 : BitVec 32 := 0#32
  let v3595 : BitVec 1 := Scalar.cmpi .slt v3591 c0_i32_2584
  let v3596 : BitVec 1 := Scalar.xori v3594 v3595
  let c0_i32_2582 : BitVec 32 := 0#32
  let v3593 : BitVec 1 := Scalar.cmpi .ne v3592 c0_i32_2582
  let v3597 : BitVec 1 := Scalar.andi v3596 v3593
  let v3598 : BitVec 32 := Scalar.addi v3592 v3591
  let v3599 : BitVec 32 := Scalar.select v3597 v3598 v3592
  let c1_i32_2585 : BitVec 32 := 1#32
  let v3600 : BitVec 32 := Scalar.muli v3599 c1_i32_2585
  let v3601 : BitVec 32 := Scalar.addi c0_i32_2586 v3600
  v3601.toNat
def k0_dev131 (d0 : Dev nD) : Nat :=
  let c0_i32_2598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2590 : BitVec 32 := 11#32
  let v3604 : BitVec 32 := Scalar.addi v2 c11_i32_2590
  let c16_i32_2591 : BitVec 32 := 16#32
  let c0_i32_2592 : BitVec 32 := 0#32
  let v3605 : BitVec 1 := Scalar.cmpi .eq c16_i32_2591 c0_i32_2592
  let c1_i32_2593 : BitVec 32 := 1#32
  let v3606 : BitVec 32 := Scalar.select v3605 c1_i32_2593 c16_i32_2591
  let v3607 : BitVec 32 := Scalar.remsi v3604 v3606
  let c0_i32_2595 : BitVec 32 := 0#32
  let v3609 : BitVec 1 := Scalar.cmpi .slt v3607 c0_i32_2595
  let c0_i32_2596 : BitVec 32 := 0#32
  let v3610 : BitVec 1 := Scalar.cmpi .slt v3606 c0_i32_2596
  let v3611 : BitVec 1 := Scalar.xori v3609 v3610
  let c0_i32_2594 : BitVec 32 := 0#32
  let v3608 : BitVec 1 := Scalar.cmpi .ne v3607 c0_i32_2594
  let v3612 : BitVec 1 := Scalar.andi v3611 v3608
  let v3613 : BitVec 32 := Scalar.addi v3607 v3606
  let v3614 : BitVec 32 := Scalar.select v3612 v3613 v3607
  let c1_i32_2597 : BitVec 32 := 1#32
  let v3615 : BitVec 32 := Scalar.muli v3614 c1_i32_2597
  let v3616 : BitVec 32 := Scalar.addi c0_i32_2598 v3615
  v3616.toNat
def k0_dev132 (d0 : Dev nD) : Nat :=
  let c0_i32_2610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2602 : BitVec 32 := 12#32
  let v3619 : BitVec 32 := Scalar.addi v2 c12_i32_2602
  let c16_i32_2603 : BitVec 32 := 16#32
  let c0_i32_2604 : BitVec 32 := 0#32
  let v3620 : BitVec 1 := Scalar.cmpi .eq c16_i32_2603 c0_i32_2604
  let c1_i32_2605 : BitVec 32 := 1#32
  let v3621 : BitVec 32 := Scalar.select v3620 c1_i32_2605 c16_i32_2603
  let v3622 : BitVec 32 := Scalar.remsi v3619 v3621
  let c0_i32_2607 : BitVec 32 := 0#32
  let v3624 : BitVec 1 := Scalar.cmpi .slt v3622 c0_i32_2607
  let c0_i32_2608 : BitVec 32 := 0#32
  let v3625 : BitVec 1 := Scalar.cmpi .slt v3621 c0_i32_2608
  let v3626 : BitVec 1 := Scalar.xori v3624 v3625
  let c0_i32_2606 : BitVec 32 := 0#32
  let v3623 : BitVec 1 := Scalar.cmpi .ne v3622 c0_i32_2606
  let v3627 : BitVec 1 := Scalar.andi v3626 v3623
  let v3628 : BitVec 32 := Scalar.addi v3622 v3621
  let v3629 : BitVec 32 := Scalar.select v3627 v3628 v3622
  let c1_i32_2609 : BitVec 32 := 1#32
  let v3630 : BitVec 32 := Scalar.muli v3629 c1_i32_2609
  let v3631 : BitVec 32 := Scalar.addi c0_i32_2610 v3630
  v3631.toNat
def k0_dev133 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2614 : BitVec 32 := 13#32
  let v3634 : BitVec 32 := Scalar.addi v2 c13_i32_2614
  let c16_i32_2615 : BitVec 32 := 16#32
  let c0_i32_2616 : BitVec 32 := 0#32
  let v3635 : BitVec 1 := Scalar.cmpi .eq c16_i32_2615 c0_i32_2616
  let c1_i32_2617 : BitVec 32 := 1#32
  let v3636 : BitVec 32 := Scalar.select v3635 c1_i32_2617 c16_i32_2615
  let v3637 : BitVec 32 := Scalar.remsi v3634 v3636
  let c0_i32_2619 : BitVec 32 := 0#32
  let v3639 : BitVec 1 := Scalar.cmpi .slt v3637 c0_i32_2619
  let c0_i32_2620 : BitVec 32 := 0#32
  let v3640 : BitVec 1 := Scalar.cmpi .slt v3636 c0_i32_2620
  let v3641 : BitVec 1 := Scalar.xori v3639 v3640
  let c0_i32_2618 : BitVec 32 := 0#32
  let v3638 : BitVec 1 := Scalar.cmpi .ne v3637 c0_i32_2618
  let v3642 : BitVec 1 := Scalar.andi v3641 v3638
  let v3643 : BitVec 32 := Scalar.addi v3637 v3636
  let v3644 : BitVec 32 := Scalar.select v3642 v3643 v3637
  let c1_i32_2621 : BitVec 32 := 1#32
  let v3645 : BitVec 32 := Scalar.muli v3644 c1_i32_2621
  let v3646 : BitVec 32 := Scalar.addi c0_i32_2622 v3645
  v3646.toNat
def k0_dev134 (d0 : Dev nD) : Nat :=
  let c0_i32_2634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2626 : BitVec 32 := 14#32
  let v3649 : BitVec 32 := Scalar.addi v2 c14_i32_2626
  let c16_i32_2627 : BitVec 32 := 16#32
  let c0_i32_2628 : BitVec 32 := 0#32
  let v3650 : BitVec 1 := Scalar.cmpi .eq c16_i32_2627 c0_i32_2628
  let c1_i32_2629 : BitVec 32 := 1#32
  let v3651 : BitVec 32 := Scalar.select v3650 c1_i32_2629 c16_i32_2627
  let v3652 : BitVec 32 := Scalar.remsi v3649 v3651
  let c0_i32_2631 : BitVec 32 := 0#32
  let v3654 : BitVec 1 := Scalar.cmpi .slt v3652 c0_i32_2631
  let c0_i32_2632 : BitVec 32 := 0#32
  let v3655 : BitVec 1 := Scalar.cmpi .slt v3651 c0_i32_2632
  let v3656 : BitVec 1 := Scalar.xori v3654 v3655
  let c0_i32_2630 : BitVec 32 := 0#32
  let v3653 : BitVec 1 := Scalar.cmpi .ne v3652 c0_i32_2630
  let v3657 : BitVec 1 := Scalar.andi v3656 v3653
  let v3658 : BitVec 32 := Scalar.addi v3652 v3651
  let v3659 : BitVec 32 := Scalar.select v3657 v3658 v3652
  let c1_i32_2633 : BitVec 32 := 1#32
  let v3660 : BitVec 32 := Scalar.muli v3659 c1_i32_2633
  let v3661 : BitVec 32 := Scalar.addi c0_i32_2634 v3660
  v3661.toNat
def k0_dev135 (d0 : Dev nD) : Nat :=
  let c0_i32_2646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2638 : BitVec 32 := 15#32
  let v3664 : BitVec 32 := Scalar.addi v2 c15_i32_2638
  let c16_i32_2639 : BitVec 32 := 16#32
  let c0_i32_2640 : BitVec 32 := 0#32
  let v3665 : BitVec 1 := Scalar.cmpi .eq c16_i32_2639 c0_i32_2640
  let c1_i32_2641 : BitVec 32 := 1#32
  let v3666 : BitVec 32 := Scalar.select v3665 c1_i32_2641 c16_i32_2639
  let v3667 : BitVec 32 := Scalar.remsi v3664 v3666
  let c0_i32_2643 : BitVec 32 := 0#32
  let v3669 : BitVec 1 := Scalar.cmpi .slt v3667 c0_i32_2643
  let c0_i32_2644 : BitVec 32 := 0#32
  let v3670 : BitVec 1 := Scalar.cmpi .slt v3666 c0_i32_2644
  let v3671 : BitVec 1 := Scalar.xori v3669 v3670
  let c0_i32_2642 : BitVec 32 := 0#32
  let v3668 : BitVec 1 := Scalar.cmpi .ne v3667 c0_i32_2642
  let v3672 : BitVec 1 := Scalar.andi v3671 v3668
  let v3673 : BitVec 32 := Scalar.addi v3667 v3666
  let v3674 : BitVec 32 := Scalar.select v3672 v3673 v3667
  let c1_i32_2645 : BitVec 32 := 1#32
  let v3675 : BitVec 32 := Scalar.muli v3674 c1_i32_2645
  let v3676 : BitVec 32 := Scalar.addi c0_i32_2646 v3675
  v3676.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x1024 : Shape := ⟨3, ![4, 256, 1024]⟩
abbrev S1024x16384 : Shape := ⟨2, ![1024, 16384]⟩
abbrev S16384x1024 : Shape := ⟨2, ![16384, 1024]⟩
abbrev S1024x4096 : Shape := ⟨2, ![1024, 4096]⟩
abbrev S4x256x16384 : Shape := ⟨3, ![4, 256, 16384]⟩
abbrev S4x256x128x128 : Shape := ⟨4, ![4, 256, 128, 128]⟩
abbrev S4x256x4096 : Shape := ⟨3, ![4, 256, 4096]⟩
abbrev S4x256x32x128 : Shape := ⟨4, ![4, 256, 32, 128]⟩
abbrev S4x256x32x4x128 : Shape := ⟨5, ![4, 256, 32, 4, 128]⟩
abbrev S_ : Shape := ⟨0, ![]⟩
abbrev S4x128x256x1 : Shape := ⟨4, ![4, 128, 256, 1]⟩
abbrev S4x128x256x256 : Shape := ⟨4, ![4, 128, 256, 256]⟩
abbrev S4x128x256 : Shape := ⟨3, ![4, 128, 256]⟩
abbrev S4x256x128x1 : Shape := ⟨4, ![4, 256, 128, 1]⟩
abbrev S4x128x128x256 : Shape := ⟨4, ![4, 128, 128, 256]⟩
abbrev S1024x1024 : Shape := ⟨2, ![1024, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x16384, .f32⟩
  | .hbm, ⟨2, _⟩ => ⟨S16384x1024, .f32⟩
  | .hbm, ⟨3, _⟩ => ⟨S1024x4096, .f32⟩
  | .hbm, ⟨4, _⟩ => ⟨S1024x4096, .f32⟩
  | .hbm, ⟨5, _⟩ => ⟨S4x256x16384, .f32⟩
  | .hbm, ⟨6, _⟩ => ⟨S4x256x128x128, .f32⟩
  | .hbm, ⟨7, _⟩ => ⟨S4x256x4096, .f32⟩
  | .hbm, ⟨8, _⟩ => ⟨S4x256x32x128, .f32⟩
  | .hbm, ⟨9, _⟩ => ⟨S4x256x4096, .f32⟩
  | .hbm, ⟨10, _⟩ => ⟨S4x256x32x128, .f32⟩
  | .hbm, ⟨11, _⟩ => ⟨S4x256x32x4x128, .f32⟩
  | .hbm, ⟨12, _⟩ => ⟨S4x256x128x128, .f32⟩
  | .hbm, ⟨13, _⟩ => ⟨S4x256x32x4x128, .f32⟩
  | .hbm, ⟨14, _⟩ => ⟨S4x256x128x128, .f32⟩
  | .hbm, ⟨15, _⟩ => ⟨S_, .f32⟩
  | .hbm, ⟨16, _⟩ => ⟨S4x256x128x128, .f32⟩
  | .hbm, ⟨17, _⟩ => ⟨S_, .f32⟩
  | .hbm, ⟨18, _⟩ => ⟨S4x128x256x1, .f32⟩
  | .hbm, ⟨19, _⟩ => ⟨S_, .f32⟩
  | .hbm, ⟨20, _⟩ => ⟨S4x128x256x1, .f32⟩
  | .hbm, ⟨21, _⟩ => ⟨S4x128x256x256, .f32⟩
  | .hbm, ⟨22, _⟩ => ⟨S_, .f32⟩
  | .hbm, ⟨23, _⟩ => ⟨S4x128x256x256, .f32⟩
  | .hbm, ⟨24, _⟩ => ⟨S4x128x256x256, .f32⟩
  | .hbm, ⟨25, _⟩ => ⟨S_, .f32⟩
  | .hbm, ⟨26, _⟩ => ⟨S4x128x256, .f32⟩
  | .hbm, ⟨27, _⟩ => ⟨S4x128x256x1, .f32⟩
  | .hbm, ⟨28, _⟩ => ⟨S4x128x256x1, .f32⟩
  | .hbm, ⟨29, _⟩ => ⟨S4x128x256x1, .f32⟩
  | .hbm, ⟨30, _⟩ => ⟨S4x128x256x1, .f32⟩
  | .hbm, ⟨31, _⟩ => ⟨S4x128x256x256, .f32⟩
  | .hbm, ⟨32, _⟩ => ⟨S4x128x256x256, .f32⟩
  | .hbm, ⟨33, _⟩ => ⟨S4x128x256x256, .f32⟩
  | .hbm, ⟨34, _⟩ => ⟨S4x128x256x1, .f32⟩
  | .hbm, ⟨35, _⟩ => ⟨S_, .f32⟩
  | .hbm, ⟨36, _⟩ => ⟨S4x128x256, .f32⟩
  | .hbm, ⟨37, _⟩ => ⟨S4x128x256x1, .f32⟩
  | .hbm, ⟨38, _⟩ => ⟨S4x128x256x1, .f32⟩
  | .hbm, ⟨39, _⟩ => ⟨S4x256x128x1, .f32⟩
  | .hbm, ⟨40, _⟩ => ⟨S4x256x128x128, .f32⟩
  | .hbm, ⟨41, _⟩ => ⟨S4x256x128x128, .f32⟩
  | .hbm, ⟨42, _⟩ => ⟨S4x128x128x256, .f32⟩
  | .hbm, ⟨43, _⟩ => ⟨S4x256x128x128, .f32⟩
  | .hbm, ⟨44, _⟩ => ⟨S4x256x128x128, .f32⟩
  | .hbm, ⟨45, _⟩ => ⟨S4x256x128x1, .f32⟩
  | .hbm, ⟨46, _⟩ => ⟨S4x256x128x128, .f32⟩
  | .hbm, ⟨47, _⟩ => ⟨S4x256x128x128, .f32⟩
  | .hbm, ⟨48, _⟩ => ⟨S4x256x16384, .f32⟩
  | .hbm, ⟨49, _⟩ => ⟨S4x256x1024, .f32⟩
  | .hbm, ⟨50, _⟩ => ⟨S1024x1024, .f32⟩
  | .hbm, ⟨51, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Clean.lean ====
/-
# The kernel's body as a structured program

The printed body of the kernel is one long list of operations.  Here it is written once more with its loops: over
the peers of a device (`ks`), over the batches (`bs`) and over the staged pieces (`slots`).  `body_eq` states that
the two are the same program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic Idealize.ShloMosaic.TcCoe
open Idealize.SL Idealize.SL.Sem

variable {F : FTy → Type} [FloatOps F]

/-! ## Loops -/

/-- The programs `f a` for the entries `a` of a list, one after the other. -/
def seqL {α : Type} (l : List α) (f : α → Prog (TpuEff nD τ sig (Elt F) Λ₀ .tc) PUnit) :
    Prog (TpuEff nD τ sig (Elt F) Λ₀ .tc) PUnit :=
  match l with
  | [] => pure ⟨⟩
  | a :: l => f a >>= fun _ => seqL l f

/-- The peers of a device, by their distance from it less one. -/
def ks : List (Fin 15) := [0, 1, 2, 3, 4, 5, 6, 7, 8, 9, 10, 11, 12, 13, 14]

/-- The batches. -/
def bs : List (Fin 4) := [0, 1, 2, 3]

/-- The devices, as the pieces staged on a device are numbered. -/
def slots : List (Fin 16) := [0, 1, 2, 3, 4, 5, 6, 7, 8, 9, 10, 11, 12, 13, 14, 15]

/-! ## Devices -/

/-- The device at distance `kw` from `d0`, as the kernel computes its logical id. -/
def dw (kw : BitVec 32) (d0 : Dev nD) : Nat :=
  let v2 : BitVec 32 := Scalar.remsi (Scalar.divsi (Dev.word d0) 1#32) 16#32
  let v20 : BitVec 32 := Scalar.addi v2 kw
  let v21 : BitVec 1 := Scalar.cmpi .eq 16#32 0#32
  let v22 : BitVec 32 := Scalar.select v21 1#32 16#32
  let v23 : BitVec 32 := Scalar.remsi v20 v22
  let v25 : BitVec 1 := Scalar.cmpi .slt v23 0#32
  let v26 : BitVec 1 := Scalar.cmpi .slt v22 0#32
  let v27 : BitVec 1 := Scalar.xori v25 v26
  let v24 : BitVec 1 := Scalar.cmpi .ne v23 0#32
  let v28 : BitVec 1 := Scalar.andi v27 v24
  let v29 : BitVec 32 := Scalar.addi v23 v22
  let v30 : BitVec 32 := Scalar.select v28 v29 v23
  let v31 : BitVec 32 := Scalar.muli v30 1#32
  let v32 : BitVec 32 := Scalar.addi 0#32 v31
  v32.toNat

theorem dw_eq : ∀ (k : Fin 15) (d0 : Dev nD), dw (BitVec.ofNat 32 (1 + k.val)) d0 = (d0.val + 1 + k.val) % 16 := by
  decide +kernel

theorem dw_lt (k : Fin 15) (d0 : Dev nD) : dw (BitVec.ofNat 32 (1 + k.val)) d0 < nD := by
  rw [dw_eq]; exact Nat.mod_lt _ (by decide)

/-- The peer of `c` at distance `k + 1`. -/
def dv (c : Dev nD) (k : Fin 15) : Dev nD := ⟨dw (BitVec.ofNat 32 (1 + k.val)) c, dw_lt k c⟩

/-! ## Memory and semaphores -/

abbrev xM : Memref sig .tc .vmem S4x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkH : Memref sig .tc .hbm S1024x4096 .f32 := Memref.whole main_arg3
abbrev wvH : Memref sig .tc .hbm S1024x4096 .f32 := Memref.whole main_arg4
abbrev outH : Memref sig .tc .hbm S1024x1024 .bf16 := Memref.whole main_v1
abbrev wkM : Memref sig .tc .vmem S1024x256 .f32 := Memref.whole cc0_scratch0
abbrev wvM : Memref sig .tc .vmem S1024x256 .f32 := Memref.whole cc0_scratch1
abbrev sendB : Memref sig .tc .vmem S1024x1024 .bf16 := Memref.whole cc0_scratch2
abbrev stageB : Memref sig .tc .vmem S64x16x1024 .bf16 := Memref.whole cc0_scratch3
abbrev agB : Memref sig .tc .vmem S64x1024 .bf16 := Memref.whole cc0_scratch4

theorem inb2 : ∀ (i : Fin 2) a, (![i.val] : Fin 1 → Nat) a + S1.size a ≤ S2.size a := by decide
theorem inb4 : ∀ (b : Fin 4) a, (![b.val] : Fin 1 → Nat) a + S1.size a ≤ S4.size a := by decide

/-- The semaphores of the two local copies of `Wk` and `Wv`. -/
def localS (i : Fin 2) : DmaSem sig :=
  ((cc0_scratch5.slice (Rect.unit (s := S2) ![i.val] S1.size (inb2 i))).squeeze S_ squeezes_S1_S_).sem
/-- The semaphore of the copy of the own piece of batch `b` to the result. -/
def ownS (b : Fin 4) : DmaSem sig :=
  ((cc0_scratch6.slice (Rect.unit (s := S4) ![b.val] S1.size (inb4 b))).squeeze S_ squeezes_S1_S_).sem
/-- The semaphore of the scattered pieces of batch `b`, on the receiver. -/
def rsR (b : Fin 4) : DmaSem sig :=
  ((cc0_scratch8.slice (Rect.unit (s := S4) ![b.val] S1.size (inb4 b))).squeeze S_ squeezes_S1_S_).sem
/-- The semaphore of the scattered pieces, on the sender. -/
def rsS : DmaSem sig := cc0_scratch7.sem
/-- The semaphore of the gathered pieces, on the sender. -/
def agS : DmaSem sig := cc0_scratch9.sem
/-- The semaphore of the gathered pieces, on the receiver. -/
def agR : DmaSem sig := cc0_scratch10.sem
/-- The barrier semaphore. -/
def barS : Sem sig := (SemArray.scalar (sig.barrier 0 rfl) : Sems sig S_).sem

/-- The columns of `Wk` that a device reads. -/
def wkSl (c : Dev nD) : Memref sig .tc .hbm S1024x256 .f32 :=
  wkH.slice (Rect.unit (s := S1024x4096) (k0_off1 c) S1024x256.size (k0_off1_inb c)) (fun _ => rfl)
/-- The columns of `Wv` that a device reads. -/
def wvSl (c : Dev nD) : Memref sig .tc .hbm S1024x256 .f32 :=
  wvH.slice (Rect.unit (s := S1024x4096) (k0_off1 c) S1024x256.size (k0_off1_inb c)) (fun _ => rfl)
/-- The piece of batch `b` that `c` sends to its peer `k`. -/
def sendM (c : Dev nD) (b : Fin 4) (k : Fin 15) : Memref sig .tc .vmem S16x1024 .bf16 :=
  sendB.slice (Rect.unit (s := S1024x1024) (k0_off4 c (BitVec.ofNat 32 (256 * b.val)) (BitVec.ofNat 32 (1 + k.val))) S16x1024.size (k0_off4_inb c b k)) (fun _ => rfl)
/-- Where `c`'s pieces of batch `b` are staged on its peers. -/
def stageM (c : Dev nD) (b : Fin 4) : Memref sig .tc .vmem S16x1024 .bf16 :=
  (stageB.slice (Rect.unit (s := S64x16x1024) (k0_off3 c (BitVec.ofNat 32 b.val)) S1x16x1024.size (k0_off3_inb c b)) (fun _ => rfl)).squeeze S16x1024 squeezes_S1x16x1024_S16x1024

theorem inbAg : ∀ (b : Fin 4) a, (![16 * b.val, 0] : Fin 2 → Nat) a + S16x1024.size a ≤ S64x1024.size a := by decide
theorem wordsAg : ∀ b : Fin 4, (Rect.unit (s := S64x1024) ![16 * b.val, 0] S16x1024.size (inbAg b)).WholeWords (EltTy.packing .bf16) := by decide
theorem packAg : ∀ b : Fin 4, (Rect.unit (s := S64x1024) ![16 * b.val, 0] S16x1024.size (inbAg b)).PackedRows (EltTy.packing .bf16) := by decide
theorem inbX : ∀ (b : Fin 4) a, (![b.val, 0, 0] : Fin 3 → Nat) a + S1x256x1024.size a ≤ S4x256x1024.size a := by decide
theorem inbSend : ∀ (b : Fin 4) a, (![256 * b.val, 0] : Fin 2 → Nat) a + S256x1024.size a ≤ S1024x1024.size a := by decide
theorem packSend : ∀ b : Fin 4, (Rect.unit (s := S1024x1024) ![256 * b.val, 0] S256x1024.size (inbSend b)).PackedRows (EltTy.packing .bf16) := by decide
theorem inbStage : ∀ (k : Fin 16) (b : Fin 4) a, (![4 * k.val + b.val, 0, 0] : Fin 3 → Nat) a + S1x16x1024.size a ≤ S64x16x1024.size a := by decide

/-- The finished piece of batch `b`. -/
def agM (b : Fin 4) : Memref sig .tc .vmem S16x1024 .bf16 :=
  agB.slice (Rect.unit (s := S64x1024) ![16 * b.val, 0] S16x1024.size (inbAg b)) (fun _ => rfl)
/-- Where `c`'s finished piece of batch `b` belongs in the result. -/
def outM (c : Dev nD) (b : Fin 4) : Memref sig .tc .hbm S16x1024 .bf16 :=
  outH.slice (Rect.unit (s := S1024x1024) (k0_off6 c (BitVec.ofNat 32 (256 * b.val))) S16x1024.size (k0_off6_inb c b)) (fun _ => rfl)
/-- The piece that only says how much a wait waits for. -/
def firstM : Memref sig .tc .vmem S16x1024 .bf16 :=
  sendB.slice (Rect.unit (s := S1024x1024) ![0, 0] S16x1024.size inb_S1024x1024_S16x1024_0_0) (fun _ => rfl)

theorem wkSl_word (c : Dev nD) : (wkSl c).view.WordExact := View.wordExact_bits rfl
theorem wvSl_word (c : Dev nD) : (wvSl c).view.WordExact := View.wordExact_bits rfl
theorem sendM_word (c : Dev nD) (b : Fin 4) (k : Fin 15) : (sendM c b k).view.WordExact :=
  (Memref.isWhole_whole _).wordExact_slice rfl _ (k0_off4_wordsbf16 c b k)
theorem stageM_word (c : Dev nD) (b : Fin 4) : (stageM c b).view.WordExact :=
  ((Memref.isWhole_whole _).wordExact_slice rfl _ (k0_off3_wordsbf16 c b)).reshape _ _
theorem agM_word (b : Fin 4) : (agM b).view.WordExact :=
  (Memref.isWhole_whole _).wordExact_slice rfl _ (wordsAg b)
theorem outM_word (c : Dev nD) (b : Fin 4) : (outM c b).view.WordExact :=
  (Memref.isWhole_whole _).wordExact_slice rfl _ (k0_off6_wordsbf16 c b)
theorem firstM_word : firstM.view.WordExact :=
  (Memref.isWhole_whole _).wordExact_slice rfl _ wordsbf16_S1024x1024_S16x1024_0_0

/-! ## The values computed -/

theorem slicesQ : ∀ h : Fin 8, S256x1024.Slices ![0, 128 * h.val] S256x128 := by decide
theorem slicesK : ∀ h : Fin 8, S256x256.Slices ![0, 128 * (h.val / 4)] S256x128 := by decide

/-- The scaled queries of one batch. -/
def qOf (wq : FVec F S1024x1024 .bf16) (x : FVec F S256x1024 .bf16) : FVec F S256x1024 .bf16 :=
  truncf .bf16 (mulf (matmul dot_S256x1024_S1024x1024_S256x1024_1_0_0_1_n_n none x wq (constant S256x1024 .f32 0x00000000#32))
    (broadcast S256x1024 (Scalar.ofBits .f32 0x3DB504F3#32))) bitsLt_bf16_f32

/-- The keys, or the values, of one batch. -/
def kvOf (w : FVec F S1024x256 .bf16) (x : FVec F S256x1024 .bf16) : FVec F S256x256 .bf16 :=
  truncf .bf16 (matmul dot_S256x1024_S1024x256_S256x256_1_0_0_1_n_n none x w (constant S256x256 .f32 0x00000000#32)) bitsLt_bf16_f32

/-- The exponentials of the scores less their row's maximum. -/
def expOf (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The exponentials over their row's sum. -/
def normOf (p : FVec F S256x256 .f32) : FVec F S256x256 .bf16 :=
  truncf .bf16 (divf p (broadcastTo S256x256 (shapeCast S256x1 (multiReduction .add [1] S256 p 0x00000000#32 reduces_S256x256_S256 (.inl rfl) rfl) shapeCasts_S256_S256x1) broadcasts_S256x1_S256x256)) bitsLt_bf16_f32

/-- One head's attention: head `h` of the queries with the key and value head it shares. -/
def headOf (q : FVec F S256x1024 .bf16) (k v : FVec F S256x256 .bf16) (h : Fin 8) : FVec F S256x128 .f32 :=
  matmul dot_S256x256_S256x128_S256x128_1_0_0_1_n_n none
    (normOf (expOf (matmul dot_S256x128_S256x128_S256x256_1_1_0_0_n_n none
      (extractStridedSlice S256x128 ![0, 128 * h.val] q (slicesQ h))
      (extractStridedSlice S256x128 ![0, 128 * (h.val / 4)] k (slicesK h))
      (constant S256x256 .f32 0x00000000#32))))
    (extractStridedSlice S256x128 ![0, 128 * (h.val / 4)] v (slicesK h)) (constant S256x128 .f32 0x00000000#32)

/-- The eight heads side by side. -/
def catOf (f : Fin 8 → FVec F S256x128 .f32) : FVec F S256x1024 .f32 :=
  concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
    concatenates_S256x128_S256x128_S256x128_S256x128_S256x128_S256x128_S256x128_S256x128_S256x1024_d1

/-- A device's share of one batch of the result: its heads through its rows of `Wo`. -/
def partOf (wq wo : FVec F S1024x1024 .bf16) (wk wv : FVec F S1024x256 .bf16) (x : Vec F S1x256x1024 .f32) : FVec F S256x1024 .bf16 :=
  shapeCast S256x1024 (truncf .bf16 (matmul dot_S256x1024_S1024x1024_S256x1024_1_0_0_1_n_n none
    (truncf .bf16 (catOf fun h => headOf (qOf wq (k0_pay6 x)) (kvOf wk (k0_pay6 x)) (kvOf wv (k0_pay6 x)) h) bitsLt_bf16_f32)
    wo (constant S256x1024 .f32 0x00000000#32)) bitsLt_bf16_f32) shapeCasts_S256x1024_S256x1024

/-- One staged piece more. -/
def accStep (a : FVec F S16x1024 .f32) (v : Vec F S1x16x1024 .bf16) : FVec F S16x1024 .f32 :=
  addf a (extf .f32 (shapeCast S16x1024 v shapeCasts_S1x16x1024_S16x1024) bitsLt_bf16_f32)

/-! ## The program -/

/-- Add up the staged pieces of batch `b` of the devices of a list. -/
def accL (b : Fin 4) (l : List (Fin 16)) (a : FVec F S16x1024 .f32) : Prog (TpuEff nD τ sig (Elt F) Λ₀ .tc) (FVec F S16x1024 .f32) :=
  match l with
  | [] => pure a
  | k :: l => do
    let v : Vec F S1x16x1024 .bf16 ← Prog.lift (.load stageB (Rect.unit (s := S64x16x1024) ![4 * k.val + b.val, 0, 0] S1x16x1024.size (inbStage k b)).toLoadRect (View.loadsAt_vmem h_S1x16x1024))
    accL b l (accStep a v)

/-- Start the two local copies and clear the own staged pieces. -/
def startOf (c : Dev nD) : Prog (TpuEff nD τ sig (Elt F) Λ₀ .tc) PUnit := do
  Prog.lift (.enqueueDma (wkSl c) (.here wkM) (.dma (localS 0)) (wkSl_word c) (Memref.isWhole_whole _).wordExact ⟨Or.inl rfl, trivial⟩)
  Prog.lift (.enqueueDma (wvSl c) (.here wvM) (.dma (localS 1)) (wvSl_word c) (Memref.isWhole_whole _).wordExact ⟨Or.inl rfl, trivial⟩)
  let _ : Vec F S4x16x1024 .bf16 ← Prog.lift (.load stageB (Rect.unit (s := S64x16x1024) (k0_off2 c) S4x16x1024.size (k0_off2_inb c)).toLoadRect (View.loadsAt_vmem h_S4x16x1024))
  Prog.lift (.store stageB (Rect.unit (s := S64x16x1024) (k0_off2 c) S4x16x1024.size (k0_off2_inb c)) (k0_pay1 (F := F)) Finset.univ (View.stores_vmem h_S4x16x1024 ((Memref.isWhole_whole _).storeExact_slice rfl _ (k0_off2_packedbf16 c)) (fun _ => rfl)) (.inl rfl))

/-- The barrier with the peers. -/
def barrierOf (c : Dev nD) : Prog (TpuEff nD τ sig (Elt F) Λ₀ .tc) PUnit := do
  seqL ks fun k => semSignalWord (dv c k) barS 1#32
  semWaitWord barS 15#32

/-- Compute batch `b` and store it. -/
def computeOf (wq wo : FVec F S1024x1024 .bf16) (wk wv : FVec F S1024x256 .bf16) (b : Fin 4) : Prog (TpuEff nD τ sig (Elt F) Λ₀ .tc) PUnit := do
  let x : Vec F S1x256x1024 .f32 ← Prog.lift (.load xM (Rect.unit (s := S4x256x1024) ![b.val, 0, 0] S1x256x1024.size (inbX b)).toLoadRect (View.loadsAt_vmem h_S1x256x1024))
  let _ : Vec F S256x1024 .bf16 ← Prog.lift (.load sendB (Rect.unit (s := S1024x1024) ![256 * b.val, 0] S256x1024.size (inbSend b)).toLoadRect (View.loadsAt_vmem h_S256x1024))
  Prog.lift (.store sendB (Rect.unit (s := S1024x1024) ![256 * b.val, 0] S256x1024.size (inbSend b)) (partOf wq wo wk wv x) Finset.univ (View.stores_vmem h_S256x1024 ((Memref.isWhole_whole _).storeExact_slice rfl _ (packSend b)) (fun _ => rfl)) (.inl rfl))

/-- Scatter batch `b`: each peer its piece. -/
def scatterOf (c : Dev nD) (b : Fin 4) : Prog (TpuEff nD τ sig (Elt F) Λ₀ .tc) PUnit :=
  seqL ks fun k => Prog.lift (.enqueueDma (sendM c b k) (.remote (Dev.tc (dv c k)) (stageM c b) (.dma rsS)) (.dma (rsR b)) (sendM_word c b k) (stageM_word c b) ⟨⟨rfl, Or.inl rfl⟩, trivial⟩)

/-- Wait for the pieces of batch `b`. -/
def arrivedOf (b : Fin 4) : Prog (TpuEff nD τ sig (Elt F) Λ₀ .tc) PUnit :=
  seqL ks fun _ => Prog.lift (.waitDma2 (rsR b) firstM firstM firstM_word firstM_word)

/-- Add the pieces of batch `b` and store the sum. -/
def reduceOf (c : Dev nD) (b : Fin 4) : Prog (TpuEff nD τ sig (Elt F) Λ₀ .tc) PUnit := do
  let own : Vec F S16x1024 .bf16 ← Prog.lift (.load sendB (Rect.unit (s := S1024x1024) (k0_off5 c (BitVec.ofNat 32 (256 * b.val))) S16x1024.size (k0_off5_inb c b)).toLoadRect (View.loadsAt_vmem h_S16x1024))
  let a ← accL b slots (extf .f32 own bitsLt_bf16_f32)
  let _ : Vec F S16x1024 .bf16 ← Prog.lift (.load agB (Rect.unit (s := S64x1024) ![16 * b.val, 0] S16x1024.size (inbAg b)).toLoadRect (View.loadsAt_vmem h_S16x1024))
  Prog.lift (.store agB (Rect.unit (s := S64x1024) ![16 * b.val, 0] S16x1024.size (inbAg b)) (shapeCast S16x1024 (truncf .bf16 a bitsLt_bf16_f32) shapeCasts_S16x1024_S16x1024) Finset.univ (View.stores_vmem h_S16x1024 ((Memref.isWhole_whole _).storeExact_slice rfl _ (packAg b)) (fun _ => rfl)) (.inl rfl))

/-- Put the finished piece of batch `b` into every device's result. -/
def gatherOf (c : Dev nD) (b : Fin 4) : Prog (TpuEff nD τ sig (Elt F) Λ₀ .tc) PUnit := do
  Prog.lift (.enqueueDma (agM b) (.here (outM c b)) (.dma (ownS b)) (agM_word b) (outM_word c b) ⟨Or.inl rfl, trivial⟩)
  seqL ks fun k => Prog.lift (.enqueueDma (agM b) (.remote (Dev.tc (dv c k)) (outM c b) (.dma agS)) (.dma agR) (agM_word b) (outM_word c b) ⟨⟨rfl, Or.inl rfl⟩, trivial⟩)

/-- Finish batch `b`. -/
def finishOf (c : Dev nD) (b : Fin 4) : Prog (TpuEff nD τ sig (Elt F) Λ₀ .tc) PUnit := do
  arrivedOf b
  reduceOf c b
  gatherOf c b

/-- Wait for everything still in flight. -/
def drainOf (c : Dev nD) : Prog (TpuEff nD τ sig (Elt F) Λ₀ .tc) PUnit := do
  seqL bs fun _ => seqL ks fun _ => Prog.lift (.waitDma2 agR firstM firstM firstM_word firstM_word)
  seqL bs fun b => Prog.lift (.waitDma2 (ownS b) (agM b) (outM c b) (agM_word b) (outM_word c b))
  seqL bs fun b => seqL ks fun k => Prog.lift (.waitDma2 rsS (stageM c b) (sendM c b k) (stageM_word c b) (sendM_word c b k))
  seqL bs fun b => seqL ks fun _ => Prog.lift (.waitDma2 agS (outM c b) (agM b) (outM_word c b) (agM_word b))

/-- The weights as the computation takes them, once the local copies have landed. -/
def weightsOf {α : Type} (c : Dev nD) (K : (wq wo : FVec F S1024x1024 .bf16) → (wk wv : FVec F S1024x256 .bf16) → Prog (TpuEff nD τ sig (Elt F) Λ₀ .tc) α) :
    Prog (TpuEff nD τ sig (Elt F) Λ₀ .tc) α := do
  let wq : Vec F S1024x1024 .f32 ← Prog.lift (.load wqM (Rect.unit (s := S1024x1024) ![0, 0] S1024x1024.size inb_S1024x1024_S1024x1024_0_0).toLoadRect (View.loadsAt_vmem h_S1024x1024))
  let wo : Vec F S1024x1024 .f32 ← Prog.lift (.load woM (Rect.unit (s := S1024x1024) ![0, 0] S1024x1024.size inb_S1024x1024_S1024x1024_0_0).toLoadRect (View.loadsAt_vmem h_S1024x1024))
  Prog.lift (.waitDma2 (localS 0) (wkSl c) wkM (wkSl_word c) (Memref.isWhole_whole _).wordExact)
  Prog.lift (.waitDma2 (localS 1) (wvSl c) wvM (wvSl_word c) (Memref.isWhole_whole _).wordExact)
  let wk : Vec F S1024x256 .f32 ← Prog.lift (.load wkM (Rect.unit (s := S1024x256) ![0, 0] S1024x256.size inb_S1024x256_S1024x256_0_0).toLoadRect (View.loadsAt_vmem h_S1024x256))
  let wv : Vec F S1024x256 .f32 ← Prog.lift (.load wvM (Rect.unit (s := S1024x256) ![0, 0] S1024x256.size inb_S1024x256_S1024x256_0_0).toLoadRect (View.loadsAt_vmem h_S1024x256))
  K (k0_pay2 wq) (k0_pay3 wo) (k0_pay4 wk) (k0_pay5 wv)

/-- The whole body. -/
def clean : Prog (TpuEff nD τ sig (Elt F) Λ₀ .tc) PUnit := do
  let c : Dev nD ← Prog.lift .deviceId
  startOf c
  barrierOf c
  weightsOf c fun wq wo wk wv => do
    computeOf wq wo wk wv 0
    scatterOf c 0
    computeOf wq wo wk wv 1
    scatterOf c 1
    finishOf c 0
    computeOf wq wo wk wv 2
    scatterOf c 2
    finishOf c 1
    computeOf wq wo wk wv 3
    scatterOf c 3
    finishOf c 2
    finishOf c 3
    drainOf c

/-! ## The printed body is this program -/

theorem body_eq (t : Fin cfg0.N) : bodyAt0 (F := F) t = clean (F := F) := by
  unfold bodyAt0
  rw [cc0_body_eq_skeleton]
  sl_kernel_rfl

end Cert.Attn

end
-- ==== Proof.Pieces.lean ====
/-
# The pieces of the buffers, and what they hold

The buffer `sendB` and the result have a piece of sixteen rows per batch and device, the buffer `stageB` a slot per
device and batch, the buffer `agB` a piece per batch.  Here are the sets of elements of these pieces, told by the
label of an element, and what each buffer holds when the kernel is done with it.
-/
module

public import proofs.«01_k».proof.Proof.Clean
public import proofs.«01_k».proof.Proof.Gen.KernelIdeal.Frame

@[expose] public section

namespace Cert.Attn

open Cert.KernelIdeal Cert.KernelIdeal.Gen

open Idealize.ShloMosaic Idealize.ShloMosaic.TcCoe
open Idealize.SL Idealize.SL.Sem

variable {F : FTy → Type} [FloatOps F]

/-! ## Peers -/

/-- The distance of `e` from `c`, less one. -/
noncomputable def kOf (c e : Dev nD) : Fin 15 := if h : (e.val + 15 - c.val) % 16 < 15 then ⟨(e.val + 15 - c.val) % 16, h⟩ else 0

theorem dv_val (c : Dev nD) (k : Fin 15) : (dv c k).val = (c.val + 1 + k.val) % 16 := dw_eq k c

theorem kOf_dv (c : Dev nD) (k : Fin 15) : kOf c (dv c k) = k := by
  have hc : c.val < 16 := c.isLt
  have hk := k.isLt
  have h := dv_val c k
  have e : ((dv c k).val + 15 - c.val) % 16 = k.val := by omega
  unfold kOf
  rw [dif_pos (by omega)]
  exact Fin.ext e

theorem dv_kOf (c e : Dev nD) (h : e ≠ c) : dv c (kOf c e) = e := by
  have hc : c.val < 16 := c.isLt
  have he : e.val < 16 := e.isLt
  have hne : e.val ≠ c.val := fun h' => h (Fin.ext h')
  have hlt : (e.val + 15 - c.val) % 16 < 15 := by omega
  refine Fin.ext ?_
  rw [dv_val]
  unfold kOf
  rw [dif_pos hlt]
  show (c.val + 1 + (e.val + 15 - c.val) % 16) % 16 = e.val
  omega

theorem dv_ne (c : Dev nD) (k : Fin 15) : dv c k ≠ c := by
  intro h
  have h1 := dv_val c k
  rw [h] at h1
  have hc : c.val < 16 := c.isLt
  have hk := k.isLt
  omega

/-! ## Labels -/

/-- The batch of a row of `sendB` or of the result. -/
noncomputable def rb (i : S1024x1024.Idx) : Fin 4 := ⟨(i 0).val / 256, by have h : (i 0).val < 1024 := (i 0).isLt; omega⟩
/-- The device of a row of `sendB` or of the result. -/
noncomputable def re (i : S1024x1024.Idx) : Dev nD := ⟨(i 0).val % 256 / 16, by show _ < 16; omega⟩
/-- The batch of a slot of `stageB`. -/
noncomputable def sb (i : S64x16x1024.Idx) : Fin 4 := ⟨(i 0).val % 4, by omega⟩
/-- The device of a slot of `stageB`. -/
noncomputable def sd (i : S64x16x1024.Idx) : Dev nD := ⟨(i 0).val / 4, by have h : (i 0).val < 64 := (i 0).isLt; show _ < 16; omega⟩
/-- The batch of a row of `agB`. -/
noncomputable def ab (i : S64x1024.Idx) : Fin 4 := ⟨(i 0).val / 16, by have h : (i 0).val < 64 := (i 0).isLt; omega⟩

/-- The rows of batch `b`. -/
noncomputable def rowsB (b : Fin 4) : Finset S1024x1024.Idx := Finset.univ.filter fun i => rb i = b
/-- The rows of batch `b` of device `e`. -/
noncomputable def rowsP (b : Fin 4) (e : Dev nD) : Finset S1024x1024.Idx := (rowsB b).filter fun i => re i = e
/-- The slots of batch `b`. -/
noncomputable def slotB (b : Fin 4) : Finset S64x16x1024.Idx := Finset.univ.filter fun i => sb i = b
/-- The slot of batch `b` of device `e`. -/
noncomputable def slotP (b : Fin 4) (e : Dev nD) : Finset S64x16x1024.Idx := (slotB b).filter fun i => sd i = e
/-- The slots of device `e`. -/
noncomputable def slotD (e : Dev nD) : Finset S64x16x1024.Idx := Finset.univ.filter fun i => sd i = e
/-- The rows of `agB` of batch `b`. -/
noncomputable def agP (b : Fin 4) : Finset S64x1024.Idx := Finset.univ.filter fun i => ab i = b

theorem mem_rowsB {b : Fin 4} {i : S1024x1024.Idx} : i ∈ rowsB b ↔ rb i = b := by simp [rowsB]
theorem mem_rowsP {b : Fin 4} {e : Dev nD} {i : S1024x1024.Idx} : i ∈ rowsP b e ↔ rb i = b ∧ re i = e := by simp [rowsP, mem_rowsB]
theorem mem_slotB {b : Fin 4} {i : S64x16x1024.Idx} : i ∈ slotB b ↔ sb i = b := by simp [slotB]
theorem mem_slotP {b : Fin 4} {e : Dev nD} {i : S64x16x1024.Idx} : i ∈ slotP b e ↔ sb i = b ∧ sd i = e := by simp [slotP, mem_slotB]
theorem mem_slotD {e : Dev nD} {i : S64x16x1024.Idx} : i ∈ slotD e ↔ sd i = e := by simp [slotD]
theorem mem_agP {b : Fin 4} {i : S64x1024.Idx} : i ∈ agP b ↔ ab i = b := by simp [agP]

/-! ## The pieces as memory references -/

theorem inbP : ∀ (b : Fin 4) (e : Dev nD) a, (![256 * b.val + 16 * e.val, 0] : Fin 2 → Nat) a + S16x1024.size a ≤ S1024x1024.size a := by decide
theorem inbSlot : ∀ (b : Fin 4) (e : Dev nD) a, (![4 * e.val + b.val, 0, 0] : Fin 3 → Nat) a + S1x16x1024.size a ≤ S64x16x1024.size a := by decide
theorem inbOwn : ∀ (e : Dev nD) a, (![4 * e.val, 0, 0] : Fin 3 → Nat) a + S4x16x1024.size a ≤ S64x16x1024.size a := by decide

/-- The rows of `sendB` of batch `b` and device `e`. -/
noncomputable def pieceM (b : Fin 4) (e : Dev nD) : Memref sig .tc .vmem S16x1024 .bf16 :=
  sendB.slice (Rect.unit (s := S1024x1024) ![256 * b.val + 16 * e.val, 0] S16x1024.size (inbP b e)) (fun _ => rfl)
/-- The rows of the result of batch `b` and device `e`. -/
noncomputable def rowM (b : Fin 4) (e : Dev nD) : Memref sig .tc .hbm S16x1024 .bf16 :=
  outH.slice (Rect.unit (s := S1024x1024) ![256 * b.val + 16 * e.val, 0] S16x1024.size (inbP b e)) (fun _ => rfl)
/-- The slot of batch `b` and device `e`. -/
noncomputable def slotM (b : Fin 4) (e : Dev nD) : Memref sig .tc .vmem S16x1024 .bf16 :=
  (stageB.slice (Rect.unit (s := S64x16x1024) ![4 * e.val + b.val, 0, 0] S1x16x1024.size (inbSlot b e)) (fun _ => rfl)).squeeze S16x1024 squeezes_S1x16x1024_S16x1024
/-- The rows of `sendB` of batch `b`, as stored. -/
noncomputable def batchV (b : Fin 4) : View sig .tc .vmem S256x1024 .bf16 :=
  sendB.access (Rect.unit (s := S1024x1024) ![256 * b.val, 0] S256x1024.size (inbSend b))
/-- The slots of device `e`, as stored. -/
noncomputable def ownV (e : Dev nD) : View sig .tc .vmem S4x16x1024 .bf16 :=
  stageB.access (Rect.unit (s := S64x16x1024) ![4 * e.val, 0, 0] S4x16x1024.size (inbOwn e))
/-- The rows of `agB` of batch `b`, as stored. -/
noncomputable def agV (b : Fin 4) : View sig .tc .vmem S16x1024 .bf16 :=
  agB.access (Rect.unit (s := S64x1024) ![16 * b.val, 0] S16x1024.size (inbAg b))

theorem unit_slice_congr {sp : Space} {s : Shape} {e : EltTy} (M : Memref sig .tc sp s e) {off off' : Fin s.rank → Nat} {sz : Fin s.rank → Nat}
    (h : off = off') (p : ∀ a, off a + sz a ≤ s.size a) (p' : ∀ a, off' a + sz a ≤ s.size a) (q q') :
    M.slice (Rect.unit (s := s) off sz p) q = M.slice (Rect.unit (s := s) off' sz p') q' := by subst h; rfl

theorem off4_eq : ∀ (c : Dev nD) (b : Fin 4) (k : Fin 15), k0_off4 c (BitVec.ofNat 32 (256 * b.val)) (BitVec.ofNat 32 (1 + k.val)) = ![256 * b.val + 16 * ((c.val + 1 + k.val) % 16), 0] := by
  decide +kernel

theorem sendM_eq (c : Dev nD) (b : Fin 4) (k : Fin 15) : sendM c b k = pieceM b (dv c k) :=
  unit_slice_congr _ (by rw [off4_eq, dv_val]) _ _ (fun _ => rfl) (fun _ => rfl)
theorem outM_eq (c : Dev nD) (b : Fin 4) : outM c b = rowM b c :=
  unit_slice_congr _ (k0_off6_eq c b) _ _ (fun _ => rfl) (fun _ => rfl)
theorem stageM_eq (c : Dev nD) (b : Fin 4) : stageM c b = slotM b c := by
  unfold stageM slotM
  exact congrArg (fun M : Memref sig .tc .vmem S1x16x1024 .bf16 => M.squeeze S16x1024 squeezes_S1x16x1024_S16x1024)
    (unit_slice_congr stageB (k0_off3_eq c b) (k0_off3_inb c b) (inbSlot b c) (fun _ => rfl) (fun _ => rfl))

/-! ## Their elements -/

theorem rows_rect_set (b : Fin 4) (e : Dev nD) :
    (Rect.unit (s := S1024x1024) ![256 * b.val + 16 * e.val, 0] S16x1024.size (inbP b e)).set = rowsP b e := by
  ext i
  have h0 : (i 0).val < 1024 := (i 0).isLt
  have h1 : (i 1).val < 1024 := (i 1).isLt
  have he : e.val < 16 := e.isLt
  have hb := b.isLt
  rw [mem_rowsP, Rect.mem_set_unit, Fin.forall_fin_two]
  simp only [rb, re, Fin.ext_iff]
  show (256 * b.val + 16 * e.val ≤ (i 0).val ∧ (i 0).val < 256 * b.val + 16 * e.val + 16) ∧ (0 ≤ (i 1).val ∧ (i 1).val < 0 + 1024) ↔ _
  omega

theorem batch_rect_set (b : Fin 4) : (Rect.unit (s := S1024x1024) ![256 * b.val, 0] S256x1024.size (inbSend b)).set = rowsB b := by
  ext i
  have h0 : (i 0).val < 1024 := (i 0).isLt
  have h1 : (i 1).val < 1024 := (i 1).isLt
  have hb := b.isLt
  rw [mem_rowsB, Rect.mem_set_unit, Fin.forall_fin_two]
  simp only [rb, Fin.ext_iff]
  show (256 * b.val ≤ (i 0).val ∧ (i 0).val < 256 * b.val + 256) ∧ (0 ≤ (i 1).val ∧ (i 1).val < 0 + 1024) ↔ _
  omega

theorem ag_rect_set (b : Fin 4) : (Rect.unit (s := S64x1024) ![16 * b.val, 0] S16x1024.size (inbAg b)).set = agP b := by
  ext i
  have h0 : (i 0).val < 64 := (i 0).isLt
  have h1 : (i 1).val < 1024 := (i 1).isLt
  have hb := b.isLt
  rw [mem_agP, Rect.mem_set_unit, Fin.forall_fin_two]
  simp only [ab, Fin.ext_iff]
  show (16 * b.val ≤ (i 0).val ∧ (i 0).val < 16 * b.val + 16) ∧ (0 ≤ (i 1).val ∧ (i 1).val < 0 + 1024) ↔ _
  omega

theorem pieceM_set (b : Fin 4) (e : Dev nD) : (pieceM b e).view.set = rowsP b e := (View.set_slice_whole _ _).trans (rows_rect_set b e)
theorem rowM_set (b : Fin 4) (e : Dev nD) : (rowM b e).view.set = rowsP b e := (View.set_slice_whole _ _).trans (rows_rect_set b e)
theorem batchV_set (b : Fin 4) : (batchV b).set = rowsB b := (View.set_slice_whole _ _).trans (batch_rect_set b)
theorem agV_set (b : Fin 4) : (agV b).set = agP b := (View.set_slice_whole _ _).trans (ag_rect_set b)
theorem agM_set (b : Fin 4) : (agM b).view.set = agP b := agV_set b

theorem slot_rect_set (b : Fin 4) (e : Dev nD) :
    (Rect.unit (s := S64x16x1024) ![4 * e.val + b.val, 0, 0] S1x16x1024.size (inbSlot b e)).set = slotP b e := by
  ext i
  have h0 : (i 0).val < 64 := (i 0).isLt
  have h1 : (i 1).val < 16 := (i 1).isLt
  have h2 : (i 2).val < 1024 := (i 2).isLt
  have he : e.val < 16 := e.isLt
  have hb := b.isLt
  rw [mem_slotP, Rect.mem_set_unit, Fin.forall_fin_succ, Fin.forall_fin_two]
  simp only [sb, sd, Fin.ext_iff]
  show (4 * e.val + b.val ≤ (i 0).val ∧ (i 0).val < 4 * e.val + b.val + 1) ∧ (0 ≤ (i 1).val ∧ (i 1).val < 0 + 16) ∧ (0 ≤ (i 2).val ∧ (i 2).val < 0 + 1024) ↔ _
  omega

theorem slotM_set (b : Fin 4) (e : Dev nD) : (slotM b e).view.set = slotP b e :=
  ((View.set_reshape _ _).trans (View.set_slice_whole _ _)).trans (slot_rect_set b e)

theorem own_rect_set (e : Dev nD) : (Rect.unit (s := S64x16x1024) ![4 * e.val, 0, 0] S4x16x1024.size (inbOwn e)).set = slotD e := by
  ext i
  have h0 : (i 0).val < 64 := (i 0).isLt
  have h1 : (i 1).val < 16 := (i 1).isLt
  have h2 : (i 2).val < 1024 := (i 2).isLt
  have he : e.val < 16 := e.isLt
  rw [mem_slotD, Rect.mem_set_unit, Fin.forall_fin_succ, Fin.forall_fin_two]
  simp only [sd, Fin.ext_iff]
  show (4 * e.val ≤ (i 0).val ∧ (i 0).val < 4 * e.val + 4) ∧ (0 ≤ (i 1).val ∧ (i 1).val < 0 + 16) ∧ (0 ≤ (i 2).val ∧ (i 2).val < 0 + 1024) ↔ _
  omega

theorem ownV_set (e : Dev nD) : (ownV e).set = slotD e := (View.set_slice_whole _ _).trans (own_rect_set e)

/-! ## What the buffers hold -/

/-- What a view writes on its own elements does not depend on what was there. -/
theorem write_on {sp : Space} {s : Shape} {e : EltTy} (v : View sig .tc sp s e) (f g : v.ty.Contents (Elt F)) (w : s.Idx → Elt F e)
    {i : v.ty.Idx} (hi : i ∈ v.set) : v.write (Elt F) f w Finset.univ i = v.write (Elt F) g w Finset.univ i := by
  rw [← View.setOn_univ] at hi
  obtain ⟨x, -, rfl⟩ := Finset.mem_map.mp hi
  rw [View.write_emb_of_mem _ _ (Finset.mem_univ x), View.write_emb_of_mem _ _ (Finset.mem_univ x)]

variable (m : (ℓ : Loc nD τ sig) → Buf (Elt F) ℓ)

/-- The one grid point. -/
noncomputable def t₀ : Fin cfg0.N := ⟨0, by decide⟩

/-- The staged `x`. -/
noncomputable def xC (c : Dev nD) : (cc0_stg0_0 : Ref sig .tc).ty.Contents (Elt F) := iblk m c 0 t₀
/-- The staged columns of `Wq`. -/
noncomputable def wqC (c : Dev nD) : (cc0_stg1_0 : Ref sig .tc).ty.Contents (Elt F) := iblk m c 1 t₀
/-- The staged rows of `Wo`. -/
noncomputable def woC (c : Dev nD) : (cc0_stg2_0 : Ref sig .tc).ty.Contents (Elt F) := iblk m c 2 t₀
/-- The copied columns of `Wk`. -/
noncomputable def wkC (c : Dev nD) : (cc0_scratch0 : Ref sig .tc).ty.Contents (Elt F) := (wkSl c).view.read (Elt F) (m ((c : Thread nD τ).loc main_arg3))
/-- The copied columns of `Wv`. -/
noncomputable def wvC (c : Dev nD) : (cc0_scratch1 : Ref sig .tc).ty.Contents (Elt F) := (wvSl c).view.read (Elt F) (m ((c : Thread nD τ).loc main_arg4))

/-- One batch of the staged `x`, as loaded. -/
noncomputable def xbC (c : Dev nD) (b : Fin 4) : Vec F S1x256x1024 .f32 :=
  xM.view.readAt (Elt F) (Rect.unit (s := S4x256x1024) ![b.val, 0, 0] S1x256x1024.size (inbX b)).toLoadRect (xC m c)

/-- The share of batch `b` of the result that device `c` computes. -/
noncomputable def partC (c : Dev nD) (b : Fin 4) : FVec F S256x1024 .bf16 :=
  partOf (k0_pay2 (wqC m c)) (k0_pay3 (woC m c)) (k0_pay4 (wkC m c)) (k0_pay5 (wvC m c)) (xbC m c b)

/-- `sendB` of device `c`: its shares of all batches. -/
noncomputable def sendC (c : Dev nD) : (cc0_scratch2 : Ref sig .tc).ty.Contents (Elt F) :=
  fun i => (batchV (rb i)).write (Elt F) (m ((c : Thread nD τ).loc cc0_scratch2)) (partC m c (rb i)) Finset.univ i

/-- `stageB` of device `c`: zeros in its own slots, its peers' pieces in theirs. -/
noncomputable def stageC (c : Dev nD) : (cc0_scratch3 : Ref sig .tc).ty.Contents (Elt F) :=
  fun i => if sd i = c then (ownV c).write (Elt F) (m ((c : Thread nD τ).loc cc0_scratch3)) (k0_pay1 (F := F)) Finset.univ i
    else (slotM (sb i) (sd i)).view.write (Elt F) (m ((c : Thread nD τ).loc cc0_scratch3)) ((pieceM (sb i) c).view.read (Elt F) (sendC m (sd i))) Finset.univ i

/-- The own piece of batch `b`, as loaded. -/
noncomputable def ownP (c : Dev nD) (b : Fin 4) : Vec F S16x1024 .bf16 :=
  sendB.view.readAt (Elt F) (Rect.unit (s := S1024x1024) ![256 * b.val + 16 * c.val, 0] S16x1024.size (inbP b c)).toLoadRect (sendC m c)
/-- The piece of batch `b` staged by device `d`, as loaded. -/
noncomputable def slotV (c : Dev nD) (b : Fin 4) (d : Fin 16) : Vec F S1x16x1024 .bf16 :=
  stageB.view.readAt (Elt F) (Rect.unit (s := S64x16x1024) ![4 * d.val + b.val, 0, 0] S1x16x1024.size (inbStage d b)).toLoadRect (stageC m c)

/-- The sum of the pieces of batch `b`. -/
noncomputable def sumC (c : Dev nD) (b : Fin 4) : FVec F S16x1024 .f32 :=
  slots.foldl (fun a d => accStep a (slotV m c b d)) (extf .f32 (ownP m c b) bitsLt_bf16_f32)

/-- The finished piece of batch `b` of device `c`. -/
noncomputable def doneC (c : Dev nD) (b : Fin 4) : FVec F S16x1024 .bf16 :=
  shapeCast S16x1024 (truncf .bf16 (sumC m c b) bitsLt_bf16_f32) shapeCasts_S16x1024_S16x1024

/-- `agB` of device `c`. -/
noncomputable def agC (c : Dev nD) : (cc0_scratch4 : Ref sig .tc).ty.Contents (Elt F) :=
  fun i => (agV (ab i)).write (Elt F) (m ((c : Thread nD τ).loc cc0_scratch4)) (doneC m c (ab i)) Finset.univ i

/-- The result on device `c`: every device's finished pieces. -/
noncomputable def outC (c : Dev nD) : (main_v1 : Ref sig .tc).ty.Contents (Elt F) :=
  fun i => (rowM (rb i) (re i)).view.write (Elt F) (m ((c : Thread nD τ).loc main_v1)) ((agM (rb i)).view.read (Elt F) (agC m (re i))) Finset.univ i

theorem send_written (c : Dev nD) (b : Fin 4) (f : (cc0_scratch2 : Ref sig .tc).ty.Contents (Elt F)) (i : S1024x1024.Idx) (hi : i ∈ rowsB b) :
    (batchV b).write (Elt F) f (partC m c b) Finset.univ i = sendC m c i := by
  have h := mem_rowsB.mp hi
  rw [← batchV_set b] at hi
  subst h
  exact write_on (batchV (rb i)) _ _ _ hi

theorem stage_cleared (c : Dev nD) (f : (cc0_scratch3 : Ref sig .tc).ty.Contents (Elt F)) (i : S64x16x1024.Idx) (hi : i ∈ slotD c) :
    (ownV c).write (Elt F) f (k0_pay1 (F := F)) Finset.univ i = stageC m c i := by
  have h := mem_slotD.mp hi
  rw [← ownV_set c] at hi
  refine Eq.trans ?_ (if_pos h).symm
  exact write_on (ownV c) _ _ _ hi

theorem stage_landed (c d : Dev nD) (hd : d ≠ c) (b : Fin 4) (f : (cc0_scratch3 : Ref sig .tc).ty.Contents (Elt F)) (i : S64x16x1024.Idx) (hi : i ∈ slotP b d) :
    (slotM b d).view.write (Elt F) f ((pieceM b c).view.read (Elt F) (sendC m d)) Finset.univ i = stageC m c i := by
  obtain ⟨h1, h2⟩ := mem_slotP.mp hi
  rw [← slotM_set b d] at hi
  subst h1 h2
  refine Eq.trans ?_ (if_neg hd).symm
  exact write_on (slotM (sb i) (sd i)).view _ _ _ hi

theorem ag_written (c : Dev nD) (b : Fin 4) (f : (cc0_scratch4 : Ref sig .tc).ty.Contents (Elt F)) (i : S64x1024.Idx) (hi : i ∈ agP b) :
    (agV b).write (Elt F) f (doneC m c b) Finset.univ i = agC m c i := by
  have h := mem_agP.mp hi
  rw [← agV_set b] at hi
  subst h
  exact write_on (agV (ab i)) _ _ _ hi

theorem out_landed (c d : Dev nD) (b : Fin 4) (f : (main_v1 : Ref sig .tc).ty.Contents (Elt F)) (i : S1024x1024.Idx) (hi : i ∈ rowsP b d) :
    (rowM b d).view.write (Elt F) f ((agM b).view.read (Elt F) (agC m d)) Finset.univ i = outC m c i := by
  obtain ⟨h1, h2⟩ := mem_rowsP.mp hi
  rw [← rowM_set b d] at hi
  subst h1 h2
  exact write_on (rowM (rb i) (re i)).view _ _ _ hi

end Cert.Attn
-- ==== Proof.Sched.lean ====
/-
# The schedule of the semaphores

Every semaphore that the kernel owns has one round.  Its duties are named by a batch and a device, and each duty
hands over the memory that its signal or its transfer speaks of:

* the barrier of `c`: device `e` hands over its staging slots for `c`'s pieces and the rows of its result that `c` fills;
* the two local copies: the copied columns and the columns they were copied from;
* the own copies of `c`: the rows of the own result, and the share of the finished piece that was lent;
* the scattered pieces of `c`, received: its slot of the batch and the sender, filled;
* the scattered pieces of `c`, sent: the piece sent;
* the gathered pieces of `c`, received: the rows of the batch and the sender in its result, filled;
* the gathered pieces of `c`, sent: the share of the finished piece that was lent.
-/
module

public import proofs.«01_k».proof.Proof.Pieces

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a round: a batch and a device. -/
abbrev Duty : Type := Fin 4 × Dev nD

abbrev UU : Type := URounds (GSem nD τ sig) Unit × URounds (GSem nD τ sig) Duty

local notation "𝕄" => MT nD τ sig Unit (Elt F) ℕ UU ℕ

noncomputable abbrev EP : Emb (URounds (GSem nD τ sig) Unit) (MT nD τ sig Unit (Elt F) ℕ UU ℕ) := embL
noncomputable abbrev ER : Emb (URounds (GSem nD τ sig) Duty) (MT nD τ sig Unit (Elt F) ℕ UU ℕ) := embR

/-! ## The semaphores by their use -/

/-- What a semaphore is for. -/
inductive Kind where
  | bar
  | loc (i : Fin 2)
  | own (b : Fin 4)
  | rsr (b : Fin 4)
  | rss
  | ags
  | agr
deriving DecidableEq

/-- All uses. -/
def kinds : List Kind := [.bar, .loc 0, .loc 1, .own 0, .own 1, .own 2, .own 3, .rsr 0, .rsr 1, .rsr 2, .rsr 3, .rss, .ags, .agr]

theorem mem_kinds (κ : Kind) : κ ∈ kinds := by
  cases κ with
  | loc i => revert i; decide
  | own b => revert b; decide
  | rsr b => revert b; decide
  | _ => decide

instance : Fintype Kind := ⟨⟨kinds, by decide⟩, mem_kinds⟩

/-- The semaphore of a use. -/
def semOf : Kind → SemLoc sig
  | .bar => .reg barS
  | .loc i => .dma (localS i)
  | .own b => .dma (ownS b)
  | .rsr b => .dma (rsR b)
  | .rss => .dma rsS
  | .ags => .dma agS
  | .agr => .dma agR

/-- The use of a semaphore, if it is one of the kernel's own. -/
def kindOf : SemLoc sig → Option Kind
  | .reg _ => some .bar
  | .dma q => match q.val with
    | 3 => some (.loc 0) | 4 => some (.loc 1)
    | 5 => some (.own 0) | 6 => some (.own 1) | 7 => some (.own 2) | 8 => some (.own 3)
    | 9 => some .rss
    | 10 => some (.rsr 0) | 11 => some (.rsr 1) | 12 => some (.rsr 2) | 13 => some (.rsr 3)
    | 14 => some .ags
    | 15 => some .agr
    | _ => none

theorem kind_sem (κ : Kind) : kindOf (semOf κ) = some κ := by
  cases κ with
  | loc i => revert i; decide
  | own b => revert b; decide
  | rsr b => revert b; decide
  | _ => rfl

/-- The cell of a use on device `c`. -/
abbrev cell (c : Dev nD) (κ : Kind) : GSem nD τ sig := ((c : Thread nD τ), semOf κ)

/-- The credit of one piece of sixteen rows. -/
abbrev N : ℕ := (agM 0).view.dmaCredit
theorem N_pos : 0 < N := View.dmaCredit_pos _ (by decide)
/-- The credit of a local copy of the columns of `Wk` or `Wv`. -/
abbrev NL : ℕ := wkM.view.dmaCredit
theorem NL_pos : 0 < NL := View.dmaCredit_pos _ (by decide)

theorem amt_stage (b : Fin 4) (e : Dev nD) (q : DmaSem sig) : (slotM b e).view.amount (.dma q) = N := rfl
theorem amt_row (b : Fin 4) (e : Dev nD) (q : DmaSem sig) : (rowM b e).view.amount (.dma q) = N := rfl
theorem amt_first (q : DmaSem sig) : firstM.view.amount (.dma q) = N := rfl
theorem amt_piece (b : Fin 4) (e : Dev nD) (q : DmaSem sig) : (pieceM b e).view.amount (.dma q) = N := rfl
theorem amt_ag (b : Fin 4) (q : DmaSem sig) : (agM b).view.amount (.dma q) = N := rfl
theorem amt_wv (q : DmaSem sig) : wvM.view.amount (.dma q) = NL := rfl

/-! ## Duties -/

theorem dv_inj (c : Dev nD) : Function.Injective (dv c) := fun k k' h => by rw [← kOf_dv c k, ← kOf_dv c k', h]

/-- The duties of batch `b` by the peers of `c`. -/
def peersB (c : Dev nD) (b : Fin 4) : Finset Duty :=
  (Finset.univ : Finset (Fin 15)).map ⟨fun k => (b, dv c k), fun k k' h => dv_inj c (congrArg Prod.snd h)⟩
theorem pairs_inj (c : Dev nD) : Function.Injective (fun p : Fin 4 × Fin 15 => ((p.1, dv c p.2) : Duty)) := by
  rintro ⟨b, k⟩ ⟨b', k'⟩ h
  obtain ⟨h1, h2⟩ := Prod.mk.inj h
  exact Prod.ext h1 (dv_inj c h2)

/-- The duties of all batches by the peers of `c`. -/
def peersA (c : Dev nD) : Finset Duty :=
  (Finset.univ : Finset (Fin 4 × Fin 15)).map ⟨fun p => (p.1, dv c p.2), pairs_inj c⟩

theorem mem_peersB {c d : Dev nD} (h : d ≠ c) (b : Fin 4) : (b, d) ∈ peersB c b :=
  Finset.mem_map.mpr ⟨kOf c d, Finset.mem_univ _, Prod.ext rfl (dv_kOf c d h)⟩
theorem mem_peersA {c d : Dev nD} (h : d ≠ c) (b : Fin 4) : (b, d) ∈ peersA c :=
  Finset.mem_map.mpr ⟨(b, kOf c d), Finset.mem_univ _, Prod.ext rfl (dv_kOf c d h)⟩
theorem card_peersB (c : Dev nD) (b : Fin 4) : (peersB c b).card = 15 := (Finset.card_map _).trans (by decide)
theorem card_peersA (c : Dev nD) : (peersA c).card = 60 := (Finset.card_map _).trans (by decide)

/-- The duties of a use on device `c`. -/
def dutK (c : Dev nD) : Option Kind → Finset Duty
  | some .bar => peersB c 0
  | some (.loc _) => {(0, c)}
  | some (.own b) => {(b, c)}
  | some (.rsr b) => peersB c b
  | some .rss => peersA c
  | some .ags => peersA c
  | some .agr => peersA c
  | none => ∅

/-- The amount of each duty of a use. -/
noncomputable def amtK : Option Kind → ℕ
  | some .bar => 1
  | some (.loc _) => NL
  | _ => N

/-! ## Payloads -/

variable (m : (ℓ : Loc nD τ sig) → Buf (Elt F) ℓ)

/-- The share of a finished piece lent to the copy to device `e`. -/
noncomputable abbrev shS (k : Fin 15) : PosShare TreeShare := Transfers.shareTok fullShare 15 k
/-- The share of a finished piece lent to the own copy. -/
noncomputable abbrev shO : PosShare TreeShare := Transfers.shareDrop fullShare 15

/-- What device `e` lends `c` at the barrier. -/
noncomputable def lent (e c : Dev nD) : sProp 𝕄 :=
  iprop((bigSep Finset.univ fun b : Fin 4 => iprop(∃ f : Buf (Elt F) ((e : Thread nD τ).loc cc0_scratch3), ((e : Thread nD τ).loc cc0_scratch3) ↦[slotP b c]{fullShare} f))
    ∗ bigSep Finset.univ fun b : Fin 4 => iprop(∃ f : Buf (Elt F) ((e : Thread nD τ).loc main_v1), ((e : Thread nD τ).loc main_v1) ↦[rowsP b c]{fullShare} f))

/-- The columns of `Wk` or `Wv` that device `c` reads. -/
noncomputable def colS (c : Dev nD) : Finset S1024x4096.Idx := (wkSl c).view.set

/-- What the local copies of the columns of `Wk` and `Wv` hand over. -/
noncomputable def locPay (c : Dev nD) : Fin 2 → sProp 𝕄
  | 0 => iprop((((c : Thread nD τ).loc cc0_scratch0) ↦[Finset.univ]{fullShare} wkC m c) ∗ (((c : Thread nD τ).loc main_arg3) ↦[colS c]{fullShare} m ((c : Thread nD τ).loc main_arg3)))
  | 1 => iprop((((c : Thread nD τ).loc cc0_scratch1) ↦[Finset.univ]{fullShare} wvC m c) ∗ (((c : Thread nD τ).loc main_arg4) ↦[colS c]{fullShare} m ((c : Thread nD τ).loc main_arg4)))

/-- The payload of a duty of a use on device `c`. -/
noncomputable def payK (c : Dev nD) : Option Kind → Duty → sProp 𝕄
  | some .bar, d => lent (F := F) d.2 c
  | some (.loc i), _ => locPay m c i
  | some (.own b), _ => iprop((((c : Thread nD τ).loc main_v1) ↦[rowsP b c]{fullShare} outC m c) ∗ (((c : Thread nD τ).loc cc0_scratch4) ↦[agP b]{shO} agC m c))
  | some (.rsr b), d => iprop(((c : Thread nD τ).loc cc0_scratch3) ↦[slotP b d.2]{fullShare} stageC m c)
  | some .rss, d => iprop(((c : Thread nD τ).loc cc0_scratch2) ↦[rowsP d.1 d.2]{fullShare} sendC m c)
  | some .ags, d => iprop(((c : Thread nD τ).loc cc0_scratch4) ↦[agP d.1]{shS (kOf c d.2)} agC m c)
  | some .agr, d => iprop(((c : Thread nD τ).loc main_v1) ↦[rowsP d.1 d.2]{fullShare} outC m c)
  | none, _ => iprop(emp)

instance lent_storable (e c : Dev nD) : BI.Storable (upEmb : UEmb _ 𝕄) (lent (F := F) e c) := by unfold lent; infer_instance

instance locPay_storable (c : Dev nD) (i : Fin 2) : BI.Storable (upEmb : UEmb _ 𝕄) (locPay m c i) := by
  match i with
  | 0 => dsimp only [locPay]; infer_instance
  | 1 => dsimp only [locPay]; infer_instance

instance payK_storable (c : Dev nD) (κ : Option Kind) (d : Duty) : BI.Storable (upEmb : UEmb _ 𝕄) (payK m c κ d) := by
  rcases κ with _ | κ
  · unfold payK; infer_instance
  · cases κ with
    | _ => unfold payK; infer_instance

/-- The schedule: one round of each of the kernel's semaphores. -/
noncomputable def Rd : Rounds.Schedule (GSem nD τ sig) Duty 𝕄 where
  duties g r := if r = 0 ∧ g.1.2 = .tc then dutK g.1.1 (kindOf g.2) else ∅
  unitless _ := False
  amount g _ _ := amtK (kindOf g.2)
  payload g _ d := payK m g.1.1 (kindOf g.2) d
  amount_pos g _ _ _ := by
    unfold amtK
    split
    · exact Nat.one_pos
    · exact NL_pos
    · exact N_pos

instance Rd_payload_storable (g : GSem nD τ sig) (r : ℕ) (d : Duty) : BI.Storable (upEmb : UEmb _ 𝕄) ((Rd (F := F) m).payload g r d) :=
  payK_storable m g.1.1 (kindOf g.2) d

theorem duties_cell (c : Dev nD) (κ : Kind) : (Rd (F := F) m).duties (cell c κ) 0 = dutK c (some κ) := by
  have h : (0 : ℕ) = 0 ∧ (cell c κ).1.2 = .tc := ⟨rfl, rfl⟩
  exact (if_pos h : (if _ then dutK c (kindOf (semOf κ)) else ∅) = _).trans <| congrArg (dutK c) (kind_sem κ)
theorem amount_cell (c : Dev nD) (κ : Kind) (d : Duty) : (Rd (F := F) m).amount (cell c κ) 0 d = amtK (some κ) := congrArg amtK (kind_sem κ)
theorem payload_cell (c : Dev nD) (κ : Kind) (d : Duty) : (Rd (F := F) m).payload (cell c κ) 0 d = payK m c (some κ) d :=
  congrArg (fun o => payK m c o d) (kind_sem κ)
theorem duties_later (g : GSem nD τ sig) : ∀ r, 1 ≤ r → (Rd (F := F) m).duties g r = ∅ :=
  fun r hr => if_neg fun h => by omega
theorem expect_cell (c : Dev nD) (κ : Kind) : (Rd (F := F) m).expect (cell c κ) 0 = (dutK c (some κ)).card * amtK (some κ) := by
  unfold Schedule.expect Schedule.amountOf
  rw [duties_cell, Finset.sum_congr rfl fun d _ => amount_cell m c κ d, Finset.sum_const, smul_eq_mul]

/-! ## Debts and levels -/

/-- The level of a use: a wait is only made while every debt is above it. -/
def lvK : Option Kind → ℕ
  | some .bar => 1
  | some (.rsr b) => 2 + b.val
  | some .agr => 10
  | _ => 0

def L (g : GSem nD τ sig) : Finset Unit := if g.1.2 = .tc then {()} else ∅
def lv (g : GSem nD τ sig) (_ : Unit) : ℕ := lvK (kindOf g.2)
theorem L_of_ne (g : GSem nD τ sig) (h : g.1.2 ≠ .tc) : L g = ∅ := if_neg h
theorem L_tc (c : Dev nD) (sm : SemLoc sig) : L ((c : Thread nD τ), sm) = {()} := if_pos rfl

/-- Every debt of `O` is on a core and above level `n`. -/
def Above (n : ℕ) (O : CellTallies nD τ sig Unit) : Prop := ∀ g u, 0 < O g u → g.1.2 = .tc ∧ n < lvK (kindOf g.2)

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (κ : Kind) (k : ℕ) (h : n < lvK (some κ)) : Above n (tallyAt (cell c κ) () k) := fun g u hg => by
  rw [tallyAt_apply] at hg
  by_cases hh : g = cell c κ ∧ u = ()
  · rw [hh.1]
    exact ⟨rfl, by rw [show (cell c κ).2 = semOf κ from rfl, kind_sem]; exact h⟩
  · rw [if_neg hh] at hg; exact absurd hg (Nat.lt_irrefl 0)

/-- What is owed to a use on the peers of a list: `k` on each. -/
noncomputable def oweL (c : Dev nD) (κ : Kind) (k : ℕ) : List (Fin 15) → CellTallies nD τ sig Unit
  | [] => 0
  | a :: l => oweL c κ k l + tallyAt (cell (dv c a) κ) () k

theorem above_oweL {n : ℕ} (c : Dev nD) (κ : Kind) (k : ℕ) (h : n < lvK (some κ)) (l : List (Fin 15)) : Above n (oweL c κ k l) := by
  induction l with
  | nil => exact above_zero n
  | cons a l ih => exact above_add ih (above_tally _ _ _ h)

theorem mayWait {n : ℕ} (c : Dev nD) (sm : SemLoc sig) (h : lvK (kindOf sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

/-- What is owed for the gathers of `n` batches. -/
noncomputable def gath (c : Dev nD) : ℕ → CellTallies nD τ sig Unit
  | 0 => 0
  | n + 1 => gath c n + oweL c .agr N ks
/-- What is owed for the scatters of a list of batches. -/
noncomputable def scat (c : Dev nD) : List (Fin 4) → CellTallies nD τ sig Unit
  | [] => 0
  | b :: l => scat c l + oweL c (.rsr b) N ks
/-- What is owed with `n` batches to gather and those of a list to scatter. -/
noncomputable def debt (c : Dev nD) (n : ℕ) (l : List (Fin 4)) : CellTallies nD τ sig Unit := gath c n + scat c l

theorem debt_scat (c : Dev nD) (n : ℕ) (b : Fin 4) (l : List (Fin 4)) : debt c n (b :: l) = debt c n l + oweL c (.rsr b) N ks := (add_assoc _ _ _).symm
theorem debt_gath (c : Dev nD) (n : ℕ) (l : List (Fin 4)) : debt c (n + 1) l = debt c n l + oweL c .agr N ks := add_right_comm _ _ _
theorem debt_none (c : Dev nD) : debt c 0 [] = 0 := add_zero _

theorem above_debt {k : ℕ} (c : Dev nD) (n : ℕ) (l : List (Fin 4)) (hk : k < 10) (hl : ∀ b ∈ l, k < 2 + b.val) : Above k (debt c n l) := by
  refine above_add ?_ ?_
  · induction n with
    | zero => exact above_zero k
    | succ n ih => exact above_add ih (above_oweL c .agr N hk ks)
  · induction l with
    | nil => exact above_zero k
    | cons b l ih => exact above_add (ih fun b' h => hl b' (List.mem_cons_of_mem _ h)) (above_oweL c (.rsr b) N (hl b List.mem_cons_self) ks)

/-- What `c` owes at launch: a signal of each peer's barrier, and every piece it scatters and gathers. -/
noncomputable def owe0 (c : Dev nD) : CellTallies nD τ sig Unit := debt c 4 [0, 1, 2, 3] + oweL c .bar 1 ks

end Cert.Attn
-- ==== Proof.Steps.lean ====
/-
# The steps of the kernel

The rule of a loop over a list, and what each kind of step does: a signal of a peer's barrier, a wait for part of a
round, a local copy, a send.
-/
module

public import proofs.«01_k».proof.Proof.Sched
public import Idealize.SL.ProofMode.BigOp

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
noncomputable abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of assertions -/

/-- The assertions of the members of a list, side by side. -/
noncomputable def lsep {α : Type} (P : α → sProp 𝕄) : List α → sProp 𝕄
  | [] => iprop(emp)
  | a :: l => iprop(P a ∗ lsep P l)

theorem bigSep_lsep {α : Type} [DecidableEq α] (P : α → sProp 𝕄) (l : List α) (h : l.Nodup) : bigSep l.toFinset P = lsep P l := by
  induction l with
  | nil => rfl
  | cons a l ih =>
    rw [List.toFinset_cons]
    refine (bigSep_insert (by rw [List.mem_toFinset]; exact (List.nodup_cons.mp h).1)).trans ?_
    rw [ih (List.nodup_cons.mp h).2]
    rfl

theorem ks_univ : (Finset.univ : Finset (Fin 15)) = ks.toFinset := by decide
theorem bs_univ : (Finset.univ : Finset (Fin 4)) = bs.toFinset := by decide
theorem bigSep_ks (P : Fin 15 → sProp 𝕄) : bigSep Finset.univ P = lsep P ks := by rw [ks_univ, bigSep_lsep P ks (by decide)]
theorem bigSep_bs (P : Fin 4 → sProp 𝕄) : bigSep Finset.univ P = lsep P bs := by rw [bs_univ, bigSep_lsep P bs (by decide)]

theorem bigSep_peersB (c : Dev nD) (b : Fin 4) (P : Duty → sProp 𝕄) : bigSep (peersB c b) P = bigSep Finset.univ fun k => P (b, dv c k) := bigSep_map _
theorem bigSep_peersA (c : Dev nD) (P : Duty → sProp 𝕄) :
    bigSep (peersA c) P = bigSep Finset.univ fun b => bigSep Finset.univ fun k => P (b, dv c k) := by
  unfold peersA
  rw [bigSep_map, bigSep_univ_prod]
  rfl

/-- A loop keeps what its steps keep. -/
theorem wp_seqL {α : Type} (c : Dev nD) (f : α → Prog (TpuEff nD τ sig (Elt F) Λ₀ .tc) PUnit) (J : List α → sProp 𝕄) (P Q : α → sProp 𝕄)
    (h : ∀ a l, iprop(J (a :: l) ∗ P a) ⊢ WP c (f a) fun _ => iprop(J l ∗ Q a)) :
    ∀ l, iprop(J l ∗ lsep P l) ⊢ WP c (seqL l f) fun _ => iprop(J [] ∗ lsep Q l)
  | [] => by
    show _ ⊢ iprop(|={Set.univ}[frame]=> iprop(J [] ∗ lsep Q []))
    iintro ⟨HJ, HP⟩
    imodintro
    isplitl [HJ]; · iexact HJ
    unfold lsep; iempintro
  | a :: l => by
    show iprop(J (a :: l) ∗ (P a ∗ lsep P l)) ⊢ wp frame (wpE (defs₀ (F := F)) 𝒱₀ (c : Thread nD τ) none) Set.univ (f a >>= fun _ => seqL l f) (fun _ => iprop(J [] ∗ (Q a ∗ lsep Q l)))
    rw [wp_bind]
    iintro ⟨HJ, HP, HL⟩
    iapply (wp_wand frame (wpE (defs₀ (F := F)) 𝒱₀ (c : Thread nD τ) none) Set.univ) $$ [HJ HP]
    · iapply (h a l); isplitl [HJ]; · iexact HJ
      iexact HP
    iintro %u ⟨HJ, HQ⟩
    iapply (wp_wand frame (wpE (defs₀ (F := F)) 𝒱₀ (c : Thread nD τ) none) Set.univ) $$ [HJ HL]
    · iapply (wp_seqL c f J P Q h l); isplitl [HJ]; · iexact HJ
      iexact HL
    iintro %u' ⟨HJ, HL⟩
    isplitl [HJ]; · iexact HJ
    isplitl [HQ]; · iexact HQ
    iexact HL

/-- One part of a program after another. -/
theorem wp_part {α β : Type} (c : Dev nD) (p : Prog (TpuEff nD τ sig (Elt F) Λ₀ .tc) α) (k : α → Prog (TpuEff nD τ sig (Elt F) Λ₀ .tc) β)
    {A : sProp 𝕄} {B : α → sProp 𝕄} {Q : β → sProp 𝕄} (h : A ⊢ WP c p B) :
    iprop(A ∗ (∀ x, B x -∗ WP c (k x) Q)) ⊢ WP c (p >>= k) Q := by
  unfold WP
  rw [wp_bind]
  iintro ⟨HA, Hk⟩
  iapply (wp_wand frame (wpE (defs₀ (F := F)) 𝒱₀ (c : Thread nD τ) none) Set.univ) $$ [HA]
  · iapply h; iexact HA
  iexact Hk

/-! ## The records -/

variable (m : (ℓ : Loc nD τ sig) → Buf (Elt F) ℓ) (K : Dev nD × Kind → ℕ)

/-- The invariants of all the kernel's semaphores, and that their round is open. -/
noncomputable def recs : sProp 𝕄 := bigSep Finset.univ fun ck : Dev nD × Kind => iprop(cellInv ER (Rd m) (K ck) (cell ck.1 ck.2) ∗ reached ER (cell ck.1 ck.2) 0)

instance recs_persistent : BI.Persistent (recs m K) := by unfold recs; infer_instance

/-- What every step may use. -/
noncomputable def ctx : sProp 𝕄 := iprop(recs m K ∗ levAts L lv)

instance ctx_persistent : BI.Persistent (ctx m K) := by unfold ctx; infer_instance

theorem ctx_at (c : Dev nD) (κ : Kind) : ctx m K ⊢ iprop(cellInv ER (Rd m) (K (c, κ)) (cell c κ) ∗ reached ER (cell c κ) 0) := by
  unfold ctx recs
  iintro ⟨H, -⟩
  iapply (show (bigSep Finset.univ fun ck : Dev nD × Kind => iprop(cellInv ER (Rd m) (K ck) (cell ck.1 ck.2) ∗ reached ER (cell ck.1 ck.2) 0)) ⊢ iprop(cellInv ER (Rd m) (K (c, κ)) (cell c κ) ∗ reached ER (cell c κ) 0) from bigSep_elim (Finset.mem_univ (c, κ))) $$ H

theorem ctx_wait {n : ℕ} (c : Dev nD) (κ : Kind) (h : lvK (some κ) ≤ n) {O : CellTallies nD τ sig Unit} (hO : Above n O) :
    ctx m K ⊢ MayWait (c : Thread nD τ) (semOf κ) () O := by
  unfold ctx
  iintro ⟨-, H⟩
  iapply (mayWait c (semOf κ) (by rw [kind_sem]; exact h) hO) $$ H

/-- What a device owes, whatever it has waited for. -/
noncomputable def owe (c : Dev nD) (O : CellTallies nD τ sig Unit) : sProp 𝕄 := iprop(∃ W, owes (c : Thread nD τ) O W)

/-! ## Signals and waits -/

theorem step_signal (c : Dev nD) (k : Fin 15) (O : CellTallies nD τ sig Unit) :
    iprop(ctx m K ∗ owe c (O + tallyAt (cell (dv c k) .bar) () 1) ∗ dutyTok ER (cell (dv c k) .bar) 0 (0, c) ∗ lent (F := F) c (dv c k))
      ⊢ WP c (semSignalWord (dv c k) barS 1#32) fun _ => owe c O := by
  unfold owe
  show _ ⊢ WP c (.op (.semSignal (dv c k : Thread nD τ) barS ((1 : ℕ) : ℤ)) .ret) _
  iintro ⟨#Hc, ⟨%W, HO⟩, Ht, Hp⟩
  ihave H := (ctx_at m K (dv c k) .bar) $$ Hc
  icases H with ⟨#HI, #Hr⟩
  iapply (Rounds.wp_signal 𝒱₀ ER (Rd m) (c : Thread nD τ) none (dst := (dv c k : Thread nD τ)) (κ := K (dv c k, .bar)) (r := 0) (d := (0, c))
      (show ((0, c) : Duty) ∈ (Rd m).duties (cell (dv c k) .bar) 0 by rw [duties_cell]; exact mem_peersB (Ne.symm (dv_ne c k)) 0)
      (amount_cell m (dv c k) .bar (0, c)) () O rfl (W := W)) $$ [HO Ht Hp]
  · isplitr; · iexact HI
    isplitl [HO]; · iexact HO
    isplitl [Ht]; · iexact Ht
    isplitl [Hp]
    · iapply (show lent (F := F) c (dv c k) ⊢ (Rd m).payload ((dv c k : Thread nD τ), .reg barS) 0 (0, c) from Entails.of_eq (payload_cell m (dv c k) .bar (0, c)).symm); iexact Hp
    · iexact Hr
  iintro HO
  rw [wp_ret]; imodintro
  iexists W; iexact HO

/-- A round of which all but `n` amounts have been waited for. -/
noncomputable def waitPos (c : Dev nD) (κ : Kind) (n : ℕ) : sProp 𝕄 :=
  if n = 0 then iprop(atPos ER (cell c κ) 1 ∅ 0 ∗ bigSep (dutK c (some κ)) (payK m c (some κ)))
  else iprop(∃ S : Finset Duty, ⌜S ⊆ dutK c (some κ)⌝ ∗ atPos ER (cell c κ) 0 S (((dutK c (some κ)).card - n) * amtK (some κ)) ∗ bigSep S (payK m c (some κ)))

theorem waitPos_start (c : Dev nD) (κ : Kind) (n : ℕ) (hn : (dutK c (some κ)).card = n) (h0 : n ≠ 0) : (atPos ER (cell c κ) 0 ∅ 0 : sProp 𝕄) ⊢ waitPos m c κ n := by
  unfold waitPos
  rw [if_neg h0, hn, Nat.sub_self, Nat.zero_mul]
  iintro H
  iexists ∅
  isplitr; · ipureintro; exact Finset.empty_subset _
  isplitl [H]; · iexact H
  rw [bigSep_empty]; iempintro

theorem waitPos_done (c : Dev nD) (κ : Kind) : waitPos m c κ 0 = iprop(atPos ER (cell c κ) 1 ∅ 0 ∗ bigSep (dutK c (some κ)) (payK m c (some κ))) := if_pos rfl

theorem payloads_cell (c : Dev nD) (κ : Kind) (S : Finset Duty) : bigSep S (fun d => (Rd m).payload (cell c κ) 0 d) = bigSep S (payK m c (some κ)) :=
  congrArg (bigSep S) (funext (payload_cell m c κ))

theorem pays_join (c : Dev nD) (κ : Kind) (S T : Finset Duty) (h : T ⊆ S) :
    iprop(bigSep T (payK m c (some κ)) ∗ bigSep (S \ T) (fun d => (Rd m).payload (cell c κ) 0 d)) ⊢ bigSep S (payK m c (some κ)) := by
  rw [payloads_cell]
  exact Entails.of_eq (bigSep_sdiff_split h).symm

theorem pays_rest (c : Dev nD) (κ : Kind) (T : Finset Duty) (h : T ⊆ dutK c (some κ)) :
    iprop(bigSep T (payK m c (some κ)) ∗ bigSep ((Rd m).duties (cell c κ) 0 \ T) (fun d => (Rd m).payload (cell c κ) 0 d)) ⊢ bigSep (dutK c (some κ)) (payK m c (some κ)) := by
  rw [duties_cell]
  exact pays_join m c κ _ T h

/-- Waiting for `j` amounts of a round. -/
theorem step_wait (c : Dev nD) (κ : Kind) (n j lev : ℕ) (O : CellTallies nD τ sig Unit) (hl : lvK (some κ) ≤ lev) (hO : Above lev O)
    (hn : n + j ≤ (dutK c (some κ)).card) (hj : 0 < j)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf κ) (j * amtK (some κ)) Kt) :
    iprop(ctx m K ∗ owe c O ∗ cred (tallyAt (cell c κ) () (j * amtK (some κ))) ∗ waitPos m c κ (n + j))
      ⊢ WP c (Prog.lift w) fun _ => iprop(owe c O ∗ waitPos m c κ n) := by
  unfold owe
  unfold waitPos
  rw [if_neg (show n + j ≠ 0 by omega)]
  have e1 : ((dutK c (some κ)).card - (n + j)) * amtK (some κ) + j * amtK (some κ) = ((dutK c (some κ)).card - n) * amtK (some κ) := by
    rw [← Nat.add_mul]; congr 1; omega
  by_cases h0 : n = 0
  · rw [if_pos h0]
    iintro ⟨#Hc, ⟨%W, HO⟩, Hcr, %S, %hS, Hat, HS⟩
    ihave H := (ctx_at m K c κ) $$ Hc
    icases H with ⟨#HI, #Hr⟩
    iapply (Rounds.wp_wait_rest_token 𝒱₀ ER (Rd m) (c : Thread nD τ) none (κ := K (c, κ)) hw (Set.mem_univ _) () (O := O) (W := W) (R := 0)
        (m := ((dutK c (some κ)).card - (n + j)) * amtK (some κ)) (T := S)
        (by rw [e1, h0, Nat.sub_zero]; exact (expect_cell m c κ).symm)) $$ [Hcr HO Hat]
    · isplitr; · iexact HI
      isplitl [Hcr]; · iexact Hcr
      isplitl [HO]; · iexact HO
      isplitr; · iapply (ctx_wait m K c κ hl hO); iexact Hc
      iexact Hat
    iintro ⟨HO, Hat, -, Hpay⟩
    rw [wp_ret]; imodintro
    isplitl [HO]; · iexists _; iexact HO
    isplitl [Hat]; · iexact Hat
    iapply (pays_rest m c κ S hS)
    isplitl [HS] <;> iassumption
  · rw [if_neg h0]
    iintro ⟨#Hc, ⟨%W, HO⟩, Hcr, %S, %hS, Hat, HS⟩
    ihave H := (ctx_at m K c κ) $$ Hc
    icases H with ⟨#HI, #Hr⟩
    iapply (Rounds.wp_wait 𝒱₀ ER (Rd m) (c : Thread nD τ) none (κ := K (c, κ)) hw (Set.mem_univ _) (cr := Finsupp.single () (j * amtK (some κ))) (O := O) (W := W) {(semOf κ, ())} (R := 0)
        (m := ((dutK c (some κ)).card - (n + j)) * amtK (some κ)) (T := S)
        (by rw [Util.total_single]) (image_single_subset (semOf κ) () _)) $$ [Hcr HO Hat]
    · isplitr; · iexact HI
      isplitl [Hcr]; · iexact Hcr
      isplitl [HO]; · iexact HO
      isplitr; · iapply (ctx_wait m K c κ hl hO); iexact Hc
      iexact Hat
    iintro %S' ⟨%hS', HO, Hat, Hpay⟩
    rw [wp_ret]; imodintro
    isplitl [HO]; · iexists _; iexact HO
    iexists S'
    isplitr; · ipureintro; rw [← duties_cell m]; exact hS'.2.1
    isplitl [Hat]; · iapply (Entails.of_eq (congrArg (atPos ER (cell c κ) 0 S') e1)); iexact Hat
    iapply (pays_join m c κ S' S hS'.1)
    isplitl [HS] <;> iassumption

/-- Waiting for one amount. -/
theorem step_wait1 (c : Dev nD) (κ : Kind) (n lev : ℕ) (O : CellTallies nD τ sig Unit) (hl : lvK (some κ) ≤ lev) (hO : Above lev O)
    (hn : n + 1 ≤ (dutK c (some κ)).card) (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf κ) (amtK (some κ)) Kt) :
    iprop(ctx m K ∗ owe c O ∗ cred (tallyAt (cell c κ) () (amtK (some κ))) ∗ waitPos m c κ (n + 1))
      ⊢ WP c (Prog.lift w) fun _ => iprop(owe c O ∗ waitPos m c κ n) := by
  have h := step_wait m K c κ n 1 lev O hl hO hn Nat.one_pos w (fun Kt => by rw [Nat.one_mul]; exact hw Kt)
  rwa [Nat.one_mul] at h

/-! ## Copies and sends -/

theorem step_copy {sp sp' : Space} {s : Shape} {e : EltTy} (c : Dev nD) (κ : Kind) (d : Duty) (hd : d ∈ dutK c (some κ))
    (src : Memref sig .tc sp s e) (dst₀ dst : Memref sig .tc sp' s e) (hdt : dst₀ = dst) (hsrc : src.view.WordExact) (hdst : dst₀.view.WordExact) (hsem)
    (hN : dst.view.amount (semOf κ) = amtK (some κ)) (q : PosShare TreeShare) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ payK m c (some κ) d) :
    iprop(ctx m K ∗ (src.view.loc (c : Thread nD τ) ↦[src.view.set]{q} fs) ∗ (dst.view.loc (c : Thread nD τ) ↦[dst.view.set]{fullShare} fd) ∗ dutyTok ER (cell c κ) 0 d)
      ⊢ WP c (Prog.lift (.enqueueDma src (.here dst₀) (semOf κ) hsrc hdst hsem)) fun _ => cred (tallyAt (cell c κ) () (amtK (some κ))) := by
  subst hdt
  iintro ⟨#Hc, Hs, Hd, Ht⟩
  ihave H := (ctx_at m K c κ) $$ Hc
  icases H with ⟨#HI, #Hr⟩
  iapply (Rounds.wp_copy_pointsTo 𝒱₀ ER (Rd m) (c : Thread nD τ) none (κ := K (c, κ)) (r := 0) (d := d) (q := q) (fs := fs) (fd := fd)
      (show d ∈ (Rd m).duties (cell c κ) 0 by rw [duties_cell]; exact hd) () (amtK (some κ)) hN (amount_cell m c κ d)
      (hpay.trans (Entails.of_eq (payload_cell m c κ d).symm))) $$ [Hs Hd Ht]
  · isplitr; · iexact HI
    isplitl [Hs]; · iexact Hs
    isplitl [Hd]; · iexact Hd
    isplitl [Ht]; · iexact Ht
    iexact Hr
  iintro Hcr
  rw [wp_ret]; imodintro
  iexact Hcr

theorem step_send {sp sp' : Space} {s : Shape} {e : EltTy} (c c' : Dev nD) (κ κ' : Kind) (d d' : Duty) (hd : d ∈ dutK c (some κ)) (hd' : d' ∈ dutK c' (some κ'))
    (src₀ src : Memref sig .tc sp s e) (hst : src₀ = src) (dst₀ dst : Memref sig .tc sp' s e) (hdt : dst₀ = dst) (hsc) (hsrc : src₀.view.WordExact) (hdst : dst₀.view.WordExact) (hsem)
    (hN : dst.view.amount (semOf κ') = amtK (some κ')) (hA : amtK (some κ) = amtK (some κ')) (q : PosShare TreeShare)
    (fs : Buf (Elt F) (src.view.loc (c : Thread nD τ))) (fd : Buf (Elt F) (dst.view.loc (c' : Thread nD τ)))
    (O : CellTallies nD τ sig Unit)
    (hpay : (src.view.loc (c : Thread nD τ) ↦[src.view.set]{q} fs) ⊢ payK m c (some κ) d)
    (hpay' : (dst.view.loc (c' : Thread nD τ) ↦[dst.view.set]{fullShare} (dst.view.write (Elt F) fd (src.view.read (Elt F) fs) Finset.univ)) ⊢ payK m c' (some κ') d') :
    iprop(ctx m K ∗ owe c (O + tallyAt (cell c' κ') () (amtK (some κ'))) ∗ (src.view.loc (c : Thread nD τ) ↦[src.view.set]{q} fs)
        ∗ (dst.view.loc (c' : Thread nD τ) ↦[dst.view.set]{fullShare} fd) ∗ dutyTok ER (cell c κ) 0 d ∗ dutyTok ER (cell c' κ') 0 d')
      ⊢ WP c (Prog.lift (.enqueueDma src₀ (.remote (Dev.tc c') dst₀ (semOf κ) hsc) (semOf κ') hsrc hdst hsem))
          fun _ => iprop(owe c O ∗ cred (tallyAt (cell c κ) () (amtK (some κ)))) := by
  subst hst hdt
  unfold owe
  iintro ⟨#Hc, ⟨%W, HO⟩, Hs, Hd, Ht, Ht'⟩
  ihave H := (ctx_at m K c κ) $$ Hc
  icases H with ⟨#HI, #Hr⟩
  ihave H := (ctx_at m K c' κ') $$ Hc
  icases H with ⟨#HI', #Hr'⟩
  iapply (Rounds.wp_send_pointsTo 𝒱₀ ER (Rd m) (c : Thread nD τ) none (c' := (c' : Thread nD τ)) (κ₁ := K (c, κ)) (κ₂ := K (c', κ')) (r₁ := 0) (r₂ := 0) (d₁ := d) (d₂ := d') (q := q) (fs := fs) (fd := fd)
      (show d ∈ (Rd m).duties (cell c κ) 0 by rw [duties_cell]; exact hd) (show d' ∈ (Rd m).duties (cell c' κ') 0 by rw [duties_cell]; exact hd')
      () () (amtK (some κ')) hN ((amount_cell m c κ d).trans hA) (amount_cell m c' κ' d') O rfl (W := W)
      (hpay.trans (Entails.of_eq (payload_cell m c κ d).symm)) (hpay'.trans (Entails.of_eq (payload_cell m c' κ' d').symm))) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcr, HO⟩
  rw [wp_ret]; imodintro
  isplitl [HO]; · iexists W; iexact HO
  rw [hA]; iexact Hcr

/-! ## Loads and stores -/

theorem step_load {cs : CoreSpace} {s : Shape} {e : EltTy} {α : Type} (c : Dev nD) (M : Memref sig .tc cs s e) (off₀ off : Fin s.rank → Nat) (ho : off₀ = off) (sz : Fin s.rank → Nat)
    (p₀ : ∀ a, off₀ a + sz a ≤ s.size a) (p : ∀ a, off a + sz a ≤ s.size a) (hl) {k : _ → Prog (TpuEff nD τ sig (Elt F) Λ₀ .tc) α}
    {S : Finset (Idx (M.view.loc (c : Thread nD τ)))} {q : PosShare TreeShare} {f : Buf (Elt F) (M.view.loc (c : Thread nD τ))}
    (hS : (M.access (Rect.unit (s := s) off sz p)).set ⊆ S) {Q : α → sProp 𝕄} :
    (M.view.loc (c : Thread nD τ) ↦[S]{q} f)
      ⊢ iprop(((M.view.loc (c : Thread nD τ) ↦[S]{q} f) -∗ WP c (k (M.view.readAt (Elt F) (Rect.unit (s := s) off sz p).toLoadRect f)) Q)
        -∗ WP c (Prog.lift (.load M (Rect.unit (s := s) off₀ sz p₀).toLoadRect hl) >>= k) Q) := by
  subst ho
  exact wp_load 𝒱₀ (c : Thread nD τ) none Set.univ (by rwa [View.set_slice] at hS)

/-- A load of which it is known what it reads. -/
theorem step_load_eq {cs : CoreSpace} {s : Shape} {e : EltTy} {α : Type} (c : Dev nD) (M : Memref sig .tc cs s e) (off : Fin s.rank → Nat) (sz : Fin s.rank → Nat)
    (p : ∀ a, off a + sz a ≤ s.size a) (hl) {k : _ → Prog (TpuEff nD τ sig (Elt F) Λ₀ .tc) α}
    {q : PosShare TreeShare} {f : Buf (Elt F) (M.view.loc (c : Thread nD τ))} (v) (hv : M.view.readAt (Elt F) (Rect.unit (s := s) off sz p).toLoadRect f = v) {Q : α → sProp 𝕄} :
    (M.view.loc (c : Thread nD τ) ↦[Finset.univ]{q} f)
      ⊢ iprop(((M.view.loc (c : Thread nD τ) ↦[Finset.univ]{q} f) -∗ WP c (k v) Q)
        -∗ WP c (Prog.lift (.load M (Rect.unit (s := s) off sz p).toLoadRect hl) >>= k) Q) := by
  subst hv
  exact step_load c M off off rfl sz p p hl (Finset.subset_univ _)

theorem step_store {cs : CoreSpace} {s : Shape} {e : EltTy} (c : Dev nD) (M : Memref sig .tc cs s e) (off₀ off : Fin s.rank → Nat) (ho : off₀ = off) (sz : Fin s.rank → Nat)
    (p₀ : ∀ a, off₀ a + sz a ≤ s.size a) (p : ∀ a, off a + sz a ≤ s.size a) (w : (Rect.unit (s := s) off₀ sz p₀).shape.Idx → Elt F e) (hx hm)
    {S : Finset (Idx (M.view.loc (c : Thread nD τ)))} {f : Buf (Elt F) (M.view.loc (c : Thread nD τ))}
    (hS : (M.access (Rect.unit (s := s) off sz p)).set ⊆ S) :
    (M.view.loc (c : Thread nD τ) ↦[S]{fullShare} f)
      ⊢ WP c (Prog.lift (.store M (Rect.unit (s := s) off₀ sz p₀) w Finset.univ hx hm))
        fun _ => (M.view.loc (c : Thread nD τ) ↦[S]{fullShare} (M.access (Rect.unit (s := s) off sz p)).write (Elt F) f w Finset.univ) := by
  subst ho
  iintro H
  have h := wp_store (Γ := .empty) (Ix := Unit) (Name := ℕ) (U := UU) (Lvl := ℕ) 𝒱₀ (c : Thread nD τ) none Set.univ (m := M) (r := Rect.unit (s := s) off₀ sz p₀) (w := w) (Mk := Finset.univ) (hx := hx) (hm := hm) (k := Prog.ret) (S := S) (f := f)
    (Q := fun _ => (M.view.loc (c : Thread nD τ) ↦[S]{fullShare} (M.access (Rect.unit (s := s) off₀ sz p)).write (Elt F) f w Finset.univ)) (defs := defs₀ (F := F)) (by rw [View.setOn_univ]; exact hS)
  iapply h $$ H
  iintro H
  rw [wp_ret]; imodintro
  iexact H

end Cert.Attn
-- ==== Proof.Split.lean ====
/-
# Taking the buffers apart and putting them together

A buffer is the pieces of its labels; the pieces of all devices are the own one and the peers'.
-/
module

public import proofs.«01_k».proof.Proof.Steps

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A set of elements is its fibres under a label. -/
theorem pts_fib {ℓ : Loc nD τ sig} {T : Type} [Fintype T] [DecidableEq T] (S : Finset (Idx ℓ)) (g : Idx ℓ → T) (q : PosShare TreeShare) (f : Buf (Elt F) ℓ) :
    (ℓ ↦[S]{q} f : sProp 𝕄) = bigSep Finset.univ fun t => ℓ ↦[S.filter fun i => g i = t]{q} f := by
  classical
  rw [← pointsTo_biUnion Finset.univ (fun t => S.filter fun i => g i = t) (fun t _ t' _ h => Finset.disjoint_left.mpr fun i hi hi' =>
    h ((Finset.mem_filter.mp hi).2.symm.trans (Finset.mem_filter.mp hi').2))]
  congr 1
  ext i
  simp

theorem dev_univ (c : Dev nD) : (Finset.univ : Finset (Dev nD)) = insert c ((Finset.univ : Finset (Fin 15)).map ⟨dv c, dv_inj c⟩) := by
  ext e
  simp only [Finset.mem_univ, Finset.mem_insert, Finset.mem_map, true_and, Function.Embedding.coeFn_mk, true_iff]
  by_cases h : e = c
  · exact Or.inl h
  · exact Or.inr ⟨kOf c e, dv_kOf c e h⟩

/-- What is held of every device is what is held of `c` and of its peers. -/
theorem bigSep_dev (c : Dev nD) (P : Dev nD → sProp 𝕄) : bigSep Finset.univ P = iprop(P c ∗ lsep (fun k => P (dv c k)) ks) := by
  rw [dev_univ c]
  refine (bigSep_insert ?_).trans ?_
  · intro h
    obtain ⟨k, -, hk⟩ := Finset.mem_map.mp h
    exact dv_ne c k hk
  · rw [bigSep_map, bigSep_ks]
    rfl

theorem lsep_mono {α : Type} {P Q : α → sProp 𝕄} (h : ∀ a, P a ⊢ Q a) : ∀ l, lsep P l ⊢ lsep Q l
  | [] => .rfl
  | a :: l => BIClass.sep_mono (h a) (lsep_mono h l)

theorem lsep_sep {α : Type} (P Q : α → sProp 𝕄) : ∀ l, lsep (fun a => iprop(P a ∗ Q a)) l ⊣⊢ iprop(lsep P l ∗ lsep Q l)
  | [] => by unfold lsep; exact emp_sep.symm
  | a :: l => by
    have ih := lsep_sep P Q l
    refine ⟨?_, ?_⟩
    · show iprop((P a ∗ Q a) ∗ lsep (fun a => iprop(P a ∗ Q a)) l) ⊢ iprop((P a ∗ lsep P l) ∗ (Q a ∗ lsep Q l))
      iintro ⟨⟨HP, HQ⟩, H⟩
      ihave H := ih.1 $$ H
      icases H with ⟨H1, H2⟩
      isplitl [HP H1]
      · isplitl [HP] <;> iassumption
      · isplitl [HQ] <;> iassumption
    · show iprop((P a ∗ lsep P l) ∗ (Q a ∗ lsep Q l)) ⊢ iprop((P a ∗ Q a) ∗ lsep (fun a => iprop(P a ∗ Q a)) l)
      iintro ⟨⟨HP, H1⟩, HQ, H2⟩
      isplitl [HP HQ]
      · isplitl [HP] <;> iassumption
      · iapply ih.2; isplitl [H1] <;> iassumption

theorem lsep_emp {α : Type} : ∀ l : List α, lsep (F := F) (fun _ => iprop(emp)) l ⊣⊢ iprop(emp)
  | [] => by unfold lsep; exact .rfl
  | a :: l => by
    show iprop(emp ∗ lsep (fun _ => iprop(emp)) l) ⊣⊢ _
    exact emp_sep.trans (lsep_emp l)

/-- The payloads of a batch's duties by the peers. -/
theorem pays_peersB (c : Dev nD) (b : Fin 4) (P : Duty → sProp 𝕄) : bigSep (peersB c b) P = lsep (fun k => P (b, dv c k)) ks := by
  rw [bigSep_peersB, bigSep_ks]
theorem pays_peersA (c : Dev nD) (P : Duty → sProp 𝕄) : bigSep (peersA c) P = bigSep Finset.univ fun b => lsep (fun k => P (b, dv c k)) ks := by
  rw [bigSep_peersA]
  exact congrArg (bigSep Finset.univ) (funext fun b => bigSep_ks _)

/-! ## The buffers -/

theorem send_split (c : Dev nD) (f : Buf (Elt F) ((c : Thread nD τ).loc cc0_scratch2)) :
    (((c : Thread nD τ).loc cc0_scratch2) ↦[Finset.univ]{fullShare} f : sProp 𝕄) = bigSep Finset.univ fun b => (((c : Thread nD τ).loc cc0_scratch2) ↦[rowsB b]{fullShare} f) :=
  pts_fib (ℓ := (c : Thread nD τ).loc cc0_scratch2) Finset.univ rb fullShare f
theorem batch_split (c : Dev nD) (b : Fin 4) (f : Buf (Elt F) ((c : Thread nD τ).loc cc0_scratch2)) :
    (((c : Thread nD τ).loc cc0_scratch2) ↦[rowsB b]{fullShare} f : sProp 𝕄) = bigSep Finset.univ fun e => (((c : Thread nD τ).loc cc0_scratch2) ↦[rowsP b e]{fullShare} f) :=
  pts_fib (ℓ := (c : Thread nD τ).loc cc0_scratch2) (rowsB b) re fullShare f
theorem out_split (c : Dev nD) (f : Buf (Elt F) ((c : Thread nD τ).loc main_v1)) :
    (((c : Thread nD τ).loc main_v1) ↦[Finset.univ]{fullShare} f : sProp 𝕄) = bigSep Finset.univ fun b => bigSep Finset.univ fun e => (((c : Thread nD τ).loc main_v1) ↦[rowsP b e]{fullShare} f) :=
  (pts_fib (ℓ := (c : Thread nD τ).loc main_v1) Finset.univ rb fullShare f).trans
    (congrArg (bigSep Finset.univ) (funext fun b => pts_fib (ℓ := (c : Thread nD τ).loc main_v1) (rowsB b) re fullShare f))
theorem stage_splitB (c : Dev nD) (b : Fin 4) (f : Buf (Elt F) ((c : Thread nD τ).loc cc0_scratch3)) :
    (((c : Thread nD τ).loc cc0_scratch3) ↦[slotB b]{fullShare} f : sProp 𝕄) = bigSep Finset.univ fun e => (((c : Thread nD τ).loc cc0_scratch3) ↦[slotP b e]{fullShare} f) :=
  pts_fib (ℓ := (c : Thread nD τ).loc cc0_scratch3) (slotB b) sd fullShare f
theorem stage_split (c : Dev nD) (f : Buf (Elt F) ((c : Thread nD τ).loc cc0_scratch3)) :
    (((c : Thread nD τ).loc cc0_scratch3) ↦[Finset.univ]{fullShare} f : sProp 𝕄) = bigSep Finset.univ fun b => (((c : Thread nD τ).loc cc0_scratch3) ↦[slotB b]{fullShare} f) :=
  pts_fib (ℓ := (c : Thread nD τ).loc cc0_scratch3) Finset.univ sb fullShare f
theorem stage_splitD (c : Dev nD) (f : Buf (Elt F) ((c : Thread nD τ).loc cc0_scratch3)) :
    (((c : Thread nD τ).loc cc0_scratch3) ↦[Finset.univ]{fullShare} f : sProp 𝕄) = bigSep Finset.univ fun e => (((c : Thread nD τ).loc cc0_scratch3) ↦[slotD e]{fullShare} f) :=
  pts_fib (ℓ := (c : Thread nD τ).loc cc0_scratch3) Finset.univ sd fullShare f
theorem slot_split (c e : Dev nD) (f : Buf (Elt F) ((c : Thread nD τ).loc cc0_scratch3)) :
    (((c : Thread nD τ).loc cc0_scratch3) ↦[slotD e]{fullShare} f : sProp 𝕄) = bigSep Finset.univ fun b => (((c : Thread nD τ).loc cc0_scratch3) ↦[slotP b e]{fullShare} f) := by
  rw [pts_fib (ℓ := (c : Thread nD τ).loc cc0_scratch3) (slotD e) sb fullShare f]
  refine congrArg (bigSep Finset.univ) (funext fun b => ?_)
  congr 1
  ext i
  rw [mem_slotP, Finset.mem_filter, mem_slotD, and_comm]
theorem ag_split (c : Dev nD) (f : Buf (Elt F) ((c : Thread nD τ).loc cc0_scratch4)) :
    (((c : Thread nD τ).loc cc0_scratch4) ↦[Finset.univ]{fullShare} f : sProp 𝕄) = bigSep Finset.univ fun b => (((c : Thread nD τ).loc cc0_scratch4) ↦[agP b]{fullShare} f) :=
  pts_fib (ℓ := (c : Thread nD τ).loc cc0_scratch4) Finset.univ ab fullShare f

/-- A finished piece is the share of the own copy and the shares of the sends. -/
theorem ag_shares (c : Dev nD) (b : Fin 4) (f : Buf (Elt F) ((c : Thread nD τ).loc cc0_scratch4)) :
    (((c : Thread nD τ).loc cc0_scratch4) ↦[agP b]{fullShare} f : sProp 𝕄)
      ⊣⊢ iprop((((c : Thread nD τ).loc cc0_scratch4) ↦[agP b]{shO} f) ∗ lsep (fun k => (((c : Thread nD τ).loc cc0_scratch4) ↦[agP b]{shS k} f)) ks) := by
  rw [← bigSep_ks]
  exact ⟨Transfers.pointsTo_toks_split fullShare 15, Transfers.pointsTo_toks_join fullShare 15⟩

/-! ## Pieces as memory references name them -/

theorem piece_pts (c : Dev nD) (b : Fin 4) (e : Dev nD) (q : PosShare TreeShare) (f : Buf (Elt F) ((c : Thread nD τ).loc cc0_scratch2)) :
    ((pieceM b e).view.loc (c : Thread nD τ) ↦[(pieceM b e).view.set]{q} f : sProp 𝕄) = (((c : Thread nD τ).loc cc0_scratch2) ↦[rowsP b e]{q} f) := by
  rw [pieceM_set]; rfl
theorem row_pts (c : Dev nD) (b : Fin 4) (e : Dev nD) (q : PosShare TreeShare) (f : Buf (Elt F) ((c : Thread nD τ).loc main_v1)) :
    ((rowM b e).view.loc (c : Thread nD τ) ↦[(rowM b e).view.set]{q} f : sProp 𝕄) = (((c : Thread nD τ).loc main_v1) ↦[rowsP b e]{q} f) := by
  rw [rowM_set]; rfl
theorem slot_pts (c : Dev nD) (b : Fin 4) (e : Dev nD) (q : PosShare TreeShare) (f : Buf (Elt F) ((c : Thread nD τ).loc cc0_scratch3)) :
    ((slotM b e).view.loc (c : Thread nD τ) ↦[(slotM b e).view.set]{q} f : sProp 𝕄) = (((c : Thread nD τ).loc cc0_scratch3) ↦[slotP b e]{q} f) := by
  rw [slotM_set]; rfl
theorem ag_pts (c : Dev nD) (b : Fin 4) (q : PosShare TreeShare) (f : Buf (Elt F) ((c : Thread nD τ).loc cc0_scratch4)) :
    ((agM b).view.loc (c : Thread nD τ) ↦[(agM b).view.set]{q} f : sProp 𝕄) = (((c : Thread nD τ).loc cc0_scratch4) ↦[agP b]{q} f) := by
  rw [agM_set]; rfl

end Cert.Attn
-- ==== Proof.Parts.lean ====
/-
# What each part of the kernel does

One theorem for each part of the program: what it takes, what it leaves.
-/
module

public import proofs.«01_k».proof.Proof.Split

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kind → ℕ)

/-! ## The buffers of a device -/

/-- Elements of `sendB`. -/
noncomputable abbrev atSend (c : Dev nD) (S : Finset S1024x1024.Idx) (f : (cc0_scratch2 : Ref sig .tc).ty.Contents (Elt F)) : sProp 𝕄 := (((c : Thread nD τ).loc cc0_scratch2) ↦[S]{fullShare} f)
/-- Elements of `stageB`. -/
noncomputable abbrev atStage (c : Dev nD) (S : Finset S64x16x1024.Idx) (f : (cc0_scratch3 : Ref sig .tc).ty.Contents (Elt F)) : sProp 𝕄 := (((c : Thread nD τ).loc cc0_scratch3) ↦[S]{fullShare} f)
/-- Elements of `agB`, with a share. -/
noncomputable abbrev atAg (c : Dev nD) (S : Finset S64x1024.Idx) (q : PosShare TreeShare) (f : (cc0_scratch4 : Ref sig .tc).ty.Contents (Elt F)) : sProp 𝕄 := (((c : Thread nD τ).loc cc0_scratch4) ↦[S]{q} f)
/-- Elements of the result. -/
noncomputable abbrev atOut (c : Dev nD) (S : Finset S1024x1024.Idx) (f : (main_v1 : Ref sig .tc).ty.Contents (Elt F)) : sProp 𝕄 := (((c : Thread nD τ).loc main_v1) ↦[S]{fullShare} f)

theorem atSend_congr (c : Dev nD) (S : Finset S1024x1024.Idx) (f g : (cc0_scratch2 : Ref sig .tc).ty.Contents (Elt F)) (h : ∀ i ∈ S, f i = g i) : atSend (F := F) c S f ⊢ atSend c S g :=
  Entails.of_eq (pointsTo_congr (ℓ := (c : Thread nD τ).loc cc0_scratch2) h)
theorem atStage_congr (c : Dev nD) (S : Finset S64x16x1024.Idx) (f g : (cc0_scratch3 : Ref sig .tc).ty.Contents (Elt F)) (h : ∀ i ∈ S, f i = g i) : atStage (F := F) c S f ⊢ atStage c S g :=
  Entails.of_eq (pointsTo_congr (ℓ := (c : Thread nD τ).loc cc0_scratch3) h)
theorem atAg_congr (c : Dev nD) (S : Finset S64x1024.Idx) (q : PosShare TreeShare) (f g : (cc0_scratch4 : Ref sig .tc).ty.Contents (Elt F)) (h : ∀ i ∈ S, f i = g i) : atAg (F := F) c S q f ⊢ atAg c S q g :=
  Entails.of_eq (pointsTo_congr (ℓ := (c : Thread nD τ).loc cc0_scratch4) h)
theorem atOut_congr (c : Dev nD) (S : Finset S1024x1024.Idx) (f g : (main_v1 : Ref sig .tc).ty.Contents (Elt F)) (h : ∀ i ∈ S, f i = g i) : atOut (F := F) c S f ⊢ atOut c S g :=
  Entails.of_eq (pointsTo_congr (ℓ := (c : Thread nD τ).loc main_v1) h)

theorem WP_frame {α : Type} (c : Dev nD) (p : Prog (TpuEff nD τ sig (Elt F) Λ₀ .tc) α) {A R : sProp 𝕄} {B B' : α → sProp 𝕄} (h : A ⊢ WP c p B)
    (h' : ∀ x, iprop(B x ∗ R) ⊢ B' x) : iprop(A ∗ R) ⊢ WP c p B' := by
  iintro ⟨HA, HR⟩
  iapply (wp_wand frame (wpE (defs₀ (F := F)) 𝒱₀ (c : Thread nD τ) none) Set.univ) $$ [HA]
  · iapply h; iexact HA
  iintro %x HB
  iapply (h' x)
  isplitl [HB] <;> iassumption

/-! ## The start -/

theorem off2_eq : ∀ c : Dev nD, k0_off2 c = ![4 * c.val, 0, 0] := k0_off2_eq

theorem part_start (c : Dev nD) (f0 : (cc0_scratch0 : Ref sig .tc).ty.Contents (Elt F)) (f1 : (cc0_scratch1 : Ref sig .tc).ty.Contents (Elt F)) (fs : (cc0_scratch3 : Ref sig .tc).ty.Contents (Elt F)) :
    iprop(ctx m K ∗ (((c : Thread nD τ).loc cc0_scratch0) ↦[Finset.univ]{fullShare} f0) ∗ (((c : Thread nD τ).loc cc0_scratch1) ↦[Finset.univ]{fullShare} f1)
        ∗ (((c : Thread nD τ).loc main_arg3) ↦[colS c]{fullShare} m ((c : Thread nD τ).loc main_arg3)) ∗ (((c : Thread nD τ).loc main_arg4) ↦[colS c]{fullShare} m ((c : Thread nD τ).loc main_arg4))
        ∗ dutyTok ER (cell c (.loc 0)) 0 (0, c) ∗ dutyTok ER (cell c (.loc 1)) 0 (0, c) ∗ atStage c (slotD c) fs)
      ⊢ WP c (startOf c) fun _ => iprop(cred (tallyAt (cell c (.loc 0)) () NL) ∗ cred (tallyAt (cell c (.loc 1)) () NL) ∗ atStage c (slotD c) (stageC m c)) := by
  unfold startOf
  iintro ⟨#Hc, H0, H1, H3, H4, Ht0, Ht1, Hs⟩
  iapply (wp_part c _ _ (step_copy m K c (.loc 0) (0, c) (Finset.mem_singleton_self _) (wkSl c) wkM wkM rfl (wkSl_word c) (Memref.isWhole_whole _).wordExact ⟨Or.inl rfl, trivial⟩ rfl fullShare
      (m ((c : Thread nD τ).loc main_arg3)) f0 (by
        show _ ⊢ locPay m c 0
        dsimp only [locPay]
        rw [View.write_whole_univ, View.set_whole]
        exact .rfl)))
  isplitl [H0 H3 Ht0]
  · isplitr; · iexact Hc
    isplitl [H3]; · iexact H3
    isplitl [H0]
    · iapply (Entails.of_eq (by rw [View.set_whole]) : (((c : Thread nD τ).loc cc0_scratch0) ↦[Finset.univ]{fullShare} f0 : sProp 𝕄) ⊢ (wkM.view.loc (c : Thread nD τ) ↦[wkM.view.set]{fullShare} f0)); iexact H0
    iexact Ht0
  iintro %u Hcr0
  iapply (wp_part c _ _ (step_copy m K c (.loc 1) (0, c) (Finset.mem_singleton_self _) (wvSl c) wvM wvM rfl (wvSl_word c) (Memref.isWhole_whole _).wordExact ⟨Or.inl rfl, trivial⟩ rfl fullShare
      (m ((c : Thread nD τ).loc main_arg4)) f1 (by
        show _ ⊢ locPay m c 1
        dsimp only [locPay]
        rw [View.write_whole_univ, View.set_whole]
        exact .rfl)))
  isplitl [H1 H4 Ht1]
  · isplitr; · iexact Hc
    isplitl [H4]; · iexact H4
    isplitl [H1]
    · iapply (Entails.of_eq (by rw [View.set_whole]) : (((c : Thread nD τ).loc cc0_scratch1) ↦[Finset.univ]{fullShare} f1 : sProp 𝕄) ⊢ (wvM.view.loc (c : Thread nD τ) ↦[wvM.view.set]{fullShare} f1)); iexact H1
    iexact Ht1
  iintro %u Hcr1
  iapply (step_load c stageB _ ![4 * c.val, 0, 0] (off2_eq c) S4x16x1024.size _ (inbOwn c) _ (S := slotD c) (q := fullShare) (f := fs) (by exact (ownV_set c).le)) $$ Hs
  iintro Hs
  iapply (WP_frame c _ (step_store c stageB _ ![4 * c.val, 0, 0] (off2_eq c) S4x16x1024.size _ (inbOwn c) (k0_pay1 (F := F)) _ _ (S := slotD c) (f := fs) (by exact (ownV_set c).le))
    (R := iprop(cred (tallyAt (cell c (.loc 0)) () NL) ∗ cred (tallyAt (cell c (.loc 1)) () NL))) (fun _ => by
      iintro ⟨Hs, H0, H1⟩
      isplitl [H0]; · iexact H0
      isplitl [H1]; · iexact H1
      iapply (atStage_congr c (slotD c) _ (stageC m c) (fun i hi => stage_cleared m c fs i hi)); iexact Hs))
  isplitl [Hs]; · iexact Hs
  isplitl [Hcr0]; · iexact Hcr0
  iexact Hcr1

/-! ## The barrier -/

theorem part_barrier (c : Dev nD) (O' : CellTallies nD τ sig Unit) (hO : Above 1 O') :
    iprop(ctx m K ∗ owe c (O' + oweL c .bar 1 ks) ∗ lsep (fun k => iprop(dutyTok ER (cell (dv c k) .bar) 0 (0, c) ∗ lent (F := F) c (dv c k))) ks
        ∗ cred (tallyAt (cell c .bar) () 15) ∗ waitPos m c .bar 15)
      ⊢ WP c (barrierOf c) fun _ => iprop(owe c O' ∗ waitPos m c .bar 0) := by
  unfold barrierOf
  iintro ⟨#Hc, HO, HL, Hcr, Hw⟩
  iapply (wp_part c _ _ (wp_seqL c (fun k => semSignalWord (dv c k) barS 1#32) (fun l => iprop(ctx m K ∗ owe c (O' + oweL c .bar 1 l)))
    (fun k => iprop(dutyTok ER (cell (dv c k) .bar) 0 (0, c) ∗ lent (F := F) c (dv c k))) (fun _ => iprop(emp)) (fun k l => by
      show iprop((ctx m K ∗ owe c (O' + (oweL c .bar 1 l + tallyAt (cell (dv c k) .bar) () 1))) ∗ dutyTok ER (cell (dv c k) .bar) 0 (0, c) ∗ lent (F := F) c (dv c k)) ⊢ _
      rw [← add_assoc]
      iintro ⟨⟨#Hc, HO⟩, Ht, Hl⟩
      iapply (WP_frame c _ (step_signal m K c k (O' + oweL c .bar 1 l)) (R := ctx m K) (fun _ => by
        iintro ⟨HO, Hc⟩
        isplitl [Hc HO]
        · isplitl [Hc] <;> iassumption
        iempintro))
      isplitl [HO Ht Hl]
      · isplitr; · iexact Hc
        isplitl [HO]; · iexact HO
        isplitl [Ht] <;> iassumption
      iexact Hc) ks))
  isplitl [HO HL]
  · isplitl [HO]
    · isplitr; · iexact Hc
      iexact HO
    iexact HL
  iintro %u ⟨⟨-, HO⟩, -⟩
  iapply (step_wait m K c .bar 0 15 1 O' (le_refl 1) hO (card_peersB c 0).ge (by decide) (.semWait barS ((15 : ℕ) : ℤ)) (fun Kt => rfl))
  isplitr; · iexact Hc
  isplitl [HO]; · iapply (Entails.of_eq (congrArg (owe (F := F) c) (add_zero O'))); iexact HO
  isplitl [Hcr]; · iexact Hcr
  iexact Hw

/-! ## One batch -/

theorem part_compute (c : Dev nD) (b : Fin 4) (f : (cc0_scratch2 : Ref sig .tc).ty.Contents (Elt F)) :
    iprop((((c : Thread nD τ).loc cc0_stg0_0) ↦[Finset.univ]{fullShare} xC m c) ∗ atSend c (rowsB b) f)
      ⊢ WP c (computeOf (k0_pay2 (wqC m c)) (k0_pay3 (woC m c)) (k0_pay4 (wkC m c)) (k0_pay5 (wvC m c)) b)
        fun _ => iprop((((c : Thread nD τ).loc cc0_stg0_0) ↦[Finset.univ]{fullShare} xC m c) ∗ atSend c (rowsB b) (sendC m c)) := by
  unfold computeOf
  iintro ⟨Hx, Hs⟩
  iapply (step_load c xM _ _ rfl S1x256x1024.size _ (inbX b) _ (S := Finset.univ) (q := fullShare) (f := xC m c) (Finset.subset_univ _)) $$ Hx
  iintro Hx
  iapply (step_load c sendB _ _ rfl S256x1024.size _ (inbSend b) _ (S := rowsB b) (q := fullShare) (f := f) (by exact (batchV_set b).le)) $$ Hs
  iintro Hs
  iapply (WP_frame c _ (step_store c sendB _ _ rfl S256x1024.size _ (inbSend b) (partC m c b) _ _ (S := rowsB b) (f := f) (by exact (batchV_set b).le))
    (R := iprop(((c : Thread nD τ).loc cc0_stg0_0) ↦[Finset.univ]{fullShare} xC m c)) (fun _ => by
      iintro ⟨Hs, Hx⟩
      isplitl [Hx]; · iexact Hx
      iapply (atSend_congr c (rowsB b) _ (sendC m c) (fun i hi => send_written m c b f i hi)); iexact Hs))
  isplitl [Hs]; · iexact Hs
  iexact Hx

theorem part_scatter (c : Dev nD) (b : Fin 4) (O O' : CellTallies nD τ sig Unit) (hO : O = O' + oweL c (.rsr b) N ks) :
    iprop(ctx m K ∗ owe c O ∗ lsep (fun k => iprop(atSend c (rowsP b (dv c k)) (sendC m c) ∗ (∃ f, atStage (F := F) (dv c k) (slotP b c) f)
        ∗ dutyTok ER (cell c .rss) 0 (b, dv c k) ∗ dutyTok ER (cell (dv c k) (.rsr b)) 0 (b, c))) ks)
      ⊢ WP c (scatterOf c b) fun _ => iprop(owe c O' ∗ lsep (fun _ => cred (tallyAt (cell c .rss) () N)) ks) := by
  subst hO
  unfold scatterOf
  iintro ⟨#Hc, HO, HL⟩
  iapply (wp_wand frame (wpE (defs₀ (F := F)) 𝒱₀ (c : Thread nD τ) none) Set.univ) $$ [HO HL]
  · iapply (wp_seqL c _ (fun l => iprop(ctx m K ∗ owe c (O' + oweL c (.rsr b) N l)))
      (fun k => iprop(atSend c (rowsP b (dv c k)) (sendC m c) ∗ (∃ f, atStage (F := F) (dv c k) (slotP b c) f)
        ∗ dutyTok ER (cell c .rss) 0 (b, dv c k) ∗ dutyTok ER (cell (dv c k) (.rsr b)) 0 (b, c))) (fun _ => cred (tallyAt (cell c .rss) () N)) (fun k l => by
      show iprop((ctx m K ∗ owe c (O' + (oweL c (.rsr b) N l + tallyAt (cell (dv c k) (.rsr b)) () N))) ∗ _) ⊢ _
      rw [← add_assoc]
      iintro ⟨⟨#Hc, HO⟩, Hs, ⟨%f, Hd⟩, Ht, Ht'⟩
      iapply (WP_frame c _ (step_send m K c (dv c k) .rss (.rsr b) (b, dv c k) (b, c) (mem_peersA (dv_ne c k) b) (mem_peersB (Ne.symm (dv_ne c k)) b)
          (sendM c b k) (pieceM b (dv c k)) (sendM_eq c b k) (stageM c b) (slotM b c) (stageM_eq c b) _ _ _ _ (amt_stage b c _) rfl fullShare (sendC m c) f (O' + oweL c (.rsr b) N l)
          (by rw [piece_pts]; exact .rfl)
          (by refine (Entails.of_eq (slot_pts _ _ _ _ _)).trans ?_; exact atStage_congr (dv c k) (slotP b c) _ (stageC m (dv c k)) (fun i hi => stage_landed m (dv c k) c (Ne.symm (dv_ne c k)) b f i hi)))
        (R := ctx m K) (fun _ => by
        iintro ⟨⟨HO, Hcr⟩, Hc⟩
        isplitl [Hc HO]
        · isplitl [Hc] <;> iassumption
        iexact Hcr))
      rw [piece_pts, slot_pts]
      isplitl [HO Hs Hd Ht Ht']
      · isplitr; · iexact Hc
        isplitl [HO]; · iexact HO
        isplitl [Hs]; · iexact Hs
        isplitl [Hd]; · iexact Hd
        isplitl [Ht] <;> iassumption
      iexact Hc) ks)
    isplitl [HO]
    · isplitr; · iexact Hc
      iexact HO
    iexact HL
  iintro %u ⟨⟨-, HO⟩, HL⟩
  isplitl [HO]; · iapply (Entails.of_eq (congrArg (owe (F := F) c) (add_zero O'))); iexact HO
  iexact HL

/-- A loop of waits, one amount each. -/
theorem part_waits {α : Type} (c : Dev nD) (κ : Kind) (lev r : ℕ) (O : CellTallies nD τ sig Unit) (hl : lvK (some κ) ≤ lev) (hO : Above lev O)
    (w : α → TpuEff nD τ sig (Elt F) Λ₀ .tc PUnit)
    (hw : ∀ a, ∀ Kt : PUnit → sProp 𝕄, wpE (defs₀ (F := F)) 𝒱₀ (c : Thread nD τ) none Set.univ (w a) Kt = waitSpec (c : Thread nD τ) Set.univ (semOf κ) (amtK (some κ)) Kt)
    (l : List α) (hn : r + l.length ≤ (dutK c (some κ)).card) :
    iprop(ctx m K ∗ owe c O ∗ waitPos m c κ (r + l.length) ∗ lsep (fun _ => cred (tallyAt (cell c κ) () (amtK (some κ)))) l)
      ⊢ WP c (seqL l fun a => Prog.lift (w a)) fun _ => iprop(owe c O ∗ waitPos m c κ r) := by
  induction l with
  | nil =>
    show _ ⊢ iprop(|={Set.univ}[frame]=> iprop(owe c O ∗ waitPos m c κ r))
    iintro ⟨-, HO, Hw, -⟩
    imodintro
    isplitl [HO]; · iexact HO
    iexact Hw
  | cons a l ih =>
    have hn' : (r + l.length) + 1 ≤ (dutK c (some κ)).card := by simpa [Nat.add_assoc] using hn
    show iprop(ctx m K ∗ owe c O ∗ waitPos m c κ ((r + l.length) + 1) ∗ (cred (tallyAt (cell c κ) () (amtK (some κ))) ∗ lsep (fun _ => cred (tallyAt (cell c κ) () (amtK (some κ)))) l)) ⊢ WP c (Prog.lift (w a) >>= fun _ => seqL l fun a => Prog.lift (w a)) _
    iintro ⟨#Hc, HO, Hw, Hcr, HL⟩
    iapply (wp_part c _ _ (step_wait1 m K c κ (r + l.length) lev O hl hO hn' (w a) (hw a)))
    isplitl [HO Hw Hcr]
    · isplitr; · iexact Hc
      isplitl [HO]; · iexact HO
      isplitl [Hcr] <;> iassumption
    iintro %u ⟨HO, Hw⟩
    iapply (ih (by omega))
    isplitr; · iexact Hc
    isplitl [HO]; · iexact HO
    isplitl [Hw] <;> iassumption

theorem part_arrived (c : Dev nD) (b : Fin 4) (O : CellTallies nD τ sig Unit) (hO : Above (2 + b.val) O) :
    iprop(ctx m K ∗ owe c O ∗ waitPos m c (.rsr b) 15 ∗ lsep (fun _ => cred (tallyAt (cell c (.rsr b)) () N)) ks)
      ⊢ WP c (arrivedOf b) fun _ => iprop(owe c O ∗ waitPos m c (.rsr b) 0) :=
  part_waits m K c (.rsr b) (2 + b.val) 0 O (le_refl _) hO (fun _ => .waitDma2 (rsR b) firstM firstM firstM_word firstM_word) (fun _ Kt => rfl) ks (card_peersB c b).ge

theorem accL_cons {α : Type} (b : Fin 4) (d : Fin 16) (l : List (Fin 16)) (a : FVec F S16x1024 .f32) (k : FVec F S16x1024 .f32 → Prog (TpuEff nD τ sig (Elt F) Λ₀ .tc) α) :
    accL b (d :: l) a >>= k = Prog.lift (.load stageB (Rect.unit (s := S64x16x1024) ![4 * d.val + b.val, 0, 0] S1x16x1024.size (inbStage d b)).toLoadRect (View.loadsAt_vmem h_S1x16x1024))
      >>= fun v => (accL b l (accStep a v) >>= k) := by
  rw [accL.eq_2, bind_assoc]

theorem part_acc (c : Dev nD) (b : Fin 4) {α : Type} (Q : α → sProp 𝕄) (k : FVec F S16x1024 .f32 → Prog (TpuEff nD τ sig (Elt F) Λ₀ .tc) α) : ∀ (l : List (Fin 16)) (a : FVec F S16x1024 .f32),
    atStage c (slotB b) (stageC m c)
      ⊢ iprop((atStage c (slotB b) (stageC m c) -∗ WP c (k (l.foldl (fun a d => accStep a (slotV m c b d)) a)) Q) -∗ WP c (accL b l a >>= k) Q)
  | [], a => by
    show _ ⊢ iprop((_ -∗ WP c (k a) Q) -∗ WP c (k a) Q)
    iintro H Hk
    iapply Hk; iexact H
  | d :: l, a => by
    rw [accL_cons]
    have h : slotP b d ⊆ slotB b := Finset.filter_subset _ _
    have h' : (stageB.access (Rect.unit (s := S64x16x1024) ![4 * d.val + b.val, 0, 0] S1x16x1024.size (inbStage d b))).set = slotP b d := (View.set_slice_whole _ _).trans (slot_rect_set b d)
    have hstep : atStage c (slotB b) (stageC m c) ⊢ iprop((atStage c (slotB b) (stageC m c) -∗ WP c (accL b l (accStep a (slotV m c b d)) >>= k) Q) -∗ WP c (Prog.lift (.load stageB (Rect.unit (s := S64x16x1024) ![4 * d.val + b.val, 0, 0] S1x16x1024.size (inbStage d b)).toLoadRect (View.loadsAt_vmem h_S1x16x1024)) >>= fun v => (accL b l (accStep a v) >>= k)) Q) :=
      step_load c stageB _ _ rfl S1x16x1024.size (inbStage d b) (inbStage d b) (View.loadsAt_vmem h_S1x16x1024) (k := fun v => (accL b l (accStep a v) >>= k)) (S := slotB b) (q := fullShare) (f := stageC m c) (h'.le.trans h)
    have ih := part_acc c b Q k l (accStep a (slotV m c b d))
    iintro H Hk
    iapply hstep $$ H
    iintro H
    iapply ih $$ H
    iexact Hk

theorem part_reduce (c : Dev nD) (b : Fin 4) (f : (cc0_scratch4 : Ref sig .tc).ty.Contents (Elt F)) :
    iprop(atSend c (rowsP b c) (sendC m c) ∗ atStage c (slotB b) (stageC m c) ∗ atAg c (agP b) fullShare f)
      ⊢ WP c (reduceOf c b) fun _ => iprop(atSend c (rowsP b c) (sendC m c) ∗ atStage c (slotB b) (stageC m c) ∗ atAg c (agP b) fullShare (agC m c)) := by
  unfold reduceOf
  iintro ⟨Hs, Hst, Ha⟩
  iapply (step_load c sendB _ ![256 * b.val + 16 * c.val, 0] (k0_off5_eq c b) S16x1024.size _ (inbP b c) _ (S := rowsP b c) (q := fullShare) (f := sendC m c) (by exact (pieceM_set b c).le)) $$ Hs
  iintro Hs
  iapply (part_acc m c b _ _ slots _) $$ Hst
  iintro Hst
  iapply (step_load c agB _ _ rfl S16x1024.size _ (inbAg b) _ (S := agP b) (q := fullShare) (f := f) (by exact (agV_set b).le)) $$ Ha
  iintro Ha
  iapply (WP_frame c _ (step_store c agB _ _ rfl S16x1024.size _ (inbAg b) (doneC m c b) _ _ (S := agP b) (f := f) (by exact (agV_set b).le))
    (R := iprop(atSend c (rowsP b c) (sendC m c) ∗ atStage c (slotB b) (stageC m c))) (fun _ => by
      iintro ⟨Ha, Hs, Hst⟩
      isplitl [Hs]; · iexact Hs
      isplitl [Hst]; · iexact Hst
      iapply (atAg_congr c (agP b) fullShare _ (agC m c) (fun i hi => ag_written m c b f i hi)); iexact Ha))
  isplitl [Ha]; · iexact Ha
  isplitl [Hs] <;> iassumption

theorem part_gather (c : Dev nD) (b : Fin 4) (O O' : CellTallies nD τ sig Unit) (hO : O = O' + oweL c .agr N ks) (f : (main_v1 : Ref sig .tc).ty.Contents (Elt F)) :
    iprop(ctx m K ∗ owe c O ∗ atAg c (agP b) fullShare (agC m c) ∗ atOut c (rowsP b c) f ∗ dutyTok ER (cell c (.own b)) 0 (b, c)
        ∗ lsep (fun k => iprop((∃ f, atOut (F := F) (dv c k) (rowsP b c) f) ∗ dutyTok ER (cell c .ags) 0 (b, dv c k) ∗ dutyTok ER (cell (dv c k) .agr) 0 (b, c))) ks)
      ⊢ WP c (gatherOf c b) fun _ => iprop(owe c O' ∗ cred (tallyAt (cell c (.own b)) () N) ∗ lsep (fun _ => cred (tallyAt (cell c .ags) () N)) ks) := by
  subst hO
  unfold gatherOf
  iintro ⟨#Hc, HO, Ha, Hd, Ht, HL⟩
  ihave Ha := (ag_shares c b (agC m c)).1 $$ Ha
  icases Ha with ⟨Ha, HaL⟩
  iapply (wp_part c _ _ (step_copy m K c (.own b) (b, c) (Finset.mem_singleton_self _) (agM b) (outM c b) (rowM b c) (outM_eq c b) (agM_word b) (outM_word c b) ⟨Or.inl rfl, trivial⟩ (amt_row b c _) shO
      (agC m c) f (by
        refine BIClass.sep_mono ((Entails.of_eq (row_pts _ _ _ _ _)).trans ?_) (Entails.of_eq (ag_pts _ _ _ _))
        exact (atOut_congr c (rowsP b c) _ (outC m c) (fun i hi => out_landed m c c b f i hi)))))
  rw [row_pts, ag_pts]
  isplitl [Ha Hd Ht]
  · isplitr; · iexact Hc
    isplitl [Ha]; · iexact Ha
    isplitl [Hd]; · iexact Hd
    iexact Ht
  iintro %u Hcr
  iapply (wp_wand frame (wpE (defs₀ (F := F)) 𝒱₀ (c : Thread nD τ) none) Set.univ) $$ [HO HL HaL]
  · iapply (wp_seqL c _ (fun l => iprop(ctx m K ∗ owe c (O' + oweL c .agr N l)))
      (fun k => iprop(atAg c (agP b) (shS k) (agC m c) ∗ (∃ f, atOut (F := F) (dv c k) (rowsP b c) f) ∗ dutyTok ER (cell c .ags) 0 (b, dv c k) ∗ dutyTok ER (cell (dv c k) .agr) 0 (b, c)))
      (fun _ => cred (tallyAt (cell c .ags) () N)) (fun k l => by
      show iprop((ctx m K ∗ owe c (O' + (oweL c .agr N l + tallyAt (cell (dv c k) .agr) () N))) ∗ _) ⊢ _
      rw [← add_assoc]
      iintro ⟨⟨#Hc, HO⟩, Hs, ⟨%f, Hd⟩, Ht, Ht'⟩
      iapply (WP_frame c _ (step_send m K c (dv c k) .ags .agr (b, dv c k) (b, c) (mem_peersA (dv_ne c k) b) (mem_peersA (Ne.symm (dv_ne c k)) b)
          (agM b) (agM b) rfl (outM c b) (rowM b c) (outM_eq c b) _ _ _ _ (amt_row b c _) rfl (shS k) (agC m c) f (O' + oweL c .agr N l)
          (by rw [ag_pts]; show _ ⊢ atAg c (agP b) (shS (kOf c (dv c k))) (agC m c); rw [kOf_dv])
          (by refine (Entails.of_eq (row_pts _ _ _ _ _)).trans ?_; exact atOut_congr (dv c k) (rowsP b c) _ (outC m (dv c k)) (fun i hi => out_landed m (dv c k) c b f i hi)))
        (R := ctx m K) (fun _ => by
        iintro ⟨⟨HO, Hcr⟩, Hc⟩
        isplitl [Hc HO]
        · isplitl [Hc] <;> iassumption
        iexact Hcr))
      rw [ag_pts, row_pts]
      isplitl [HO Hs Hd Ht Ht']
      · isplitr; · iexact Hc
        isplitl [HO]; · iexact HO
        isplitl [Hs]; · iexact Hs
        isplitl [Hd]; · iexact Hd
        isplitl [Ht] <;> iassumption
      iexact Hc) ks)
    isplitl [HO]
    · isplitr; · iexact Hc
      iexact HO
    iapply (lsep_sep _ _ ks).2
    isplitl [HaL] <;> iassumption
  iintro %u ⟨⟨-, HO⟩, HL⟩
  isplitl [HO]; · iapply (Entails.of_eq (congrArg (owe (F := F) c) (add_zero O'))); iexact HO
  isplitl [Hcr]; · iexact Hcr
  iexact HL

end Cert.Attn
-- ==== Proof.Batch.lean ====
/-
# A batch of the kernel, and its end

Sending a batch, finishing a batch, and waiting for everything in flight, each with what it takes and leaves.
-/
module

public import proofs.«01_k».proof.Proof.Parts

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kind → ℕ)

/-! ## Rearranging -/

theorem bs4 (P : Fin 4 → sProp 𝕄) : bigSep Finset.univ P ⊣⊢ iprop(P 0 ∗ P 1 ∗ P 2 ∗ P 3) := by
  rw [bigSep_bs]
  refine ⟨?_, ?_⟩
  · show iprop(P 0 ∗ P 1 ∗ P 2 ∗ P 3 ∗ emp) ⊢ _
    iintro ⟨H0, H1, H2, H3, -⟩
    isplitl [H0]; · iexact H0
    isplitl [H1]; · iexact H1
    isplitl [H2] <;> iassumption
  · show _ ⊢ iprop(P 0 ∗ P 1 ∗ P 2 ∗ P 3 ∗ emp)
    iintro ⟨H0, H1, H2, H3⟩
    isplitl [H0]; · iexact H0
    isplitl [H1]; · iexact H1
    isplitl [H2]; · iexact H2
    isplitl [H3]; · iexact H3
    iempintro

/-- What is held of every use of a device's semaphores, use by use. -/
theorem kinds14 (P : Kind → sProp 𝕄) : bigSep Finset.univ P
    ⊣⊢ iprop(P .bar ∗ P (.loc 0) ∗ P (.loc 1) ∗ (bigSep Finset.univ fun b => P (.own b)) ∗ (bigSep Finset.univ fun b => P (.rsr b)) ∗ P .rss ∗ P .ags ∗ P .agr) := by
  have hu : (Finset.univ : Finset Kind) = kinds.toFinset := by
    ext κ; simp only [Finset.mem_univ, List.mem_toFinset, mem_kinds]
  rw [hu, bigSep_lsep P kinds (by decide), bigSep_bs, bigSep_bs]
  refine ⟨?_, ?_⟩
  · show iprop(P .bar ∗ P (.loc 0) ∗ P (.loc 1) ∗ P (.own 0) ∗ P (.own 1) ∗ P (.own 2) ∗ P (.own 3) ∗ P (.rsr 0) ∗ P (.rsr 1) ∗ P (.rsr 2) ∗ P (.rsr 3) ∗ P .rss ∗ P .ags ∗ P .agr ∗ emp)
      ⊢ iprop(P .bar ∗ P (.loc 0) ∗ P (.loc 1) ∗ (P (.own 0) ∗ P (.own 1) ∗ P (.own 2) ∗ P (.own 3) ∗ emp) ∗ (P (.rsr 0) ∗ P (.rsr 1) ∗ P (.rsr 2) ∗ P (.rsr 3) ∗ emp) ∗ P .rss ∗ P .ags ∗ P .agr)
    iintro ⟨H0, H1, H2, H3, H4, H5, H6, H7, H8, H9, H10, H11, H12, H13, H14⟩
    isplitl [H0]; · iexact H0
    isplitl [H1]; · iexact H1
    isplitl [H2]; · iexact H2
    isplitl [H3 H4 H5 H6]
    · isplitl [H3]; · iexact H3
      isplitl [H4]; · iexact H4
      isplitl [H5]; · iexact H5
      isplitl [H6]; · iexact H6
      iempintro
    isplitl [H7 H8 H9 H10]
    · isplitl [H7]; · iexact H7
      isplitl [H8]; · iexact H8
      isplitl [H9]; · iexact H9
      isplitl [H10]; · iexact H10
      iempintro
    isplitl [H11]; · iexact H11
    isplitl [H12] <;> iassumption
  · show iprop(P .bar ∗ P (.loc 0) ∗ P (.loc 1) ∗ (P (.own 0) ∗ P (.own 1) ∗ P (.own 2) ∗ P (.own 3) ∗ emp) ∗ (P (.rsr 0) ∗ P (.rsr 1) ∗ P (.rsr 2) ∗ P (.rsr 3) ∗ emp) ∗ P .rss ∗ P .ags ∗ P .agr)
      ⊢ iprop(P .bar ∗ P (.loc 0) ∗ P (.loc 1) ∗ P (.own 0) ∗ P (.own 1) ∗ P (.own 2) ∗ P (.own 3) ∗ P (.rsr 0) ∗ P (.rsr 1) ∗ P (.rsr 2) ∗ P (.rsr 3) ∗ P .rss ∗ P .ags ∗ P .agr ∗ emp)
    iintro ⟨H0, H1, H2, ⟨H3, H4, H5, H6, -⟩, ⟨H7, H8, H9, H10, -⟩, H11, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro

theorem wp_part2 {α β γ : Type} (c : Dev nD) (p : Prog (TpuEff nD τ sig (Elt F) Λ₀ .tc) α) (q : α → Prog (TpuEff nD τ sig (Elt F) Λ₀ .tc) β) (k : β → Prog (TpuEff nD τ sig (Elt F) Λ₀ .tc) γ)
    {A : sProp 𝕄} {B : β → sProp 𝕄} {Q : γ → sProp 𝕄} (h : A ⊢ WP c (p >>= q) B) :
    iprop(A ∗ (∀ x, B x -∗ WP c (k x) Q)) ⊢ WP c (p >>= fun x => q x >>= k) Q := by
  rw [← bind_assoc]
  exact wp_part c _ k h

/-! ## Sending a batch -/

/-- What sending batch `b` takes. -/
noncomputable def sendIn (c : Dev nD) (b : Fin 4) : sProp 𝕄 :=
  iprop((∃ f, atSend (F := F) c (rowsB b) f) ∗ lsep (fun k => iprop((∃ f, atStage (F := F) (dv c k) (slotP b c) f)
        ∗ dutyTok ER (cell c .rss) 0 (b, dv c k) ∗ dutyTok ER (cell (dv c k) (.rsr b)) 0 (b, c))) ks)
/-- What sending batch `b` leaves. -/
noncomputable def sendOut (c : Dev nD) (b : Fin 4) : sProp 𝕄 :=
  iprop(atSend c (rowsP b c) (sendC m c) ∗ lsep (fun _ => cred (tallyAt (cell c .rss) () N)) ks)

theorem part_send (c : Dev nD) (b : Fin 4) (O O' : CellTallies nD τ sig Unit) (hO : O = O' + oweL c (.rsr b) N ks) :
    iprop(ctx m K ∗ owe c O ∗ (((c : Thread nD τ).loc cc0_stg0_0) ↦[Finset.univ]{fullShare} xC m c) ∗ sendIn c b)
      ⊢ WP c (computeOf (k0_pay2 (wqC m c)) (k0_pay3 (woC m c)) (k0_pay4 (wkC m c)) (k0_pay5 (wvC m c)) b >>= fun _ => scatterOf c b)
        fun _ => iprop(owe c O' ∗ (((c : Thread nD τ).loc cc0_stg0_0) ↦[Finset.univ]{fullShare} xC m c) ∗ sendOut m c b) := by
  unfold sendIn sendOut
  iintro ⟨#Hc, HO, Hx, ⟨%f, Hs⟩, HL⟩
  iapply (wp_part c _ _ (part_compute m c b f))
  isplitl [Hx Hs]
  · isplitl [Hx] <;> iassumption
  iintro %u ⟨Hx, Hs⟩
  ihave Hs := (Entails.of_eq ((batch_split c b (sendC m c)).trans (bigSep_dev c _))) $$ Hs
  icases Hs with ⟨Hown, Hs⟩
  iapply (WP_frame c _ (part_scatter m K c b O O' hO) (R := iprop((((c : Thread nD τ).loc cc0_stg0_0) ↦[Finset.univ]{fullShare} xC m c) ∗ atSend c (rowsP b c) (sendC m c))) (fun _ => by
    iintro ⟨⟨HO, HL⟩, Hx, Hs⟩
    isplitl [HO]; · iexact HO
    isplitl [Hx]; · iexact Hx
    isplitl [Hs] <;> iassumption))
  isplitl [HO HL Hs]
  · isplitr; · iexact Hc
    isplitl [HO]; · iexact HO
    iapply (lsep_sep _ _ ks).2
    isplitl [Hs] <;> iassumption
  isplitl [Hx] <;> iassumption

/-! ## Finishing a batch -/

/-- What finishing batch `b` takes, beside what sending it left. -/
noncomputable def finIn (c : Dev nD) (b : Fin 4) : sProp 𝕄 :=
  iprop(waitPos m c (.rsr b) 15 ∗ lsep (fun _ => cred (tallyAt (cell c (.rsr b)) () N)) ks ∗ atStage c (slotP b c) (stageC m c)
    ∗ (∃ f, atAg (F := F) c (agP b) fullShare f) ∗ (∃ f, atOut (F := F) c (rowsP b c) f) ∗ dutyTok ER (cell c (.own b)) 0 (b, c)
    ∗ lsep (fun k => iprop((∃ f, atOut (F := F) (dv c k) (rowsP b c) f) ∗ dutyTok ER (cell c .ags) 0 (b, dv c k) ∗ dutyTok ER (cell (dv c k) .agr) 0 (b, c))) ks)
/-- What finishing batch `b` leaves. -/
noncomputable def finOut (c : Dev nD) (b : Fin 4) : sProp 𝕄 :=
  iprop(atPos ER (cell c (.rsr b)) 1 ∅ 0 ∗ atSend c (rowsP b c) (sendC m c) ∗ atStage c (slotB b) (stageC m c)
    ∗ cred (tallyAt (cell c (.own b)) () N) ∗ lsep (fun _ => cred (tallyAt (cell c .ags) () N)) ks)

theorem part_finish (c : Dev nD) (b : Fin 4) (O O' : CellTallies nD τ sig Unit) (hO : O = O' + oweL c .agr N ks) (hA : Above (2 + b.val) O) :
    iprop(ctx m K ∗ owe c O ∗ atSend c (rowsP b c) (sendC m c) ∗ finIn m c b)
      ⊢ WP c (finishOf c b) fun _ => iprop(owe c O' ∗ finOut m c b) := by
  unfold finIn finOut finishOf
  iintro ⟨#Hc, HO, Hs, Hw, Hcr, Hst, ⟨%fa, Ha⟩, ⟨%fo, Ho⟩, Ht, HL⟩
  iapply (wp_part c _ _ (part_arrived m K c b O hA))
  isplitl [HO Hw Hcr]
  · isplitr; · iexact Hc
    isplitl [HO]; · iexact HO
    isplitl [Hw] <;> iassumption
  iintro %u ⟨HO, Hw⟩
  ihave Hw := (Entails.of_eq (waitPos_done m c (.rsr b))) $$ Hw
  icases Hw with ⟨Hat, Hp⟩
  ihave Hp := (show bigSep (dutK c (some (.rsr b))) (payK m c (some (.rsr b))) ⊢ lsep (fun k => atStage c (slotP b (dv c k)) (stageC m c)) ks from Entails.of_eq (pays_peersB c b (payK m c (some (.rsr b))))) $$ Hp
  iapply (wp_part c _ _ (part_reduce m c b fa))
  isplitl [Hs Hst Hp Ha]
  · isplitl [Hs]; · iexact Hs
    isplitl [Hst Hp]
    · iapply (Entails.of_eq ((stage_splitB c b (stageC m c)).trans (bigSep_dev c _)).symm)
      isplitl [Hst]; · iexact Hst
      iexact Hp
    iexact Ha
  iintro %u ⟨Hs, Hst, Ha⟩
  iapply (WP_frame c _ (part_gather m K c b O O' hO fo) (R := iprop(atPos ER (cell c (.rsr b)) 1 ∅ 0 ∗ atSend c (rowsP b c) (sendC m c) ∗ atStage c (slotB b) (stageC m c))) (fun _ => by
    iintro ⟨⟨HO, Hcr, HL⟩, Hat, Hs, Hst⟩
    isplitl [HO]; · iexact HO
    isplitl [Hat]; · iexact Hat
    isplitl [Hs]; · iexact Hs
    isplitl [Hst]; · iexact Hst
    isplitl [Hcr] <;> iassumption))
  isplitl [HO Ha Ho Ht HL]
  · isplitr; · iexact Hc
    isplitl [HO]; · iexact HO
    isplitl [Ha]; · iexact Ha
    isplitl [Ho]; · iexact Ho
    isplitl [Ht] <;> iassumption
  isplitl [Hat]; · iexact Hat
  isplitl [Hs] <;> iassumption

/-! ## The end -/

/-- A loop of loops of waits, one amount each. -/
theorem part_waits2 (c : Dev nD) (κ : Kind) (lev : ℕ) (O : CellTallies nD τ sig Unit) (hl : lvK (some κ) ≤ lev) (hO : Above lev O)
    (w : Fin 4 → Fin 15 → TpuEff nD τ sig (Elt F) Λ₀ .tc PUnit)
    (hw : ∀ b a, ∀ Kt : PUnit → sProp 𝕄, wpE (defs₀ (F := F)) 𝒱₀ (c : Thread nD τ) none Set.univ (w b a) Kt = waitSpec (c : Thread nD τ) Set.univ (semOf κ) (amtK (some κ)) Kt)
    (l : List (Fin 4)) (hn : l.length * 15 ≤ (dutK c (some κ)).card) :
    iprop(ctx m K ∗ owe c O ∗ waitPos m c κ (l.length * 15) ∗ lsep (fun _ => lsep (fun _ => cred (tallyAt (cell c κ) () (amtK (some κ)))) ks) l)
      ⊢ WP c (seqL l fun b => seqL ks fun a => Prog.lift (w b a)) fun _ => iprop(owe c O ∗ waitPos m c κ 0) := by
  induction l with
  | nil =>
    show _ ⊢ iprop(|={Set.univ}[frame]=> iprop(owe c O ∗ waitPos m c κ 0))
    iintro ⟨-, HO, Hw, -⟩
    imodintro
    isplitl [HO]; · iexact HO
    iapply (Entails.of_eq (congrArg (waitPos m c κ) (Nat.zero_mul 15))); iexact Hw
  | cons a l ih =>
    have e : (a :: l).length * 15 = l.length * 15 + ks.length := by rw [List.length_cons, Nat.add_mul]; rfl
    have hn' : l.length * 15 + ks.length ≤ (dutK c (some κ)).card := e ▸ hn
    rw [e]
    show iprop(ctx m K ∗ owe c O ∗ waitPos m c κ (l.length * 15 + ks.length) ∗ (lsep (fun _ => cred (tallyAt (cell c κ) () (amtK (some κ)))) ks ∗ lsep (fun _ => lsep (fun _ => cred (tallyAt (cell c κ) () (amtK (some κ)))) ks) l))
      ⊢ WP c ((seqL ks fun k => Prog.lift (w a k)) >>= fun _ => seqL l fun b => seqL ks fun k => Prog.lift (w b k)) _
    iintro ⟨#Hc, HO, Hw, Hcr, HL⟩
    iapply (wp_part c _ _ (part_waits m K c κ lev (l.length * 15) O hl hO (w a) (hw a) ks hn'))
    isplitl [HO Hw Hcr]
    · isplitr; · iexact Hc
      isplitl [HO]; · iexact HO
      isplitl [Hw] <;> iassumption
    iintro %u ⟨HO, Hw⟩
    iapply (ih (by omega))
    isplitr; · iexact Hc
    isplitl [HO]; · iexact HO
    isplitl [Hw] <;> iassumption

theorem part_drain (c : Dev nD) :
    iprop(ctx m K ∗ owe c 0 ∗ (waitPos m c .agr 60 ∗ lsep (fun _ => lsep (fun _ => cred (tallyAt (cell c .agr) () N)) ks) bs)
        ∗ (lsep (fun b => iprop(cred (tallyAt (cell c (.own b)) () N) ∗ waitPos m c (.own b) 1)) bs)
        ∗ (waitPos m c .rss 60 ∗ lsep (fun _ => lsep (fun _ => cred (tallyAt (cell c .rss) () N)) ks) bs)
        ∗ (waitPos m c .ags 60 ∗ lsep (fun _ => lsep (fun _ => cred (tallyAt (cell c .ags) () N)) ks) bs))
      ⊢ WP c (drainOf c) fun _ => iprop(owe c 0 ∗ waitPos m c .agr 0 ∗ (lsep (fun b => waitPos m c (.own b) 0) bs) ∗ waitPos m c .rss 0 ∗ waitPos m c .ags 0) := by
  unfold drainOf
  iintro ⟨#Hc, HO, ⟨Hw1, H1⟩, H2, ⟨Hw3, H3⟩, Hw4, H4⟩
  iapply (wp_part c _ _ (part_waits2 m K c .agr 10 0 (le_refl _) (above_zero _) (fun _ _ => .waitDma2 agR firstM firstM firstM_word firstM_word) (fun _ _ _ => rfl) bs (card_peersA c).ge))
  isplitl [HO Hw1 H1]
  · isplitr; · iexact Hc
    isplitl [HO]; · iexact HO
    isplitl [Hw1]; · iexact Hw1
    iexact H1
  iintro %u ⟨HO, Hw1⟩
  iapply (wp_part c _ _ (wp_seqL c (fun b => Prog.lift (.waitDma2 (ownS b) (agM b) (outM c b) (agM_word b) (outM_word c b))) (fun _ => iprop(ctx m K ∗ owe c 0))
    (fun b => iprop(cred (tallyAt (cell c (.own b)) () N) ∗ waitPos m c (.own b) 1)) (fun b => waitPos m c (.own b) 0) (fun b l => by
      iintro ⟨⟨#Hc, HO⟩, Hcr, Hw⟩
      iapply (WP_frame c _ (step_wait1 m K c (.own b) 0 0 0 (le_refl _) (above_zero _) (le_refl 1) (.waitDma2 (ownS b) (agM b) (outM c b) (agM_word b) (outM_word c b)) (fun Kt => by
          rw [show amtK (some (.own b)) = (rowM b c).view.amount (semOf (.own b)) from rfl, ← outM_eq c b]; rfl)) (R := ctx m K) (fun _ => by
        iintro ⟨⟨HO, Hw⟩, Hc⟩
        isplitl [Hc HO]
        · isplitl [Hc] <;> iassumption
        iexact Hw))
      isplitl [HO Hcr Hw]
      · isplitr; · iexact Hc
        isplitl [HO]; · iexact HO
        isplitl [Hcr]; · iexact Hcr
        iexact Hw
      iexact Hc) bs))
  isplitl [HO H2]
  · isplitl [HO]
    · isplitr; · iexact Hc
      iexact HO
    iexact H2
  iintro %u ⟨⟨-, HO⟩, H2⟩
  iapply (wp_part c _ _ (part_waits2 m K c .rss 0 0 (le_refl _) (above_zero _) (fun b k => .waitDma2 rsS (stageM c b) (sendM c b k) (stageM_word c b) (sendM_word c b k)) (fun b k Kt => by
          rw [show amtK (some .rss) = (pieceM b (dv c k)).view.amount (semOf .rss) from rfl, ← sendM_eq c b k]; rfl) bs (card_peersA c).ge))
  isplitl [HO Hw3 H3]
  · isplitr; · iexact Hc
    isplitl [HO]; · iexact HO
    isplitl [Hw3]; · iexact Hw3
    iexact H3
  iintro %u ⟨HO, Hw3⟩
  iapply (WP_frame c _ (part_waits2 m K c .ags 0 0 (le_refl _) (above_zero _) (fun b k => .waitDma2 agS (outM c b) (agM b) (outM_word c b) (agM_word b)) (fun b k Kt => rfl) bs (card_peersA c).ge)
    (R := iprop(waitPos m c .agr 0 ∗ (lsep (fun b => waitPos m c (.own b) 0) bs) ∗ waitPos m c .rss 0)) (fun _ => by
      iintro ⟨⟨HO, H4⟩, H1, H2, H3⟩
      isplitl [HO]; · iexact HO
      isplitl [H1]; · iexact H1
      isplitl [H2]; · iexact H2
      isplitl [H3] <;> iassumption))
  isplitl [HO Hw4 H4]
  · isplitr; · iexact Hc
    isplitl [HO]; · iexact HO
    isplitl [Hw4]; · iexact Hw4
    iexact H4
  isplitl [Hw1]; · iexact Hw1
  isplitl [H2] <;> iassumption

/-! ## Closing the semaphores -/

theorem close_list (c : Dev nD) : ∀ l : List Kind, iprop(ctx m K ∗ lsep (fun κ => atPos ER (cell c κ) 1 ∅ 0) l) ⊢ iprop(|={Set.univ}=> lsep (fun κ => semVal (cell c κ) 0) l)
  | [] => by
    iintro H
    imodintro
    unfold lsep; iempintro
  | κ :: l => by
    have ih := close_list c l
    show iprop(ctx m K ∗ (atPos ER (cell c κ) 1 ∅ 0 ∗ lsep (fun κ => atPos ER (cell c κ) 1 ∅ 0) l)) ⊢ iprop(|={Set.univ}=> (semVal (cell c κ) 0 ∗ lsep (fun κ => semVal (cell c κ) 0) l))
    iintro ⟨#Hc, Hat, HL⟩
    ihave H := (ctx_at m K c κ) $$ Hc
    icases H with ⟨#HI, #Hr⟩
    imod (Rounds.cell_close ER (Rd m) (Set.mem_univ (K (c, κ))) (fun h => h) (R := 0 + 1) (duties_later m (cell c κ))) $$ [Hat] with Hz
    · isplitr; · iexact HI
      iexact Hat
    imod ih $$ [HL] with HL
    · isplitr; · iexact Hc
      iexact HL
    imodintro
    isplitl [Hz] <;> iassumption

theorem close_all (c : Dev nD) : iprop(ctx m K ∗ bigSep Finset.univ fun κ : Kind => atPos ER (cell c κ) 1 ∅ 0) ⊢ iprop(|={Set.univ}=> bigSep Finset.univ fun κ : Kind => semVal (cell c κ) 0) := by
  have hu : (Finset.univ : Finset Kind) = kinds.toFinset := by
    ext κ; simp only [Finset.mem_univ, List.mem_toFinset, mem_kinds]
  rw [hu, bigSep_lsep _ kinds (by decide), bigSep_lsep _ kinds (by decide)]
  exact close_list m K c kinds

end Cert.Attn
-- ==== Proof.Body.lean ====
/-
# The body of the kernel

From what a device starts with to what it ends with, once, at any device.
-/
module

public import proofs.«01_k».proof.Proof.Batch

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kind → ℕ)

/-! ## What a device starts and ends with -/

/-- The tokens of the duties that device `c` performs. -/
noncomputable def toks (c : Dev nD) : sProp 𝕄 :=
  iprop(dutyTok ER (cell c (.loc 0)) 0 (0, c) ∗ dutyTok ER (cell c (.loc 1)) 0 (0, c) ∗ lsep (fun k => dutyTok ER (cell (dv c k) .bar) 0 (0, c)) ks
    ∗ (bigSep Finset.univ fun b : Fin 4 => dutyTok ER (cell c (.own b)) 0 (b, c))
    ∗ (bigSep Finset.univ fun b : Fin 4 => lsep (fun k => iprop(dutyTok ER (cell c .rss) 0 (b, dv c k) ∗ dutyTok ER (cell (dv c k) (.rsr b)) 0 (b, c))) ks)
    ∗ (bigSep Finset.univ fun b : Fin 4 => lsep (fun k => iprop(dutyTok ER (cell c .ags) 0 (b, dv c k) ∗ dutyTok ER (cell (dv c k) .agr) 0 (b, c))) ks))

/-- The credits of the units that the peers of `c` bring it. -/
noncomputable def creds (c : Dev nD) : sProp 𝕄 :=
  iprop(cred (tallyAt (cell c .bar) () 15) ∗ (bigSep Finset.univ fun b : Fin 4 => lsep (fun _ => cred (tallyAt (cell c (.rsr b)) () N)) ks)
    ∗ lsep (fun _ => lsep (fun _ => cred (tallyAt (cell c .agr) () N)) ks) bs)

/-- The staged blocks. -/
noncomputable def staged (c : Dev nD) : sProp 𝕄 :=
  iprop((((c : Thread nD τ).loc cc0_stg0_0) ↦[Finset.univ]{fullShare} xC m c) ∗ (((c : Thread nD τ).loc cc0_stg1_0) ↦[Finset.univ]{fullShare} wqC m c) ∗ (((c : Thread nD τ).loc cc0_stg2_0) ↦[Finset.univ]{fullShare} woC m c))

/-- The scratch buffers, whatever they hold. -/
noncomputable def scratch (c : Dev nD) : sProp 𝕄 :=
  iprop((∃ f : Buf (Elt F) ((c : Thread nD τ).loc cc0_scratch0), ((c : Thread nD τ).loc cc0_scratch0) ↦[Finset.univ]{fullShare} f) ∗ (∃ f : Buf (Elt F) ((c : Thread nD τ).loc cc0_scratch1), ((c : Thread nD τ).loc cc0_scratch1) ↦[Finset.univ]{fullShare} f)
    ∗ (∃ f : Buf (Elt F) ((c : Thread nD τ).loc cc0_scratch2), ((c : Thread nD τ).loc cc0_scratch2) ↦[Finset.univ]{fullShare} f) ∗ (∃ f : Buf (Elt F) ((c : Thread nD τ).loc cc0_scratch3), ((c : Thread nD τ).loc cc0_scratch3) ↦[Finset.univ]{fullShare} f)
    ∗ (∃ f : Buf (Elt F) ((c : Thread nD τ).loc cc0_scratch4), ((c : Thread nD τ).loc cc0_scratch4) ↦[Finset.univ]{fullShare} f))

/-- The arrays that the windows do not stage; the result holds `f`. -/
noncomputable def arrays (c : Dev nD) (f : (main_v1 : Ref sig .tc).ty.Contents (Elt F)) : sProp 𝕄 :=
  iprop((((c : Thread nD τ).loc main_arg3) ↦[Finset.univ]{fullShare} m ((c : Thread nD τ).loc main_arg3)) ∗ (((c : Thread nD τ).loc main_arg4) ↦[Finset.univ]{fullShare} m ((c : Thread nD τ).loc main_arg4))
    ∗ atOut c Finset.univ f)

/-! ## Lending -/

theorem ex_intro {α : Type} (P : α → sProp 𝕄) (a : α) : P a ⊢ iprop(∃ x, P x) := by
  iintro H; iexists a; iexact H

theorem sep_swap (P Q : sProp 𝕄) : Idealize.SL.BI.Entails iprop(P ∗ Q) iprop(Q ∗ P) := by
  show iprop(P ∗ Q) ⊢ iprop(Q ∗ P)
  iintro ⟨H, H'⟩
  isplitl [H'] <;> iassumption

/-- A device's staging slots and result rows are its own, and what it lends its peers. -/
theorem lend (c : Dev nD) (fs : (cc0_scratch3 : Ref sig .tc).ty.Contents (Elt F)) (fo : (main_v1 : Ref sig .tc).ty.Contents (Elt F)) :
    iprop(atStage c Finset.univ fs ∗ atOut c Finset.univ fo)
      ⊢ iprop(atStage c (slotD c) fs ∗ (bigSep Finset.univ fun b => atOut c (rowsP b c) fo) ∗ lsep (fun k => lent (F := F) c (dv c k)) ks) := by
  iintro ⟨Hs, Ho⟩
  ihave Hs := (Entails.of_eq ((stage_splitD c fs).trans (bigSep_dev c _))) $$ Hs
  ihave Ho := (Entails.of_eq ((out_split c fo).trans ((bigSep_univ_comm _).trans (bigSep_dev c _)))) $$ Ho
  icases Hs with ⟨Hs, HsL⟩
  icases Ho with ⟨Ho, HoL⟩
  isplitl [Hs]; · iexact Hs
  isplitl [Ho]; · iexact Ho
  iapply (lsep_mono (P := fun k => iprop((((c : Thread nD τ).loc cc0_scratch3) ↦[slotD (dv c k)]{fullShare} fs) ∗ bigSep Finset.univ fun b => (((c : Thread nD τ).loc main_v1) ↦[rowsP b (dv c k)]{fullShare} fo))) (fun k => by
    unfold lent
    refine BIClass.sep_mono ((Entails.of_eq (slot_split c (dv c k) fs)).trans (bigSep_mono fun b _ => ?_)) (bigSep_mono fun b _ => ?_)
    · exact ex_intro (fun f => (((c : Thread nD τ).loc cc0_scratch3) ↦[slotP b (dv c k)]{fullShare} f)) fs
    · exact ex_intro (fun f => (((c : Thread nD τ).loc main_v1) ↦[rowsP b (dv c k)]{fullShare} f)) fo) ks)
  iapply (lsep_sep _ _ ks).2
  isplitl [HsL] <;> iassumption

/-- What the peers lend, batch by batch. -/
theorem borrow (c : Dev nD) :
    bigSep (dutK c (some .bar)) (payK m c (some .bar))
      ⊢ iprop((bigSep Finset.univ fun b => lsep (fun k => iprop(∃ f, atStage (F := F) (dv c k) (slotP b c) f)) ks)
        ∗ bigSep Finset.univ fun b => lsep (fun k => iprop(∃ f, atOut (F := F) (dv c k) (rowsP b c) f)) ks) := by
  have e : bigSep (dutK c (some .bar)) (payK m c (some .bar)) = bigSep Finset.univ fun k : Fin 15 => lent (F := F) (dv c k) c := bigSep_peersB c 0 _
  rw [e]
  unfold lent
  rw [bigSep_sep', bigSep_univ_comm, bigSep_univ_comm (fun (k : Fin 15) (b : Fin 4) => iprop(∃ f : Buf (Elt F) ((dv c k : Thread nD τ).loc main_v1), ((dv c k : Thread nD τ).loc main_v1) ↦[rowsP b c]{fullShare} f))]
  refine BIClass.sep_mono (bigSep_mono fun b _ => ?_) (bigSep_mono fun b _ => ?_)
  · exact Entails.of_eq (bigSep_ks _)
  · exact Entails.of_eq (bigSep_ks _)

/-- Nothing of the round has been waited for yet. -/
theorem positions (c : Dev nD) : (bigSep Finset.univ fun κ : Kind => atPos ER (cell c κ) 0 ∅ 0 : sProp 𝕄)
    ⊢ iprop(waitPos m c .bar 15 ∗ waitPos m c (.loc 0) 1 ∗ waitPos m c (.loc 1) 1 ∗ (bigSep Finset.univ fun b => waitPos m c (.own b) 1) ∗ (bigSep Finset.univ fun b => waitPos m c (.rsr b) 15)
      ∗ waitPos m c .rss 60 ∗ waitPos m c .ags 60 ∗ waitPos m c .agr 60) := by
  refine (kinds14 _).1.trans ?_
  refine BIClass.sep_mono (waitPos_start m c .bar 15 (card_peersB c 0) (by decide)) ?_
  refine BIClass.sep_mono (waitPos_start m c (.loc 0) 1 rfl (by decide)) ?_
  refine BIClass.sep_mono (waitPos_start m c (.loc 1) 1 rfl (by decide)) ?_
  refine BIClass.sep_mono (bigSep_mono fun b _ => waitPos_start m c (.own b) 1 rfl (by decide)) ?_
  refine BIClass.sep_mono (bigSep_mono fun b _ => waitPos_start m c (.rsr b) 15 (card_peersB c b) (by decide)) ?_
  refine BIClass.sep_mono (waitPos_start m c .rss 60 (card_peersA c) (by decide)) ?_
  refine BIClass.sep_mono (waitPos_start m c .ags 60 (card_peersA c) (by decide)) ?_
  exact waitPos_start m c .agr 60 (card_peersA c) (by decide)

/-- Everything sent is whole again. -/
theorem send_back (c : Dev nD) :
    iprop(bigSep (dutK c (some .rss)) (payK m c (some .rss)) ∗ bigSep Finset.univ fun b => atSend c (rowsP b c) (sendC m c)) ⊢ atSend c Finset.univ (sendC m c) := by
  have e : bigSep (dutK c (some .rss)) (payK m c (some .rss)) = bigSep Finset.univ fun b => lsep (fun k => atSend c (rowsP b (dv c k)) (sendC m c)) ks := pays_peersA c _
  rw [e, show atSend c Finset.univ (sendC m c) = _ from send_split c (sendC m c), ← bigSep_sep']
  refine bigSep_mono fun b _ => ?_
  rw [batch_split, bigSep_dev c]
  exact (sep_swap (F := F) _ _)

/-- The result is whole. -/
theorem out_back (c : Dev nD) :
    iprop(bigSep (dutK c (some .agr)) (payK m c (some .agr)) ∗ bigSep Finset.univ fun b => atOut c (rowsP b c) (outC m c)) ⊢ atOut c Finset.univ (outC m c) := by
  have e : bigSep (dutK c (some .agr)) (payK m c (some .agr)) = bigSep Finset.univ fun b => lsep (fun k => atOut c (rowsP b (dv c k)) (outC m c)) ks := pays_peersA c _
  rw [e, show atOut c Finset.univ (outC m c) = _ from out_split c (outC m c), ← bigSep_sep']
  refine bigSep_mono fun b _ => ?_
  rw [bigSep_dev c]
  exact (sep_swap (F := F) _ _)

/-- The finished pieces are whole again. -/
theorem ag_back (c : Dev nD) :
    iprop(bigSep (dutK c (some .ags)) (payK m c (some .ags)) ∗ bigSep Finset.univ fun b => atAg c (agP b) shO (agC m c)) ⊢ atAg c Finset.univ fullShare (agC m c) := by
  have e : bigSep (dutK c (some .ags)) (payK m c (some .ags)) = bigSep Finset.univ fun b => lsep (fun k => atAg c (agP b) (shS (kOf c (dv c k))) (agC m c)) ks := pays_peersA c _
  rw [e, show atAg c Finset.univ fullShare (agC m c) = _ from ag_split c (agC m c), ← bigSep_sep']
  refine bigSep_mono fun b _ => ?_
  simp only [kOf_dv]
  exact sep_comm.1.trans (ag_shares c b (agC m c)).2

/-! ## The body -/

theorem zero2 : (![0, 0] : Fin 2 → Nat) = fun _ => 0 := by decide

/-- A program that asks for its device gets `c`. -/
theorem wp_dev {α : Type} (c : Dev nD) (k : Dev nD → Prog (TpuEff nD τ sig (Elt F) Λ₀ .tc) α) (Q : α → sProp 𝕄) : WP c (Prog.lift .deviceId >>= k) Q = WP c (k c) Q :=
  wp_deviceId 𝒱₀ (c : Thread nD τ) none Set.univ

theorem body_wp (c : Dev nD) (f : (main_v1 : Ref sig .tc).ty.Contents (Elt F)) :
    iprop(ctx m K ∗ owe c (owe0 c) ∗ (bigSep Finset.univ fun κ : Kind => atPos ER (cell c κ) 0 ∅ 0) ∗ toks (F := F) c ∗ creds (F := F) c ∗ staged m c ∗ scratch (F := F) c ∗ arrays m c f)
      ⊢ WP c (clean (F := F)) fun _ => iprop(owe c 0 ∗ staged m c ∗ scratch (F := F) c ∗ arrays m c (outC m c) ∗ bigSep Finset.univ fun κ : Kind => semVal (cell c κ) 0) := by
  unfold clean
  rw [wp_dev]
  unfold toks creds staged scratch arrays owe0
  iintro ⟨#Hc, HO, Hpos, ⟨Htl0, Htl1, Htb, Hto, Hts, Htg⟩, ⟨Hcb, Hcr, Hcg⟩, ⟨Hx, Hq, Ho⟩, ⟨⟨%f0, H0⟩, ⟨%f1, H1⟩, ⟨%f2, H2⟩, ⟨%f3, H3⟩, %f4, H4⟩, Ha3, Ha4, Hout⟩
  ihave Hpos := (positions m c) $$ Hpos
  icases Hpos with ⟨Hwb, Hwl0, Hwl1, Hwo, Hwr, Hws, Hwa, Hwg⟩
  -- the pieces of the buffers
  ihave Hl := (lend c f3 f) $$ [H3 Hout]
  · isplitl [H3] <;> iassumption
  icases Hl with ⟨H3, Hout, Hlent⟩
  ihave Ha3 := (pointsTo_split_subset (ℓ := (c : Thread nD τ).loc main_arg3) (I := colS c) (Finset.subset_univ _)).1 $$ Ha3
  icases Ha3 with ⟨Ha3, Ha3r⟩
  ihave Ha4 := (pointsTo_split_subset (ℓ := (c : Thread nD τ).loc main_arg4) (I := colS c) (Finset.subset_univ _)).1 $$ Ha4
  icases Ha4 with ⟨Ha4, Ha4r⟩
  -- the start
  iapply (wp_part c _ _ (part_start m K c f0 f1 f3))
  isplitl [H0 H1 Ha3 Ha4 Htl0 Htl1 H3]
  · isplitr; · iexact Hc
    isplitl [H0]; · iexact H0
    isplitl [H1]; · iexact H1
    isplitl [Ha3]; · iexact Ha3
    isplitl [Ha4]; · iexact Ha4
    isplitl [Htl0]; · iexact Htl0
    isplitl [Htl1] <;> iassumption
  iintro %u ⟨Hcl0, Hcl1, H3⟩
  -- the barrier
  iapply (wp_part c _ _ (part_barrier m K c (debt c 4 [0, 1, 2, 3]) (above_debt c 4 [0, 1, 2, 3] (by decide) (by decide))))
  isplitl [HO Htb Hlent Hcb Hwb]
  · isplitr; · iexact Hc
    isplitl [HO]; · iexact HO
    isplitl [Htb Hlent]
    · iapply (lsep_sep _ _ ks).2
      isplitl [Htb] <;> iassumption
    isplitl [Hcb] <;> iassumption
  iintro %u ⟨HO, Hwb⟩
  ihave Hwb := (Entails.of_eq (waitPos_done m c .bar)) $$ Hwb
  icases Hwb with ⟨Hzb, Hp⟩
  ihave Hp := (borrow m c) $$ Hp
  icases Hp with ⟨Hps, Hpo⟩
  -- the weights
  unfold weightsOf
  iapply (step_load_eq c wqM _ S1024x1024.size inb_S1024x1024_S1024x1024_0_0 _ (q := fullShare) (f := wqC m c) (wqC m c) (Memref.readAt_unit_zero (Elt F) cc0_stg1_0 zero2 _ (wqC m c))) $$ Hq
  iintro Hq
  iapply (step_load_eq c woM _ S1024x1024.size inb_S1024x1024_S1024x1024_0_0 _ (q := fullShare) (f := woC m c) (woC m c) (Memref.readAt_unit_zero (Elt F) cc0_stg2_0 zero2 _ (woC m c))) $$ Ho
  iintro Ho
  iapply (wp_part c _ _ (step_wait1 m K c (.loc 0) 0 0 (debt c 4 [0, 1, 2, 3]) (le_refl _) (above_debt c 4 [0, 1, 2, 3] (by decide) (by decide)) (le_refl 1) _ (fun Kt => rfl)))
  isplitl [HO Hcl0 Hwl0]
  · isplitr; · iexact Hc
    isplitl [HO]; · iexact HO
    isplitl [Hcl0]; · iexact Hcl0
    iexact Hwl0
  iintro %u ⟨HO, Hwl0⟩
  iapply (wp_part c _ _ (step_wait1 m K c (.loc 1) 0 0 (debt c 4 [0, 1, 2, 3]) (le_refl _) (above_debt c 4 [0, 1, 2, 3] (by decide) (by decide)) (le_refl 1) _ (fun Kt => rfl)))
  isplitl [HO Hcl1 Hwl1]
  · isplitr; · iexact Hc
    isplitl [HO]; · iexact HO
    isplitl [Hcl1]; · iexact Hcl1
    iexact Hwl1
  iintro %u ⟨HO, Hwl1⟩
  ihave Hwl0 := (show waitPos m c (.loc 0) 0 ⊢ iprop(atPos ER (cell c (.loc 0)) 1 ∅ 0 ∗ (((c : Thread nD τ).loc cc0_scratch0) ↦[Finset.univ]{fullShare} wkC m c) ∗ (((c : Thread nD τ).loc main_arg3) ↦[colS c]{fullShare} m ((c : Thread nD τ).loc main_arg3)))
      from Entails.of_eq ((waitPos_done m c (.loc 0)).trans (congrArg (fun P => iprop(atPos ER (cell c (.loc 0)) 1 ∅ 0 ∗ P)) bigSep_singleton))) $$ Hwl0
  ihave Hwl1 := (show waitPos m c (.loc 1) 0 ⊢ iprop(atPos ER (cell c (.loc 1)) 1 ∅ 0 ∗ (((c : Thread nD τ).loc cc0_scratch1) ↦[Finset.univ]{fullShare} wvC m c) ∗ (((c : Thread nD τ).loc main_arg4) ↦[colS c]{fullShare} m ((c : Thread nD τ).loc main_arg4)))
      from Entails.of_eq ((waitPos_done m c (.loc 1)).trans (congrArg (fun P => iprop(atPos ER (cell c (.loc 1)) 1 ∅ 0 ∗ P)) bigSep_singleton))) $$ Hwl1
  icases Hwl0 with ⟨Hzl0, H0, Ha3⟩
  icases Hwl1 with ⟨Hzl1, H1, Ha4⟩
  iapply (step_load_eq c wkM _ S1024x256.size inb_S1024x256_S1024x256_0_0 _ (q := fullShare) (f := wkC m c) (wkC m c) (Memref.readAt_unit_zero (Elt F) cc0_scratch0 zero2 _ (wkC m c))) $$ H0
  iintro H0
  iapply (step_load_eq c wvM _ S1024x256.size inb_S1024x256_S1024x256_0_0 _ (q := fullShare) (f := wvC m c) (wvC m c) (Memref.readAt_unit_zero (Elt F) cc0_scratch1 zero2 _ (wvC m c))) $$ H1
  iintro H1
  -- what each batch takes
  ihave H2 := (Entails.of_eq (send_split c f2)) $$ H2
  ihave HsI := (show iprop((bigSep Finset.univ fun b => (((c : Thread nD τ).loc cc0_scratch2) ↦[rowsB b]{fullShare} f2)) ∗ (bigSep Finset.univ fun b => lsep (fun k => iprop(∃ f, atStage (F := F) (dv c k) (slotP b c) f)) ks)
      ∗ (bigSep Finset.univ fun b : Fin 4 => lsep (fun k => iprop(dutyTok ER (cell c .rss) 0 (b, dv c k) ∗ dutyTok ER (cell (dv c k) (.rsr b)) 0 (b, c))) ks)) ⊢ bigSep Finset.univ fun b => sendIn (F := F) c b from by
    rw [← bigSep_sep', ← bigSep_sep']
    refine bigSep_mono fun b _ => ?_
    unfold sendIn
    exact BIClass.sep_mono (ex_intro (fun f => atSend (F := F) c (rowsB b) f) f2) (lsep_sep _ _ ks).2) $$ [H2 Hps Hts]
  · isplitl [H2]; · iexact H2
    isplitl [Hps] <;> iassumption
  ihave H4 := (Entails.of_eq (ag_split c f4)) $$ H4
  ihave H3 := (Entails.of_eq (slot_split c c (stageC m c))) $$ H3
  ihave HfI := (show iprop((bigSep Finset.univ fun b => waitPos m c (.rsr b) 15) ∗ (bigSep Finset.univ fun b : Fin 4 => lsep (fun _ => cred (tallyAt (cell c (.rsr b)) () N)) ks) ∗ (bigSep Finset.univ fun b => (((c : Thread nD τ).loc cc0_scratch3) ↦[slotP b c]{fullShare} stageC m c))
      ∗ (bigSep Finset.univ fun b => (((c : Thread nD τ).loc cc0_scratch4) ↦[agP b]{fullShare} f4)) ∗ (bigSep Finset.univ fun b => atOut c (rowsP b c) f) ∗ (bigSep Finset.univ fun b : Fin 4 => dutyTok ER (cell c (.own b)) 0 (b, c))
      ∗ (bigSep Finset.univ fun b => lsep (fun k => iprop(∃ f, atOut (F := F) (dv c k) (rowsP b c) f)) ks) ∗ (bigSep Finset.univ fun b : Fin 4 => lsep (fun k => iprop(dutyTok ER (cell c .ags) 0 (b, dv c k) ∗ dutyTok ER (cell (dv c k) .agr) 0 (b, c))) ks))
      ⊢ bigSep Finset.univ fun b => finIn m c b from by
    rw [← bigSep_sep', ← bigSep_sep', ← bigSep_sep', ← bigSep_sep', ← bigSep_sep', ← bigSep_sep', ← bigSep_sep']
    refine bigSep_mono fun b _ => ?_
    unfold finIn
    refine BIClass.sep_mono .rfl (BIClass.sep_mono .rfl (BIClass.sep_mono .rfl (BIClass.sep_mono ?_ (BIClass.sep_mono ?_ (BIClass.sep_mono .rfl (lsep_sep _ _ ks).2)))))
    · exact ex_intro (fun f => atAg (F := F) c (agP b) fullShare f) f4
    · exact ex_intro (fun f => atOut (F := F) c (rowsP b c) f) f) $$ [Hwr Hcr H3 H4 Hout Hto Hpo Htg]
  · isplitl [Hwr]; · iexact Hwr
    isplitl [Hcr]; · iexact Hcr
    isplitl [H3]; · iexact H3
    isplitl [H4]; · iexact H4
    isplitl [Hout]; · iexact Hout
    isplitl [Hto]; · iexact Hto
    isplitl [Hpo] <;> iassumption
  ihave HsI := (bs4 _).1 $$ HsI
  icases HsI with ⟨Hs0, Hs1, Hs2, Hs3⟩
  ihave HfI := (bs4 _).1 $$ HfI
  icases HfI with ⟨Hf0, Hf1, Hf2, Hf3⟩
  -- the batches
  iapply (wp_part2 c _ _ _ (part_send m K c 0 _ _ (debt_scat c 4 0 [1, 2, 3])))
  isplitl [HO Hx Hs0]
  · isplitr; · iexact Hc
    isplitl [HO]; · iexact HO
    isplitl [Hx] <;> iassumption
  iintro %u ⟨HO, Hx, Hs0⟩
  iapply (wp_part2 c _ _ _ (part_send m K c 1 _ _ (debt_scat c 4 1 [2, 3])))
  isplitl [HO Hx Hs1]
  · isplitr; · iexact Hc
    isplitl [HO]; · iexact HO
    isplitl [Hx] <;> iassumption
  iintro %u ⟨HO, Hx, Hs1⟩
  unfold sendOut
  icases Hs0 with ⟨Hs0, Hr0⟩
  iapply (wp_part c _ _ (part_finish m K c 0 _ _ (debt_gath c 3 [2, 3]) (above_debt c 4 [2, 3] (by decide) (by decide))))
  isplitl [HO Hs0 Hf0]
  · isplitr; · iexact Hc
    isplitl [HO]; · iexact HO
    isplitl [Hs0] <;> iassumption
  iintro %u ⟨HO, Hf0⟩
  iapply (wp_part2 c _ _ _ (part_send m K c 2 _ _ (debt_scat c 3 2 [3])))
  isplitl [HO Hx Hs2]
  · isplitr; · iexact Hc
    isplitl [HO]; · iexact HO
    isplitl [Hx] <;> iassumption
  iintro %u ⟨HO, Hx, Hs2⟩
  icases Hs1 with ⟨Hs1, Hr1⟩
  iapply (wp_part c _ _ (part_finish m K c 1 _ _ (debt_gath c 2 [3]) (above_debt c 3 [3] (by decide) (by decide))))
  isplitl [HO Hs1 Hf1]
  · isplitr; · iexact Hc
    isplitl [HO]; · iexact HO
    isplitl [Hs1] <;> iassumption
  iintro %u ⟨HO, Hf1⟩
  iapply (wp_part2 c _ _ _ (part_send m K c 3 _ _ (debt_scat c 2 3 [])))
  isplitl [HO Hx Hs3]
  · isplitr; · iexact Hc
    isplitl [HO]; · iexact HO
    isplitl [Hx] <;> iassumption
  iintro %u ⟨HO, Hx, Hs3⟩
  unfold sendOut
  icases Hs2 with ⟨Hs2, Hr2⟩
  icases Hs3 with ⟨Hs3, Hr3⟩
  iapply (wp_part c _ _ (part_finish m K c 2 _ _ (debt_gath c 1 []) (above_debt c 2 [] (by decide) (by decide))))
  isplitl [HO Hs2 Hf2]
  · isplitr; · iexact Hc
    isplitl [HO]; · iexact HO
    isplitl [Hs2] <;> iassumption
  iintro %u ⟨HO, Hf2⟩
  iapply (wp_part c _ _ (part_finish m K c 3 _ _ (debt_gath c 0 []) (above_debt c 1 [] (by decide) (by decide))))
  isplitl [HO Hs3 Hf3]
  · isplitr; · iexact Hc
    isplitl [HO]; · iexact HO
    isplitl [Hs3] <;> iassumption
  iintro %u ⟨HO, Hf3⟩
  -- everything in flight
  ihave Hf := (bs4 (fun b => finOut m c b)).2 $$ [Hf0 Hf1 Hf2 Hf3]
  · isplitl [Hf0]; · iexact Hf0
    isplitl [Hf1]; · iexact Hf1
    isplitl [Hf2] <;> iassumption
  ihave Hf := (show (bigSep Finset.univ fun b => finOut m c b) ⊢ iprop((bigSep Finset.univ fun b => atPos ER (cell c (.rsr b)) 1 ∅ 0) ∗ (bigSep Finset.univ fun b => atSend c (rowsP b c) (sendC m c)) ∗ (bigSep Finset.univ fun b => atStage c (slotB b) (stageC m c))
      ∗ (bigSep Finset.univ fun b : Fin 4 => cred (tallyAt (cell c (.own b)) () N)) ∗ (bigSep Finset.univ fun _ : Fin 4 => lsep (fun _ => cred (tallyAt (cell c .ags) () N)) ks)) from by
    unfold finOut
    rw [bigSep_sep', bigSep_sep', bigSep_sep', bigSep_sep']) $$ Hf
  icases Hf with ⟨Hzr, Hsown, H3, Hco, Hca⟩
  iapply (wp_fupd frame (wpE (defs₀ (F := F)) 𝒱₀ (c : Thread nD τ) none) Set.univ)
  iapply (wp_wand frame (wpE (defs₀ (F := F)) 𝒱₀ (c : Thread nD τ) none) Set.univ) $$ [HO Hwg Hcg Hwo Hco Hws Hr0 Hr1 Hr2 Hr3 Hwa Hca]
  · iapply (part_drain m K c)
    isplitr; · iexact Hc
    isplitl [HO]; · iapply (Entails.of_eq (congrArg (owe (F := F) c) (debt_none c))); iexact HO
    isplitl [Hwg Hcg]
    · isplitl [Hwg] <;> iassumption
    isplitl [Hwo Hco]
    · iapply (lsep_sep _ _ bs).2
      isplitl [Hco]
      · iapply (Entails.of_eq (bigSep_bs _)); iexact Hco
      · iapply (Entails.of_eq (bigSep_bs _)); iexact Hwo
    isplitl [Hws Hr0 Hr1 Hr2 Hr3]
    · isplitl [Hws]; · iexact Hws
      iapply (Entails.of_eq (bigSep_bs (fun _ : Fin 4 => lsep (fun _ => cred (tallyAt (cell c .rss) () N)) ks)))
      iapply (bs4 _).2
      isplitl [Hr0]; · iexact Hr0
      isplitl [Hr1]; · iexact Hr1
      isplitl [Hr2] <;> iassumption
    isplitl [Hwa]; · iexact Hwa
    iapply (Entails.of_eq (bigSep_bs (fun _ : Fin 4 => lsep (fun _ => cred (tallyAt (cell c .ags) () N)) ks)))
    iexact Hca
  iintro %u ⟨HO, Hwg, Hwo, Hws, Hwa⟩
  ihave Hwg := (Entails.of_eq (waitPos_done m c .agr)) $$ Hwg
  ihave Hws := (Entails.of_eq (waitPos_done m c .rss)) $$ Hws
  ihave Hwa := (Entails.of_eq (waitPos_done m c .ags)) $$ Hwa
  icases Hwg with ⟨Hzg, Hpg⟩
  icases Hws with ⟨Hzs, Hps⟩
  icases Hwa with ⟨Hza, Hpa⟩
  ihave Hwo := (show lsep (fun b => waitPos m c (.own b) 0) bs ⊢ iprop((bigSep Finset.univ fun b => atPos ER (cell c (.own b)) 1 ∅ 0) ∗ (bigSep Finset.univ fun b => atOut c (rowsP b c) (outC m c)) ∗ bigSep Finset.univ fun b => atAg c (agP b) shO (agC m c)) from by
    rw [← bigSep_bs, ← bigSep_sep', ← bigSep_sep']
    refine bigSep_mono fun b _ => ?_
    exact Entails.of_eq ((waitPos_done m c (.own b)).trans (congrArg (fun P => iprop(atPos ER (cell c (.own b)) 1 ∅ 0 ∗ P)) bigSep_singleton))) $$ Hwo
  icases Hwo with ⟨Hzo, Hout, Hag⟩
  imod (close_all m K c) $$ [Hzb Hzl0 Hzl1 Hzo Hzr Hzs Hza Hzg] with Hz
  · isplitr; · iexact Hc
    iapply (kinds14 _).2
    isplitl [Hzb]; · iexact Hzb
    isplitl [Hzl0]; · iexact Hzl0
    isplitl [Hzl1]; · iexact Hzl1
    isplitl [Hzo]; · iexact Hzo
    isplitl [Hzr]; · iexact Hzr
    isplitl [Hzs]; · iexact Hzs
    isplitl [Hza] <;> iassumption
  imodintro
  isplitl [HO]; · iexact HO
  isplitl [Hx Hq Ho]
  · isplitl [Hx]; · iexact Hx
    isplitl [Hq] <;> iassumption
  isplitl [H0 H1 Hsown Hps H3 Hag Hpa]
  · isplitl [H0]; · iexists _; iexact H0
    isplitl [H1]; · iexists _; iexact H1
    isplitl [Hsown Hps]
    · iexists (sendC m c)
      iapply (send_back m c)
      isplitl [Hps] <;> iassumption
    isplitl [H3]
    · iexists (stageC m c)
      iapply (Entails.of_eq (stage_split c (stageC m c)).symm); iexact H3
    iexists (agC m c)
    iapply (ag_back m c)
    isplitl [Hpa] <;> iassumption
  isplitl [Ha3 Ha3r Ha4 Ha4r Hout Hpg]
  · isplitl [Ha3 Ha3r]
    · iapply (pointsTo_split_subset (ℓ := (c : Thread nD τ).loc main_arg3) (I := colS c) (Finset.subset_univ _)).2
      isplitl [Ha3] <;> iassumption
    isplitl [Ha4 Ha4r]
    · iapply (pointsTo_split_subset (ℓ := (c : Thread nD τ).loc main_arg4) (I := colS c) (Finset.subset_univ _)).2
      isplitl [Ha4] <;> iassumption
    iapply (out_back m c)
    isplitl [Hpg] <;> iassumption
  iexact Hz

end Cert.Attn
-- ==== Proof.Tokens.lean ====
/-
# What the launch deals

The cells and tokens of the kernel's semaphores, the tokens handed to the devices that perform the duties, and the
credits of what the devices owe each other.
-/
module

public import proofs.«01_k».proof.Proof.Body

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

theorem semOf_inj : Function.Injective semOf := fun κ κ' h => Option.some.inj (by rw [← kind_sem κ, ← kind_sem κ', h])

theorem cell_inj : Function.Injective (fun ck : Dev nD × Kind => cell ck.1 ck.2) := by
  rintro ⟨c, κ⟩ ⟨c', κ'⟩ h
  have h1 : c = c' := congrArg (fun g : GSem nD τ sig => g.1.1) h
  have h2 : semOf κ = semOf κ' := congrArg Prod.snd h
  exact Prod.ext h1 (semOf_inj h2)

theorem tok_inj : Function.Injective (fun x : (Dev nD × Kind) × Duty => ((cell x.1.1 x.1.2, 0, x.2) : GSem nD τ sig × ℕ × Duty)) := by
  rintro ⟨x, d⟩ ⟨x', d'⟩ h
  obtain ⟨h1, h2⟩ := Prod.mk.inj h
  exact Prod.ext (cell_inj h1) (Prod.mk.inj h2).2

/-- The kernel's cells. -/
noncomputable def ringCells : Finset (GSem nD τ sig) := Finset.univ.map ⟨_, cell_inj⟩
/-- One token per duty. -/
noncomputable def ringToks : Finset (GSem nD τ sig × ℕ × Duty) :=
  (Finset.univ.filter fun x : (Dev nD × Kind) × Duty => x.2 ∈ dutK x.1.1 (some x.1.2)).map ⟨_, tok_inj⟩

theorem bigSep_ringCells (Φ : GSem nD τ sig → sProp 𝕄) :
    bigSep ringCells Φ = bigSep Finset.univ fun c : Dev nD => bigSep Finset.univ fun κ : Kind => Φ (cell c κ) := by
  unfold ringCells; rw [bigSep_map, bigSep_univ_prod]; rfl

/-- The tokens of a cell. -/
noncomputable def ownTok (c : Dev nD) (κ : Kind) : sProp 𝕄 := bigSep (dutK c (some κ)) fun d => dutyTok ER (cell c κ) 0 d

theorem bigSep_ringToks : bigSep ringToks (fun x => (dutyTok ER x.1 x.2.1 x.2.2 : sProp 𝕄))
    = bigSep Finset.univ fun c : Dev nD => bigSep Finset.univ fun κ : Kind => ownTok (F := F) c κ := by
  unfold ringToks
  rw [bigSep_map, bigSep_filter, bigSep_univ_prod, bigSep_univ_prod]
  refine bigSep_congr fun c _ => bigSep_congr fun κ _ => ?_
  show bigSep Finset.univ (fun d : Duty => if d ∈ dutK c (some κ) then (dutyTok ER (cell c κ) 0 d : sProp 𝕄) else iprop(emp)) = ownTok c κ
  refine (bigSep_filter Finset.univ (fun d : Duty => d ∈ dutK c (some κ)) fun d => (dutyTok ER (cell c κ) 0 d : sProp 𝕄)).symm.trans ?_
  rw [Finset.filter_univ_mem]
  rfl

/-! ## Dealing the tokens -/

/-- A device and a distance, seen from the other end. -/
noncomputable def flip : Dev nD × Fin 15 ≃ Dev nD × Fin 15 where
  toFun p := (dv p.1 p.2, kOf (dv p.1 p.2) p.1)
  invFun p := (dv p.1 p.2, kOf (dv p.1 p.2) p.1)
  left_inv p := by
    have h : dv (dv p.1 p.2) (kOf (dv p.1 p.2) p.1) = p.1 := dv_kOf _ _ (dv_ne p.1 p.2).symm
    refine Prod.ext h ?_
    show kOf (dv (dv p.1 p.2) (kOf (dv p.1 p.2) p.1)) (dv p.1 p.2) = p.2
    rw [h, kOf_dv]
  right_inv p := by
    have h : dv (dv p.1 p.2) (kOf (dv p.1 p.2) p.1) = p.1 := dv_kOf _ _ (dv_ne p.1 p.2).symm
    refine Prod.ext h ?_
    show kOf (dv (dv p.1 p.2) (kOf (dv p.1 p.2) p.1)) (dv p.1 p.2) = p.2
    rw [h, kOf_dv]

/-- What each device holds of each peer, each peer holds of each device. -/
theorem bigSep_flip (P : Dev nD → Dev nD → sProp 𝕄) :
    (bigSep Finset.univ fun c : Dev nD => bigSep Finset.univ fun k : Fin 15 => P c (dv c k))
      = bigSep Finset.univ fun c : Dev nD => bigSep Finset.univ fun k : Fin 15 => P (dv c k) c := by
  rw [← bigSep_univ_prod (fun p : Dev nD × Fin 15 => P p.1 (dv p.1 p.2)), bigSep_univ_equiv flip, bigSep_univ_prod]
  refine bigSep_congr fun c _ => bigSep_congr fun k _ => ?_
  show P (dv c k) (dv (dv c k) (kOf (dv c k) c)) = P (dv c k) c
  rw [dv_kOf _ _ (dv_ne c k).symm]

theorem deal_bar : (bigSep Finset.univ fun c : Dev nD => ownTok (F := F) c .bar)
    = bigSep Finset.univ fun c : Dev nD => lsep (fun k => (dutyTok ER (cell (dv c k) .bar) 0 (0, c) : sProp 𝕄)) ks := by
  rw [bigSep_congr (s := Finset.univ) fun (c : Dev nD) _ => show ownTok (F := F) c .bar = _ from bigSep_peersB c 0 _,
    bigSep_flip fun c e => (dutyTok ER (cell c .bar) 0 (0, e) : sProp 𝕄)]
  exact bigSep_congr fun c _ => bigSep_ks _

theorem deal_rsr : (bigSep Finset.univ fun c : Dev nD => bigSep Finset.univ fun b : Fin 4 => ownTok (F := F) c (.rsr b))
    = bigSep Finset.univ fun c : Dev nD => bigSep Finset.univ fun b : Fin 4 => lsep (fun k => (dutyTok ER (cell (dv c k) (.rsr b)) 0 (b, c) : sProp 𝕄)) ks := by
  rw [bigSep_univ_comm, bigSep_univ_comm (fun (c : Dev nD) (b : Fin 4) => lsep (fun k => (dutyTok ER (cell (dv c k) (.rsr b)) 0 (b, c) : sProp 𝕄)) ks)]
  refine bigSep_congr fun b _ => ?_
  rw [bigSep_congr (s := Finset.univ) fun (c : Dev nD) _ => show ownTok (F := F) c (.rsr b) = _ from bigSep_peersB c b _,
    bigSep_flip fun c e => (dutyTok ER (cell c (.rsr b)) 0 (b, e) : sProp 𝕄)]
  exact bigSep_congr fun c _ => bigSep_ks _

theorem deal_agr : (bigSep Finset.univ fun c : Dev nD => ownTok (F := F) c .agr)
    = bigSep Finset.univ fun c : Dev nD => bigSep Finset.univ fun b : Fin 4 => lsep (fun k => (dutyTok ER (cell (dv c k) .agr) 0 (b, c) : sProp 𝕄)) ks := by
  rw [bigSep_congr (s := Finset.univ) fun (c : Dev nD) _ => show ownTok (F := F) c .agr = _ from bigSep_peersA c _,
    bigSep_univ_comm, bigSep_univ_comm (fun (c : Dev nD) (b : Fin 4) => lsep (fun k => (dutyTok ER (cell (dv c k) .agr) 0 (b, c) : sProp 𝕄)) ks)]
  refine bigSep_congr fun b _ => ?_
  rw [bigSep_flip fun c e => (dutyTok ER (cell c .agr) 0 (b, e) : sProp 𝕄)]
  exact bigSep_congr fun c _ => bigSep_ks _

theorem deal_pair (c : Dev nD) (P Q : Fin 4 → Fin 15 → sProp 𝕄) :
    iprop((bigSep Finset.univ fun b => lsep (P b) ks) ∗ bigSep Finset.univ fun b => lsep (Q b) ks)
      ⊢ bigSep Finset.univ fun b => lsep (fun k => iprop(P b k ∗ Q b k)) ks := by
  rw [← bigSep_sep']
  exact bigSep_mono fun b _ => (lsep_sep (P b) (Q b) ks).2

theorem deal_own (c : Dev nD) :
    iprop(ownTok (F := F) c (.loc 0) ∗ ownTok (F := F) c (.loc 1) ∗ (bigSep Finset.univ fun b : Fin 4 => ownTok (F := F) c (.own b)) ∗ ownTok (F := F) c .rss ∗ ownTok (F := F) c .ags
        ∗ lsep (fun k => (dutyTok ER (cell (dv c k) .bar) 0 (0, c) : sProp 𝕄)) ks
        ∗ (bigSep Finset.univ fun b : Fin 4 => lsep (fun k => (dutyTok ER (cell (dv c k) (.rsr b)) 0 (b, c) : sProp 𝕄)) ks)
        ∗ bigSep Finset.univ fun b : Fin 4 => lsep (fun k => (dutyTok ER (cell (dv c k) .agr) 0 (b, c) : sProp 𝕄)) ks)
      ⊢ toks (F := F) c := by
  unfold toks
  iintro ⟨H0, H1, Ho, Hs, Ha, Hb, Hr, Hg⟩
  ihave H0 := (show ownTok (F := F) c (.loc 0) ⊢ dutyTok ER (cell c (.loc 0)) 0 (0, c) from Entails.of_eq bigSep_singleton) $$ H0
  ihave H1 := (show ownTok (F := F) c (.loc 1) ⊢ dutyTok ER (cell c (.loc 1)) 0 (0, c) from Entails.of_eq bigSep_singleton) $$ H1
  ihave Ho := (show (bigSep Finset.univ fun b : Fin 4 => ownTok (F := F) c (.own b)) ⊢ bigSep Finset.univ fun b : Fin 4 => dutyTok ER (cell c (.own b)) 0 (b, c) from bigSep_mono fun b _ => Entails.of_eq bigSep_singleton) $$ Ho
  ihave Hs := (show ownTok (F := F) c .rss ⊢ bigSep Finset.univ fun b : Fin 4 => lsep (fun k => dutyTok ER (cell c .rss) 0 (b, dv c k)) ks from Entails.of_eq (pays_peersA c _)) $$ Hs
  ihave Ha := (show ownTok (F := F) c .ags ⊢ bigSep Finset.univ fun b : Fin 4 => lsep (fun k => dutyTok ER (cell c .ags) 0 (b, dv c k)) ks from Entails.of_eq (pays_peersA c _)) $$ Ha
  isplitl [H0]; · iexact H0
  isplitl [H1]; · iexact H1
  isplitl [Hb]; · iexact Hb
  isplitl [Ho]; · iexact Ho
  isplitl [Hs Hr]
  · iapply (deal_pair (F := F) c (fun b k => dutyTok ER (cell c .rss) 0 (b, dv c k)) (fun b k => dutyTok ER (cell (dv c k) (.rsr b)) 0 (b, c)))
    isplitl [Hs] <;> iassumption
  · iapply (deal_pair (F := F) c (fun b k => dutyTok ER (cell c .ags) 0 (b, dv c k)) (fun b k => dutyTok ER (cell (dv c k) .agr) 0 (b, c)))
    isplitl [Ha] <;> iassumption

/-- Every token goes to the device that performs its duty. -/
theorem deal : (bigSep Finset.univ fun c : Dev nD => bigSep Finset.univ fun κ : Kind => ownTok (F := F) c κ) ⊢ bigSep Finset.univ fun c : Dev nD => toks (F := F) c := by
  refine (bigSep_mono fun c _ => (kinds14 (ownTok (F := F) c)).1).trans ?_
  refine BI.Entails.trans ?_ (bigSep_mono fun c _ => deal_own (F := F) c)
  simp only [bigSep_sep']
  show (_ : sProp 𝕄) ⊢ _
  iintro ⟨Hb, H0, H1, Ho, Hr, Hs, Ha, Hg⟩
  ihave Hb := (Entails.of_eq (deal_bar (F := F))) $$ Hb
  ihave Hr := (Entails.of_eq (deal_rsr (F := F))) $$ Hr
  ihave Hg := (Entails.of_eq (deal_agr (F := F))) $$ Hg
  isplitl [H0]; · iexact H0
  isplitl [H1]; · iexact H1
  isplitl [Ho]; · iexact Ho
  isplitl [Hs]; · iexact Hs
  isplitl [Ha]; · iexact Ha
  isplitl [Hb]; · iexact Hb
  isplitl [Hr] <;> iassumption

/-! ## The launch's credits -/

theorem dv_inj_left (k : Fin 15) : Function.Injective fun d : Dev nD => dv d k := fun a b h => by
  have ha : a.val < 16 := a.isLt
  have hb : b.val < 16 := b.isLt
  have h1 := congrArg Fin.val h
  simp only [dv_val] at h1
  exact Fin.ext (by omega)

/-- One peer owes `c` its `n` units. -/
theorem cred_tally (c : Dev nD) (κ : Kind) (n : ℕ) (k : Fin 15) :
    (Pipeline.launchCred (fun d => tallyAt (cell (dv d k) κ) () n) c : sProp 𝕄) ⊢ cred (tallyAt (cell c κ) () n) := by
  obtain ⟨e, he⟩ := (Finite.injective_iff_surjective.mp (dv_inj_left k)) c
  have he' : dv e k = c := he
  refine (Pipeline.launchCred_elim _ c (semOf κ)).trans (Entails.of_eq (congrArg cred ?_))
  unfold tallyAt
  refine congrArg _ (Finsupp.ext fun u => ?_)
  cases u
  rw [Pipeline.launchCredit_owing, Finsupp.single_eq_same, Finset.sum_eq_single e]
  · show tallyAt (cell (dv e k) κ) () n (cell c κ) () = n
    rw [tallyAt_apply, he', if_pos ⟨rfl, rfl⟩]
  · intro d _ hd
    show tallyAt (cell (dv d k) κ) () n (cell c κ) () = 0
    rw [tallyAt_apply, if_neg]
    intro h
    have h1 : c = dv d k := congrArg (fun g : GSem nD τ sig => g.1.1) h.1
    exact hd (dv_inj_left k (h1.symm.trans he'.symm))
  · exact fun h => absurd (Finset.mem_univ _) h

theorem cred_oweL (c : Dev nD) (κ : Kind) (n : ℕ) : ∀ l : List (Fin 15),
    (Pipeline.launchCred (fun d => oweL d κ n l) c : sProp 𝕄) ⊢ lsep (fun _ => cred (tallyAt (cell c κ) () n)) l
  | [] => Entails.of_eq (Pipeline.launchCred_zero c)
  | k :: l => by
    refine (Entails.of_eq (Pipeline.launchCred_add (fun d => oweL d κ n l) (fun d => tallyAt (cell (dv d k) κ) () n) c)).trans ?_
    refine (BIClass.sep_mono (cred_oweL c κ n l) (cred_tally c κ n k)).trans (sep_swap (F := F) _ _)

theorem cred_scat (c : Dev nD) : ∀ l : List (Fin 4),
    (Pipeline.launchCred (fun d => scat d l) c : sProp 𝕄) ⊢ lsep (fun b => lsep (fun _ => cred (tallyAt (cell c (.rsr b)) () N)) ks) l
  | [] => Entails.of_eq (Pipeline.launchCred_zero c)
  | b :: l => by
    refine (Entails.of_eq (Pipeline.launchCred_add (fun d => scat d l) (fun d => oweL d (.rsr b) N ks) c)).trans ?_
    refine (BIClass.sep_mono (cred_scat c l) (cred_oweL c (.rsr b) N ks)).trans (sep_swap (F := F) _ _)

theorem cred_gath (c : Dev nD) : ∀ l : List (Fin 4),
    (Pipeline.launchCred (fun d => gath d l.length) c : sProp 𝕄) ⊢ lsep (fun _ => lsep (fun _ => cred (tallyAt (cell c .agr) () N)) ks) l
  | [] => Entails.of_eq (Pipeline.launchCred_zero c)
  | b :: l => by
    refine (Entails.of_eq (Pipeline.launchCred_add (fun d => gath d l.length) (fun d => oweL d .agr N ks) c)).trans ?_
    refine (BIClass.sep_mono (cred_gath c l) (cred_oweL c .agr N ks)).trans (sep_swap (F := F) _ _)

theorem cred_join (g : GSem nD τ sig) : ∀ l : List (Fin 15), lsep (fun _ => (cred (tallyAt g () 1) : sProp 𝕄)) l ⊢ cred (tallyAt g () l.length)
  | [] => by rw [show ([] : List (Fin 15)).length = 0 from rfl, tallyAt_zero, cred_zero]; exact .rfl
  | k :: l => by
    rw [List.length_cons, Nat.add_comm l.length 1, ← tallyAt_add]
    exact (BIClass.sep_mono .rfl (cred_join g l)).trans (cred_add _ _).2

theorem cred_all (c : Dev nD) : (Pipeline.launchCred owe0 c : sProp 𝕄) ⊢ creds (F := F) c := by
  refine (Entails.of_eq (Pipeline.launchCred_add (fun d => debt d 4 [0, 1, 2, 3]) (fun d => oweL d .bar 1 ks) c)).trans ?_
  refine (BIClass.sep_mono (Entails.of_eq (Pipeline.launchCred_add (fun d => gath d 4) (fun d => scat d [0, 1, 2, 3]) c)) .rfl).trans ?_
  refine (BIClass.sep_mono (BIClass.sep_mono (cred_gath c bs) (cred_scat c bs)) ((cred_oweL c .bar 1 ks).trans (cred_join (F := F) (cell c .bar) ks))).trans ?_
  unfold creds
  rw [bigSep_bs]
  iintro ⟨⟨Hg, Hs⟩, Hb⟩
  isplitl [Hb]; · iexact Hb
  isplitl [Hs] <;> iassumption

end Cert.Attn
-- ==== Proof.Launch.lean ====
/-
# The launch

The kernel's ghost resources made from what the machine starts with, and the run of the kernel on the whole mesh,
for any float values: it ends, the arguments are unchanged, the result of every device is `outC`, and every semaphore
counter is zero.
-/
module

public import proofs.«01_k».proof.Proof.Tokens
public import Idealize.ShloMosaic.Lib.Pipeline.CollectiveSegs

@[expose] public section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one region -/

/-- The kernel's resources on device `c`: the records, its positions and the tokens it spends. -/
noncomputable def ghost (K : Dev nD × Kind → ℕ) (c : Dev nD) : sProp 𝕄 :=
  iprop(recs m K ∗ (bigSep Finset.univ fun κ : Kind => atPos ER (cell c κ) 0 ∅ 0) ∗ toks (F := F) c)

noncomputable def start (c : Dev nD) : sProp 𝕄 :=
  iprop((∃ K, ghost m K c) ∗ creds (F := F) c ∗ levAts L lv ∗ arrays m c (m ((c : Thread nD τ).loc main_v1)))

noncomputable def Φ₀ (c : Dev nD) : sProp 𝕄 := iprop(start m c ∗ scratch (F := F) c)
noncomputable def Φ₁ (c : Dev nD) : sProp 𝕄 :=
  iprop(scratch (F := F) c ∗ arrays m c (outC m c) ∗ bigSep Finset.univ fun κ : Kind => semVal (cell c κ) 0)

noncomputable def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => wqC m c
    | ⟨2, _⟩ => woC m c
  Φ t := match t with
    | ⟨0, _⟩ => Φ₀ m c
    | ⟨_ + 1, _⟩ => Φ₁ m c
  q _ := fullShare
  owed t := match t with
    | ⟨0, _⟩ => owe0 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

noncomputable abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m 0 c).before (0 : Fin 3) t₀ d = xC m c := by
  unfold Dat.before; rw [if_pos (fetch0_0 t₀)]; rfl
theorem before_wq (c : Dev nD) (d) : (dats m 0 c).before (1 : Fin 3) t₀ d = wqC m c := by
  unfold Dat.before; rw [if_pos (fetch0_1 t₀)]; rfl
theorem before_wo (c : Dev nD) (d) : (dats m 0 c).before (2 : Fin 3) t₀ d = woC m c := by
  unfold Dat.before; rw [if_pos (fetch0_2 t₀)]; rfl

theorem staged_in (c : Dev nD) :
    iprop((∃ d, stg c cc0_stg0_0 ((dats m 0 c).before (0 : Fin 3) t₀ d)) ∗ (∃ d, stg c cc0_stg1_0 ((dats m 0 c).before (1 : Fin 3) t₀ d))
        ∗ (∃ d, stg c cc0_stg2_0 ((dats m 0 c).before (2 : Fin 3) t₀ d)))
      ⊢ staged m c := by
  unfold staged
  iintro ⟨⟨%d0, %f0, %h0, H0⟩, ⟨%d1, %f1, %h1, H1⟩, ⟨%d2, %f2, %h2, H2⟩⟩
  have e0 : f0 = xC m c := h0.trans (before_x m c d0)
  have e1 : f1 = wqC m c := h1.trans (before_wq m c d1)
  have e2 : f2 = woC m c := h2.trans (before_wo m c d2)
  subst e0 e1 e2
  isplitl [H0]; · iexact H0
  isplitl [H1]; · iexact H1
  iexact H2

theorem staged_out (c : Dev nD) : staged m c ⊢ iprop(stg c cc0_stg0_0 (xC m c) ∗ stg c cc0_stg1_0 (wqC m c) ∗ stg c cc0_stg2_0 (woC m c)) := by
  unfold staged
  iintro ⟨H0, H1, H2⟩
  isplitl [H0]
  · iexists (xC m c); isplitr; · (ipureintro; rfl)
    iexact H0
  isplitl [H1]
  · iexists (wqC m c); isplitr; · (ipureintro; rfl)
    iexact H1
  · iexists (woC m c); isplitr; · (ipureintro; rfl)
    iexact H2

noncomputable def bodyPre (c : Dev nD) : sProp 𝕄 :=
  iprop(Φ₀ m c ∗ (dats m 0 c).owesAt () t₀.castSucc
    ∗ (∃ d, stg c cc0_stg0_0 ((dats m 0 c).before (0 : Fin 3) t₀ d)) ∗ (∃ d, stg c cc0_stg1_0 ((dats m 0 c).before (1 : Fin 3) t₀ d))
    ∗ (∃ d, stg c cc0_stg2_0 ((dats m 0 c).before (2 : Fin 3) t₀ d)))
noncomputable def bodyPost (c : Dev nD) : sProp 𝕄 :=
  iprop(Φ₁ m c ∗ (dats m 0 c).owesAt () t₀.succ ∗ stg c cc0_stg0_0 (xC m c) ∗ stg c cc0_stg1_0 (wqC m c) ∗ stg c cc0_stg2_0 (woC m c))

theorem owes_in (c : Dev nD) : (dats m 0 c).owesAt () t₀.castSucc ⊢ owe (F := F) c (owe0 c) := by
  unfold owe Dat.owesAt Pipeline.owesWithin
  rw [show (dats m 0 c).owed t₀.castSucc = owe0 c from rfl]
  iintro ⟨%W, %hW, HO⟩
  iexists W; iexact HO

theorem owes_out (c : Dev nD) : owe (F := F) c 0 ⊢ (dats m 0 c).owesAt () t₀.succ := by
  unfold owe Dat.owesAt Pipeline.owesWithin
  rw [show (dats m 0 c).owed t₀.succ = 0 from rfl]
  iintro ⟨%W, HO⟩
  iexists W
  isplitr; · ipureintro; exact fun _ _ => Or.inl trivial
  iexact HO

theorem sound_body (c : Dev nD) : bodyPre m c ⊢ WP c (clean (F := F)) fun _ => bodyPost m c := by
  unfold bodyPre Φ₀ start ghost
  iintro ⟨⟨⟨⟨%K, #HR, Hat, Ht⟩, Hc, #HL, HA⟩, HS⟩, HO, HW⟩
  ihave HO := (owes_in m c) $$ HO
  ihave HW := (staged_in m c) $$ HW
  iapply (wp_wand frame (wpE (defs₀ (F := F)) 𝒱₀ (c : Thread nD τ) none) Set.univ) $$ [HO Hat Ht Hc HW HS HA]
  · iapply (body_wp m K c (m ((c : Thread nD τ).loc main_v1)))
    unfold ctx
    isplitr
    · isplitr <;> iassumption
    isplitl [HO]; · iexact HO
    isplitl [Hat]; · iexact Hat
    isplitl [Ht]; · iexact Ht
    isplitl [Hc]; · iexact Hc
    isplitl [HW]; · iexact HW
    isplitl [HS] <;> iassumption
  iintro %u ⟨HO, HW, HS, HA, Hz⟩
  ihave HO := (owes_out m c) $$ HO
  ihave HW := (staged_out m c) $$ HW
  unfold bodyPost Φ₁
  isplitl [HS HA Hz]
  · isplitl [HS]; · iexact HS
    isplitl [HA] <;> iassumption
  isplitl [HO] <;> iassumption

theorem defs₀_row (t : Fin cfg0.N) : defs₀ (F := F) .tc cfg0.body (cfg0.bodyArgs t (cfg0.slots t)) = clean (F := F) := by
  refine Eq.trans ?_ (body_eq t)
  unfold defs₀; rw [Defs.onTc_tc]

theorem body_obligation (c : Dev nD) : BodyObligation (dats (F := F) m 0 c) (defs₀ (F := F)) 𝒱₀ () Set.univ := fun t => by
  obtain rfl := fin_N0 t
  rw [defs₀_row, bigSep_W0, bigSep_W0]
  refine triple_restated (sound_body m c) rfl ?_ fun _ => ?_
  · simp only [owns_whole_eq]
    exact BI.Entails.refl _
  · simp only [owns_whole_eq]
    exact BI.Entails.refl _

/-! ## The launch -/

/-- The uses of the kernel's own semaphores. -/
def okind : Fin 13 → Kind := ![.loc 0, .loc 1, .own 0, .own 1, .own 2, .own 3, .rsr 0, .rsr 1, .rsr 2, .rsr 3, .rss, .ags, .agr]
theorem okind_inj : Function.Injective okind := by decide
abbrev osem : Fin 13 → SemLoc sig := fun i => semOf (okind i)

theorem ownSemFacts : Pipeline.OwnSemFacts cfg0.spec osem := by decide
theorem share_eq (c : Dev nD) (w : Fin cfg0.W) : (dats m 0 c).share w = fullShare := by unfold Dat.share; split <;> rfl

noncomputable def u₀ : UU := (initOf (Pipeline.cells cfgs cellOf_inj) (Pipeline.launchToks cfgs cellOf_inj), initOf ringCells ringToks)

/-- What the launch deals device `c`. -/
noncomputable def G (c : Dev nD) : sProp 𝕄 :=
  iprop((bigSep Finset.univ fun κ : Kind => roundState ER (Rd m) (cell c κ) 0)
    ∗ (bigSep Finset.univ fun κ : Kind => iprop(atPos ER (cell c κ) 0 ∅ 0 ∗ reached ER (cell c κ) 0))
    ∗ bigSep Finset.univ fun κ : Kind => ownTok (F := F) c κ)

theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst := (Entails.of_eq (bigSep_ringCells fun g => roundState ER (Rd m) g 0)) $$ Hst
  ihave Hat := (Entails.of_eq (bigSep_ringCells (F := F) fun g => atPos ER g 0 ∅ 0)) $$ Hat
  ihave Hr := (Entails.of_eq (bigSep_ringCells (F := F) fun g => reached ER g 0)) $$ Hr
  ihave Htok := (Entails.of_eq (bigSep_ringToks (F := F))) $$ Htok
  unfold G; simp only [bigSep_sep']
  isplitl [Hst]; · iexact Hst
  isplitl [Hat Hr]
  · isplitl [Hat] <;> iassumption
  iexact Htok

theorem kinds_split (P : Kind → sProp 𝕄) : bigSep Finset.univ P = iprop(P .bar ∗ bigSep Finset.univ fun i : Fin 13 => P (okind i)) := by
  rw [bigSep_univ_at P .bar, show (Finset.univ : Finset Kind).erase .bar = Finset.univ.map ⟨okind, okind_inj⟩ by decide, bigSep_map]
  rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) : (bigSep Finset.univ fun κ : Kind => (semVal (cell c κ) 0 : sProp 𝕄))
    = iprop(unscopedSems0 c ∗ Pipeline.ownSems0 (Ix := Unit) (Name := ℕ) (U := UU) (Lvl := ℕ) (Val := Elt F) (τ := τ) osem c) := by
  rw [kinds_split, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun κ : Kind => iprop(∃ k : ℕ, cellInv ER (Rd m) k (cell c κ)))
          ∗ (bigSep Finset.univ fun κ : Kind => iprop(atPos ER (cell c κ) 0 ∅ 0 ∗ reached ER (cell c κ) 0))
          ∗ bigSep Finset.univ fun κ : Kind => ownTok (F := F) c κ) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun κ : Kind => semVal (cell c κ) 0) ∗ bigSep Finset.univ fun κ : Kind => roundState ER (Rd m) (cell c κ) 0)
      ⊢ (|={Set.univ}=> bigSep Finset.univ fun κ : Kind => iprop(∃ k : ℕ, cellInv ER (Rd m) k (cell c κ)) : sProp 𝕄) from by
        rw [← bigSep_sep']
        exact (bigSep_mono fun κ _ => (Rounds.body_intro ER (Rd m) (cell c κ)).trans inv_alloc).trans (bigSep_fupd _ _)) $$ [Hv Hst] with Hinv
  · isplitl [Hv] <;> iassumption
  imodintro
  isplitl [Hinv]; · iexact Hinv
  isplitl [Hat] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) .rfl).trans (by rw [← bigSep_sep']; exact bigSep_mono h)

theorem regroup :
    (bigSep Finset.univ fun c : Dev nD => iprop((bigSep Finset.univ fun κ : Kind => iprop(∃ k : ℕ, cellInv ER (Rd m) k (cell c κ)))
          ∗ (bigSep Finset.univ fun κ : Kind => iprop(atPos ER (cell c κ) 0 ∅ 0 ∗ reached ER (cell c κ) 0))
          ∗ bigSep Finset.univ fun κ : Kind => ownTok (F := F) c κ) : sProp 𝕄)
      ⊢ bigSep Finset.univ fun c : Dev nD => iprop(∃ K, ghost m K c) := by
  rw [bigSep_sep', bigSep_sep', ← bigSep_univ_prod (fun ck : Dev nD × Kind => iprop(∃ k : ℕ, cellInv ER (Rd m) k (cell ck.1 ck.2))),
    bigSep_congr (s := Finset.univ) (fun (c : Dev nD) _ => bigSep_sep' Finset.univ (fun κ : Kind => (atPos ER (cell c κ) 0 ∅ 0 : sProp 𝕄)) (fun κ => reached ER (cell c κ) 0)),
    bigSep_sep', ← bigSep_univ_prod (fun ck : Dev nD × Kind => (reached ER (cell ck.1 ck.2) 0 : sProp 𝕄))]
  iintro ⟨HI, ⟨Hat, HR⟩, Htok⟩
  ihave HK := (BI.bigSep_exists_pi Finset.univ (fun (ck : Dev nD × Kind) (k : ℕ) => (cellInv ER (Rd m) k (cell ck.1 ck.2) : sProp 𝕄))) $$ HI
  icases HK with ⟨%K, HI⟩
  ihave Htk := (deal (F := F)) $$ Htok
  iapply (with_persistent (F := F) (R := recs m K) (Φ := fun c : Dev nD => iprop((bigSep Finset.univ fun κ : Kind => atPos ER (cell c κ) 0 ∅ 0) ∗ toks (F := F) c))
    fun c _ => ex_intro (fun K => ghost m K c) K)
  isplitl [HI HR]
  · unfold recs
    rw [bigSep_sep']
    isplitl [HI] <;> iassumption
  · rw [bigSep_sep']
    isplitl [Hat] <;> iassumption

/-- All semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c : Dev nD => iprop(∃ K, ghost m K c) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ ∃ K, ghost m K c)
      ⊢ |={Set.univ}=> iprop(start m c ∗ emp) := by
  rw [Pipeline.unscopedRestP_none, unscopedRest0_eq]
  iintro ⟨HA, Hlev, Hcr, -, HG⟩
  ihave Hc := (cred_all (F := F) c) $$ Hcr
  imodintro
  unfold start arrays
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  unfold scratch
  iexact Hr

theorem phi1_exit (c : Dev nD) :
    (dats m 0 c).Φ (Fin.last cfg0.N) ⊢ iprop((unscopedSems0 c ∗ arrays m c (outC m c)) ∗ Pipeline.ownSems0 osem c ∗ Pipeline.scopedRest cfg0.spec c) := by
  rw [show (dats m 0 c).Φ (Fin.last cfg0.N) = Φ₁ m c from rfl, scopedRest0_eq]
  unfold Φ₁
  rw [sems0_eq]
  iintro ⟨Hr, HA, HzB, Hz⟩
  isplitl [HzB HA]
  · isplitl [HzB] <;> iassumption
  isplitl [Hz]; · iexact Hz
  unfold scratch
  iexact Hr

theorem waits (c : Dev nD) : (levAts L lv : sProp 𝕄) ⊢ Pipeline.cellsWaits cfgs (dats m) () 0 c :=
  Pipeline.cellsWaits_intro cfgs (dats m) () 0 c fun w s t =>
    mayWait c _ (n := 0) (by fin_cases w <;> fin_cases s <;> decide) (by
      rcases t with ⟨_ | _, ht⟩
      · exact above_add (above_debt c 4 [0, 1, 2, 3] (by decide) (by decide)) (above_oweL c .bar 1 (by decide) ks)
      · exact above_zero 0)

/-! ## The run -/

/-- What the memory holds at the end. -/
def QC : PUnit × MemSt nD τ sig (Elt F) → Prop := fun r => ∀ c : Dev nD,
  r.2.mem ((c : Thread nD τ).loc main_v1) = outC m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

/-- What is read of the arrays that no window stages, and of the barrier's counter. -/
def QY (c : Dev nD) (s : MemSt nD τ sig (Elt F)) : Prop :=
  (∀ sm : SemLoc sig, sm.isScoped .tc = false → s.sem ((c.tc : Thread nD τ), sm) = 0)
  ∧ s.mem ((c : Thread nD τ).loc main_v1) = outC m c
  ∧ s.mem ((c : Thread nD τ).loc main_arg3) = m ((c : Thread nD τ).loc main_arg3)
  ∧ s.mem ((c : Thread nD τ).loc main_arg4) = m ((c : Thread nD τ).loc main_arg4)

theorem read_end (c : Dev nD) (s' : Phys nD τ sig (Elt F)) :
    iprop((unscopedSems0 c ∗ arrays m c (outC m c)) ∗ emp ∗ SI s') ⊢ (|={Set.univ}=> iprop(⌜QY m c s'.mem⌝ ∗ SI s') : sProp 𝕄) := by
  unfold arrays
  iintro ⟨⟨Hu, H3, H4, Ho⟩, -, HSI⟩
  icombine HSI H3 gives %h3
  icombine HSI H4 gives %h4
  icombine HSI Ho gives %ho
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ ho, Buf.eq_of_forall_mem_univ h3, Buf.eq_of_forall_mem_univ h4⟩
  iexact HSI

set_option maxRecDepth 20000 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := owe0) (howed₀ := fun _ => rfl) (howedN := fun _ => rfl)
    (L := L) (lv := lv) (hL := L_of_ne) (hwaits := waits m)
    (G := G m) (G' := fun c => iprop(∃ K, ghost m K c)) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ arrays m c (outC m c))) (Z := fun _ => iprop(emp))
    (hX := start_intro m ρ) (hin := phi0_intro m) (hout := phi1_exit m)
    (QY := QY m) (hY := read_end m)
    (Q := fun r => QC m r ∧ r.2.sem = fun _ => 0)
    (hQ := fun s h hs => ⟨fun c => ⟨(h c).2.2.2.1, ((h c).1 (0 : Fin 3)).trans ((dats (F := F) m 0 c).arrAt_in (0 : Fin 3) rfl _),
      ((h c).1 (1 : Fin 3)).trans ((dats (F := F) m 0 c).arrAt_in (1 : Fin 3) rfl _), ((h c).1 (2 : Fin 3)).trans ((dats (F := F) m 0 c).arrAt_in (2 : Fin 3) rfl _),
      (h c).2.2.2.2.1, (h c).2.2.2.2.2⟩, sem_eq_zero hs fun c => (h c).2.2.1⟩)

end Cert.Attn
-- ==== Proof.Soft.lean ====
/-
# Attention of one row over the extended reals

One row of scores `s` and one column of values `v`.  The kernel divides every exponential by their sum and then
multiplies by the values; the reference multiplies first and divides once.  Over finite scores the two agree, whatever
the values are.  The kernel scales the queries and the reference the scores: these agree at every extended real.
-/
module

public import Idealize.ShloMosaic.PureOps.Ideal
public import Mathlib.Algebra.Order.BigOperators.Group.Finset

@[expose] public section

noncomputable section

namespace Cert.Attn

open Idealize.ShloMosaic

/-! ## Literals -/

theorem lit_bot : Ideal.ofBits .f32 0xFF800000#32 = ⊥ := by simp [Ideal.ofBits, Ideal.ieee]

theorem lit_top : Ideal.ofBits .f32 0x7F800000#32 = ⊤ := by simp [Ideal.ofBits, Ideal.ieee]

/-- The scale of the scores. -/
def scale : EReal := Ideal.ofBits .f32 0x3DB504F3#32

theorem scale_eq : ∃ c : ℝ, 0 ≤ c ∧ scale = (c : EReal) := by
  refine ⟨(2 ^ 23 + 3474675 : Nat) * (2 : ℝ) ^ (-27 : Int), by positivity, ?_⟩
  simp [scale, Ideal.ofBits, Ideal.ieee]

/-! ## Finite extended reals -/

/-- A real number. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) (f : ι → EReal) (h : ∀ i, IsReal (f i)) : IsReal (∑ i ∈ s, f i) := by
  refine Finset.sum_induction f IsReal ?_ ⟨0, rfl⟩ fun i _ => h i
  rintro _ _ ⟨a, rfl⟩ ⟨b, rfl⟩
  exact ⟨a + b, (EReal.coe_add a b).symm⟩

theorem isReal_of_abs_lt {x : EReal} (h : max x (-x) < ⊤) : IsReal x := by
  obtain ⟨h1, h2⟩ := max_lt_iff.mp h
  induction x with
  | bot => simp at h2
  | top => simp at h1
  | coe r => exact ⟨r, rfl⟩

theorem sum_coe {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- Multiplying by a real that is not negative goes through a sum. -/
theorem sum_mul_nonneg {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- Scaling the queries is scaling the scores. -/
theorem sum_scale {ι : Type} (s : Finset ι) (q k : ι → EReal) :
    ∑ i ∈ s, (q i * scale) * k i = (∑ i ∈ s, q i * k i) * scale := by
  obtain ⟨c, hc, h⟩ := scale_eq
  rw [h, sum_mul_nonneg s _ hc]
  exact Finset.sum_congr rfl fun i _ => mul_right_comm _ _ _

/-! ## One row -/

variable {n : Nat}

/-- The greatest score. -/
def top (s : Fin n → EReal) : EReal := Finset.univ.fold max ⊥ s

/-- The exponential of a score less the greatest. -/
def soft (s : Fin n → EReal) (u : Fin n) : EReal := Ideal.exp (s u - top s)

/-- Attention with the exponentials divided before the product. -/
def attnK (s v : Fin n → EReal) : EReal := ∑ u, Ideal.div (soft s u) (∑ w, soft s w) * v u

/-- Attention with the product divided. -/
def attnR (s v : Fin n → EReal) : EReal := Ideal.div (∑ u, v u * soft s u) (∑ w, soft s w)

theorem top_isReal [NeZero n] (s : Fin n → EReal) (hs : ∀ u, IsReal (s u)) : IsReal (top s) := by
  obtain ⟨u, -, h⟩ := Finset.exists_mem_eq_sup (Finset.univ : Finset (Fin n)) ⟨0, Finset.mem_univ _⟩ s
  have e : top s = s u := h
  rw [e]
  exact hs u

theorem attnK_eq [NeZero n] (s v : Fin n → EReal) (hs : ∀ u, IsReal (s u)) : attnK s v = attnR s v := by
  obtain ⟨M, hM⟩ := top_isReal s hs
  choose r hr using hs
  have hp : ∀ u, soft s u = ((Real.exp (r u - M) : ℝ) : EReal) := fun u => by
    rw [soft, hM, hr u, ← EReal.coe_sub]
    rfl
  have hD : (0 : ℝ) < ∑ u, Real.exp (r u - M) :=
    Finset.sum_pos (fun u _ => Real.exp_pos _) ⟨0, Finset.mem_univ _⟩
  have hd : (∑ w, soft s w) = ((∑ u, Real.exp (r u - M) : ℝ) : EReal) := by
    rw [← sum_coe]
    exact Finset.sum_congr rfl fun u _ => hp u
  unfold attnK attnR
  rw [hd, Ideal.div_coe hD.ne', sum_mul_nonneg _ _ (by positivity)]
  refine Finset.sum_congr rfl fun u _ => ?_
  rw [Ideal.div_coe hD.ne', mul_right_comm, mul_comm (soft s u)]

/-- The reference's first and only step of its running softmax, which starts from a greatest score of −∞, a sum of
    zero and a product of zero. -/
theorem attnR_step (s v : Fin n → EReal) :
    Ideal.div (0 * Ideal.exp (⊥ - max ⊥ (top s)) + ∑ u, v u * Ideal.exp (s u - max ⊥ (top s)))
      (0 * Ideal.exp (⊥ - max ⊥ (top s)) + ∑ u, Ideal.exp (s u - max ⊥ (top s))) = attnR s v := by
  rw [bot_sup_eq, zero_mul, zero_add, zero_add]
  rfl

end Cert.Attn

end
-- ==== Proof.Value.lean ====
/-
# What the kernel computes

The arrays of the kernel, over the extended reals, each read at an index: the queries, keys and values of a batch, the
attention of a head, a device's share of a batch, the staged pieces and their sum, and the result.
-/
module

public import proofs.«01_k».proof.Proof.Pieces
public import proofs.«01_k».proof.Proof.Soft
public import Idealize.ShloMosaic.Lib.Pointwise
public import Idealize.ShloMosaic.Lib.ValueLayout

@[expose] public section

noncomputable section

namespace Cert.Attn

open Cert.KernelIdeal Cert.KernelIdeal.Gen
open Idealize.ShloMosaic Idealize.ShloMosaic.TcCoe

set_option maxRecDepth 16384

/-! ## The arithmetic of one batch -/

theorem qOf_apply (wq : FVec Ideal S1024x1024 .bf16) (x : FVec Ideal S256x1024 .bf16) (t : Fin 256) (n : Fin 1024) :
    qOf (F := Ideal) wq x (ix2 t n) = (∑ k : Fin 1024, x (ix2 t k) * wq (ix2 k n)) * scale := by
  pointwise [qOf]
  rfl

theorem kvOf_apply (w : FVec Ideal S1024x256 .bf16) (x : FVec Ideal S256x1024 .bf16) (t : Fin 256) (n : Fin 256) :
    kvOf (F := Ideal) w x (ix2 t n) = ∑ k : Fin 1024, x (ix2 t k) * w (ix2 k n) := by
  pointwise [kvOf]

theorem expOf_apply (s : FVec Ideal S256x256 .f32) (t u : Fin 256) :
    expOf (F := Ideal) s (ix2 t u) = soft (fun w => s (ix2 t w)) u := by
  unfold soft top
  rw [← lit_bot]
  pointwise [expOf]

theorem normOf_apply (p : FVec Ideal S256x256 .f32) (t u : Fin 256) :
    normOf (F := Ideal) p (ix2 t u) = Ideal.div (p (ix2 t u)) (∑ w : Fin 256, p (ix2 t w)) := by
  pointwise [normOf]

theorem headOf_apply (q : FVec Ideal S256x1024 .bf16) (k v : FVec Ideal S256x256 .bf16) (h : Fin 8) (t : Fin 256) (j : Fin 128) :
    headOf (F := Ideal) q k v h (ix2 t j)
      = attnK (fun u => ∑ x : Fin 128, q (ix2 t ⟨128 * h.val + x.val, by omega⟩) * k (ix2 u ⟨128 * (h.val / 4) + x.val, by omega⟩))
        (fun u => v (ix2 u ⟨128 * (h.val / 4) + j.val, by omega⟩)) := by
  unfold attnK
  pointwise [headOf]
  simp only [normOf_apply, expOf_apply]
  pointwise

theorem pay6_apply (x : Vec Ideal S1x256x1024 .f32) (t : Fin 256) (k : Fin 1024) :
    k0_pay6 (F := Ideal) x (ix2 t k) = x (ix3 0 t k) := by
  pointwise [k0_pay6]

/-- The same column of the same head. -/
theorem pick (f : Fin 8 → FVec Ideal S256x128 .f32) (t : Fin 256) {a b : Fin 8} {i j : Fin 128} (h : a.val = b.val)
    (hi : i.val = j.val) : f a (ix2 t i) = f b (ix2 t j) := by
  rw [Fin.ext h, Fin.ext hi]

theorem catOf_apply (f : Fin 8 → FVec Ideal S256x128 .f32) (t : Fin 256) (n : Fin 1024) :
    catOf (F := Ideal) f (ix2 t n) = f ⟨n.val / 128, by omega⟩ (ix2 t ⟨n.val % 128, by omega⟩) := by
  have hn := n.isLt
  pointwise [catOf]
  by_cases h0 : n.val < 128
  · rw [dif_pos h0]
    exact pick f t (show 0 = n.val / 128 by omega) (show n.val = n.val % 128 by omega)
  rw [dif_neg h0]
  by_cases h1 : n.val - 128 < 128
  · rw [dif_pos h1]
    exact pick f t (show 1 = n.val / 128 by omega) (show n.val - 128 = n.val % 128 by omega)
  rw [dif_neg h1]
  by_cases h2 : n.val - 128 - 128 < 128
  · rw [dif_pos h2]
    exact pick f t (show 2 = n.val / 128 by omega) (show n.val - 128 - 128 = n.val % 128 by omega)
  rw [dif_neg h2]
  by_cases h3 : n.val - 128 - 128 - 128 < 128
  · rw [dif_pos h3]
    exact pick f t (show 3 = n.val / 128 by omega) (show n.val - 128 - 128 - 128 = n.val % 128 by omega)
  rw [dif_neg h3]
  by_cases h4 : n.val - 128 - 128 - 128 - 128 < 128
  · rw [dif_pos h4]
    exact pick f t (show 4 = n.val / 128 by omega) (show n.val - 128 - 128 - 128 - 128 = n.val % 128 by omega)
  rw [dif_neg h4]
  by_cases h5 : n.val - 128 - 128 - 128 - 128 - 128 < 128
  · rw [dif_pos h5]
    exact pick f t (show 5 = n.val / 128 by omega) (show n.val - 128 - 128 - 128 - 128 - 128 = n.val % 128 by omega)
  rw [dif_neg h5]
  by_cases h6 : n.val - 128 - 128 - 128 - 128 - 128 - 128 < 128
  · rw [dif_pos h6]
    exact pick f t (show 6 = n.val / 128 by omega) (show n.val - 128 - 128 - 128 - 128 - 128 - 128 = n.val % 128 by omega)
  rw [dif_neg h6]
  exact pick f t (show 7 = n.val / 128 by omega) (show n.val - 128 - 128 - 128 - 128 - 128 - 128 - 128 = n.val % 128 by omega)

/-- The product of the heads' outputs with the rows of `Wo`. -/
theorem projOf_apply (a : FVec Ideal S256x1024 .f32) (wo : FVec Ideal S1024x1024 .bf16) (t : Fin 256) (j : Fin 1024) :
    (shapeCast S256x1024 (truncf .bf16 (matmul dot_S256x1024_S1024x1024_S256x1024_1_0_0_1_n_n none (truncf .bf16 a bitsLt_bf16_f32)
      wo (constant S256x1024 .f32 0x00000000#32)) bitsLt_bf16_f32) shapeCasts_S256x1024_S256x1024 : FVec Ideal S256x1024 .bf16) (ix2 t j)
      = ∑ n : Fin 1024, a (ix2 t n) * wo (ix2 n j) := by
  pointwise

theorem partOf_apply (wq wo : FVec Ideal S1024x1024 .bf16) (wk wv : FVec Ideal S1024x256 .bf16) (x : Vec Ideal S1x256x1024 .f32)
    (t : Fin 256) (j : Fin 1024) :
    partOf (F := Ideal) wq wo wk wv x (ix2 t j)
      = ∑ n : Fin 1024, attnK
          (fun u => ∑ y : Fin 128, ((∑ k : Fin 1024, x (ix3 0 t k) * wq (ix2 k ⟨128 * (n.val / 128) + y.val, by omega⟩)) * scale)
            * (∑ k : Fin 1024, x (ix3 0 u k) * wk (ix2 k ⟨128 * (n.val / 128 / 4) + y.val, by omega⟩)))
          (fun u => ∑ k : Fin 1024, x (ix3 0 u k) * wv (ix2 k ⟨128 * (n.val / 128 / 4) + n.val % 128, by omega⟩))
        * wo (ix2 n j) := by
  refine (projOf_apply _ wo t j).trans ?_
  simp only [catOf_apply, headOf_apply, qOf_apply, kvOf_apply, pay6_apply]

theorem accStep_apply (a : FVec Ideal S16x1024 .f32) (v : Vec Ideal S1x16x1024 .bf16) (r : Fin 16) (j : Fin 1024) :
    accStep (F := Ideal) a v (ix2 r j) = a (ix2 r j) + v (ix3 0 r j) := by
  pointwise [accStep]

/-- Adding up the staged pieces of a list of devices, at an index. -/
theorem accFold_apply (v : Fin 16 → Vec Ideal S1x16x1024 .bf16) (r : Fin 16) (j : Fin 1024) (l : List (Fin 16))
    (a : FVec Ideal S16x1024 .f32) :
    l.foldl (fun a d => accStep (F := Ideal) a (v d)) a (ix2 r j) = a (ix2 r j) + (l.map fun d => v d (ix3 0 r j)).sum := by
  induction l generalizing a with
  | nil => simp
  | cons d l ih =>
    rw [List.foldl_cons, ih, accStep_apply, List.map_cons, List.sum_cons, add_assoc]

theorem slots_eq : slots = List.finRange 16 := by decide

theorem sum_slots (f : Fin 16 → EReal) : (slots.map f).sum = ∑ d : Fin 16, f d := by
  rw [slots_eq, ← List.ofFn_eq_map, List.sum_ofFn]

/-! ## The arrays read -/

variable (m : (ℓ : Loc nD τ sig) → Buf (Elt Ideal) ℓ)

theorem xbC_apply (c : Dev nD) (b : Fin 4) (t : Fin 256) (k : Fin 1024) :
    xbC m c b (ix3 0 t k) = m ((c : Thread nD τ).loc main_arg0) (ix3 b t k) := by
  show m ((c : Thread nD τ).loc main_arg0) _ = _
  refine congrArg (m ((c : Thread nD τ).loc main_arg0)) (funext fun a => Fin.ext ?_)
  match a with
  | ⟨0, _⟩ => show _ + 1 * (b.val + 1 * 0) = b.val; simp; exact Or.inl rfl
  | ⟨1, _⟩ => show _ + 1 * (0 + 1 * t.val) = t.val; simp; exact Or.inl rfl
  | ⟨2, _⟩ => show _ + 1 * (0 + 1 * k.val) = k.val; simp; exact Or.inl rfl

theorem wqC_apply (c : Dev nD) (k n : Fin 1024) : wqC m c (ix2 k n) = m ((c : Thread nD τ).loc main_arg1) (ix2 k n) := by
  show m ((c : Thread nD τ).loc main_arg1) _ = _
  refine congrArg (m ((c : Thread nD τ).loc main_arg1)) (funext fun a => Fin.ext ?_)
  match a with
  | ⟨0, _⟩ => show _ + 1 * k.val = k.val; simp; exact Or.inl rfl
  | ⟨1, _⟩ => show _ + 1 * n.val = n.val; simp; exact Or.inl rfl

theorem woC_apply (c : Dev nD) (n j : Fin 1024) : woC m c (ix2 n j) = m ((c : Thread nD τ).loc main_arg2) (ix2 n j) := by
  show m ((c : Thread nD τ).loc main_arg2) _ = _
  refine congrArg (m ((c : Thread nD τ).loc main_arg2)) (funext fun a => Fin.ext ?_)
  match a with
  | ⟨0, _⟩ => show _ + 1 * n.val = n.val; simp; exact Or.inl rfl
  | ⟨1, _⟩ => show _ + 1 * j.val = j.val; simp; exact Or.inl rfl

theorem off1_val : ∀ c : Dev nD, k0_off1 c = ![0, 256 * c.val] := by decide +kernel

theorem wkC_apply (c : Dev nD) (k : Fin 1024) (n : Fin 256) :
    wkC m c (ix2 k n) = m ((c : Thread nD τ).loc main_arg3) (ix2 k ⟨256 * c.val + n.val, by have h : c.val < 16 := c.isLt; omega⟩) := by
  show m ((c : Thread nD τ).loc main_arg3) _ = _
  refine congrArg (m ((c : Thread nD τ).loc main_arg3)) (funext fun a => Fin.ext ?_)
  match a with
  | ⟨0, _⟩ => show k0_off1 c 0 + 1 * k.val = k.val; rw [off1_val]; simp
  | ⟨1, _⟩ => show k0_off1 c 1 + 1 * n.val = 256 * c.val + n.val; rw [off1_val]; simp

theorem wvC_apply (c : Dev nD) (k : Fin 1024) (n : Fin 256) :
    wvC m c (ix2 k n) = m ((c : Thread nD τ).loc main_arg4) (ix2 k ⟨256 * c.val + n.val, by have h : c.val < 16 := c.isLt; omega⟩) := by
  show m ((c : Thread nD τ).loc main_arg4) _ = _
  refine congrArg (m ((c : Thread nD τ).loc main_arg4)) (funext fun a => Fin.ext ?_)
  match a with
  | ⟨0, _⟩ => show k0_off1 c 0 + 1 * k.val = k.val; rw [off1_val]; simp
  | ⟨1, _⟩ => show k0_off1 c 1 + 1 * n.val = 256 * c.val + n.val; rw [off1_val]; simp

theorem pay2_eq (w : Vec Ideal S1024x1024 .f32) (k n : Fin 1024) : k0_pay2 (F := Ideal) w (ix2 k n) = w (ix2 k n) := by
  pointwise [k0_pay2]
theorem pay3_eq (w : Vec Ideal S1024x1024 .f32) (k n : Fin 1024) : k0_pay3 (F := Ideal) w (ix2 k n) = w (ix2 k n) := by
  pointwise [k0_pay3]
theorem pay4_eq (w : Vec Ideal S1024x256 .f32) (k : Fin 1024) (n : Fin 256) : k0_pay4 (F := Ideal) w (ix2 k n) = w (ix2 k n) := by
  pointwise [k0_pay4]
theorem pay5_eq (w : Vec Ideal S1024x256 .f32) (k : Fin 1024) (n : Fin 256) : k0_pay5 (F := Ideal) w (ix2 k n) = w (ix2 k n) := by
  pointwise [k0_pay5]

/-! ## The staged pieces and the result -/

/-- The rows of `sendB` at an index: the share of the batch the row is in. -/
theorem sendC_apply (c : Dev nD) (b : Fin 4) (t : Fin 256) (j : Fin 1024) :
    sendC m c (ix2 ⟨256 * b.val + t.val, by omega⟩ j) = partC m c b (ix2 t j) := by
  have hb : rb (ix2 (⟨256 * b.val + t.val, by omega⟩ : Fin 1024) j) = b :=
    Fin.ext (show (256 * b.val + t.val) / 256 = b.val by omega)
  have he : (batchV b).emb (ix2 t j) = ix2 (⟨256 * b.val + t.val, by omega⟩ : Fin 1024) j := by
    refine funext fun a => Fin.ext ?_
    match a with
    | ⟨0, _⟩ => show 256 * b.val + 1 * t.val = _; simp
    | ⟨1, _⟩ => show 0 + 1 * j.val = _; simp
  refine (send_written m c b (m ((c : Thread nD τ).loc cc0_scratch2)) _ (mem_rowsB.mpr hb)).symm.trans ?_
  rw [← he]
  exact View.write_emb_of_mem (v := batchV b) (m ((c : Thread nD τ).loc cc0_scratch2)) (partC m c b) (Finset.mem_univ (ix2 t j))

theorem pieceM_read (c : Dev nD) (b : Fin 4) (e : Dev nD) (r : Fin 16) (j : Fin 1024) :
    (pieceM b e).view.read (Elt Ideal) (sendC m c) (ix2 r j)
      = partC m c b (ix2 ⟨16 * e.val + r.val, by have h : e.val < 16 := e.isLt; omega⟩ j) := by
  have h : e.val < 16 := e.isLt
  rw [← sendC_apply]
  show sendC m c _ = _
  refine congrArg (sendC m c) (funext fun a => Fin.ext ?_)
  match a with
  | ⟨0, _⟩ => show 256 * b.val + 16 * e.val + 1 * r.val = 256 * b.val + (16 * e.val + r.val); omega
  | ⟨1, _⟩ => show 0 + 1 * j.val = j.val; omega

theorem ownP_apply (c : Dev nD) (b : Fin 4) (r : Fin 16) (j : Fin 1024) :
    ownP m c b (ix2 r j) = partC m c b (ix2 ⟨16 * c.val + r.val, by have h : c.val < 16 := c.isLt; omega⟩ j) := by
  rw [← pieceM_read]
  rfl

/-- The slot of device `d` and batch `b` at an index. -/
theorem slotV_apply (c d : Dev nD) (b : Fin 4) (r : Fin 16) (j : Fin 1024) :
    slotV m c b d (ix3 0 r j)
      = if d = c then 0 else partC m d b (ix2 ⟨16 * c.val + r.val, by have h : c.val < 16 := c.isLt; omega⟩ j) := by
  have hd : d.val < 16 := d.isLt
  have hr : slotV m c b d (ix3 0 r j) = stageC m c (ix3 (⟨4 * d.val + b.val, by omega⟩ : Fin 64) r j) := by
    show stageC m c _ = _
    refine congrArg (stageC m c) (funext fun a => Fin.ext ?_)
    match a with
    | ⟨0, _⟩ => show 4 * d.val + b.val + 1 * 0 = _; simp
    | ⟨1, _⟩ => show 0 + 1 * r.val = _; simp
    | ⟨2, _⟩ => show 0 + 1 * j.val = _; simp
  have hsd : sd (ix3 (⟨4 * d.val + b.val, by omega⟩ : Fin 64) r j) = d := Fin.ext (show (4 * d.val + b.val) / 4 = d.val by omega)
  have hsb : sb (ix3 (⟨4 * d.val + b.val, by omega⟩ : Fin 64) r j) = b := Fin.ext (show (4 * d.val + b.val) % 4 = b.val by omega)
  rw [hr]
  split_ifs with h
  · subst h
    have he : (ownV d).emb (ix3 b r j) = ix3 (⟨4 * d.val + b.val, by omega⟩ : Fin 64) r j := by
      refine funext fun a => Fin.ext ?_
      match a with
      | ⟨0, _⟩ => show 4 * d.val + 1 * b.val = _; simp
      | ⟨1, _⟩ => show 0 + 1 * r.val = _; simp
      | ⟨2, _⟩ => show 0 + 1 * j.val = _; simp
    refine (stage_cleared m d (m ((d : Thread nD τ).loc cc0_scratch3)) _ (mem_slotD.mpr hsd)).symm.trans ?_
    rw [← he]
    refine (View.write_emb_of_mem (v := ownV d) (m ((d : Thread nD τ).loc cc0_scratch3)) (k0_pay1 (F := Ideal)) (Finset.mem_univ (ix3 b r j))).trans ?_
    show k0_pay1 (F := Ideal) (ix3 b r j) = 0
    pointwise [k0_pay1]
  · have he : (slotM b d).view.emb (ix2 r j) = ix3 (⟨4 * d.val + b.val, by omega⟩ : Fin 64) r j := by
      refine (congrArg (Rect.unit (s := S64x16x1024) ![4 * d.val + b.val, 0, 0] S1x16x1024.size (inbSlot b d)).emb
        (ValueIdx.reshapeEquiv_ix2_1ab _ r j)).trans ?_
      refine funext fun a => Fin.ext ?_
      match a with
      | ⟨0, _⟩ => show 4 * d.val + b.val + 1 * 0 = _; simp
      | ⟨1, _⟩ => show 0 + 1 * r.val = _; simp
      | ⟨2, _⟩ => show 0 + 1 * j.val = _; simp
    refine (stage_landed m c d h b (m ((c : Thread nD τ).loc cc0_scratch3)) _ (mem_slotP.mpr ⟨hsb, hsd⟩)).symm.trans ?_
    rw [← he, ← pieceM_read]
    exact View.write_emb_of_mem (v := (slotM b d).view) (m ((c : Thread nD τ).loc cc0_scratch3))
      ((pieceM b c).view.read (Elt Ideal) (sendC m d)) (Finset.mem_univ (ix2 r j))

/-- The finished piece: the shares of all devices. -/
theorem doneC_apply (c : Dev nD) (b : Fin 4) (r : Fin 16) (j : Fin 1024) :
    doneC m c b (ix2 r j)
      = ∑ d : Fin 16, partC m d b (ix2 ⟨16 * c.val + r.val, by have h : c.val < 16 := c.isLt; omega⟩ j) := by
  have h1 : doneC m c b (ix2 r j) = sumC m c b (ix2 r j) := by pointwise [doneC]
  rw [h1]
  unfold sumC
  rw [accFold_apply, sum_slots]
  simp only [slotV_apply]
  have h2 : (extf (F := Ideal) .f32 (ownP m c b) bitsLt_bf16_f32) (ix2 r j) = ownP m c b (ix2 r j) := rfl
  rw [h2, ownP_apply]
  generalize hp : (fun d : Fin 16 => partC m d b (ix2 ⟨16 * c.val + r.val, by have h : c.val < 16 := c.isLt; omega⟩ j)) = p
  have hpd : ∀ d, partC m d b (ix2 ⟨16 * c.val + r.val, by have h : c.val < 16 := c.isLt; omega⟩ j) = p d := fun d => congrFun hp d
  simp only [hpd]
  rw [show (∑ d : Fin 16, p d) = ∑ d : Fin 16, ((if d = c then p d else 0) + if d = c then 0 else p d) from
    Finset.sum_congr rfl fun d _ => by split_ifs <;> simp, Finset.sum_add_distrib, Finset.sum_ite_eq' Finset.univ c p,
    if_pos (Finset.mem_univ _)]

/-- The result at an index: the shares of all devices. -/
theorem outC_apply (c : Dev nD) (r j : Fin 1024) :
    (outC m c (ix2 r j) : EReal) = ∑ d : Fin 16, partC m d ⟨r.val / 256, by omega⟩ (ix2 ⟨r.val % 256, by omega⟩ j) := by
  set b : Fin 4 := ⟨r.val / 256, by omega⟩ with hb
  set e : Dev nD := ⟨r.val % 256 / 16, show _ < 16 by omega⟩ with he
  set q : Fin 16 := ⟨r.val % 16, by omega⟩ with hq
  have hrb : rb (ix2 r j) = b := rfl
  have hre : re (ix2 r j) = e := rfl
  have hi : (rowM b e).view.emb (ix2 q j) = ix2 r j := by
    refine funext fun a => Fin.ext ?_
    match a with
    | ⟨0, _⟩ => show 256 * (r.val / 256) + 16 * (r.val % 256 / 16) + 1 * (r.val % 16) = r.val; omega
    | ⟨1, _⟩ => show 0 + 1 * j.val = j.val; omega
  have ha : (agM b).view.emb (ix2 q j) = ix2 (⟨16 * b.val + q.val, by omega⟩ : Fin 64) j := by
    refine funext fun a => Fin.ext ?_
    match a with
    | ⟨0, _⟩ => show 16 * b.val + 1 * q.val = 16 * b.val + q.val; omega
    | ⟨1, _⟩ => show 0 + 1 * j.val = j.val; omega
  have hab : ab (ix2 (⟨16 * b.val + q.val, by omega⟩ : Fin 64) j) = b := Fin.ext (show (16 * b.val + q.val) / 16 = b.val by omega)
  have h1 : outC m c (ix2 r j) = (agM b).view.read (Elt Ideal) (agC m e) (ix2 q j) := by
    refine (out_landed m c e b (m ((c : Thread nD τ).loc main_v1)) _ (mem_rowsP.mpr ⟨hrb, hre⟩)).symm.trans ?_
    rw [← hi]
    exact View.write_emb_of_mem (v := (rowM b e).view) (m ((c : Thread nD τ).loc main_v1))
      ((agM b).view.read (Elt Ideal) (agC m e)) (Finset.mem_univ (ix2 q j))
  have h2 : (agM b).view.read (Elt Ideal) (agC m e) (ix2 q j) = doneC m e b (ix2 q j) := by
    show agC m e ((agM b).view.emb (ix2 q j)) = _
    refine (congrArg (agC m e) ha).trans ?_
    refine (ag_written m e b (m ((e : Thread nD τ).loc cc0_scratch4)) _ (mem_agP.mpr hab)).symm.trans ?_
    rw [← ha]
    exact View.write_emb_of_mem (v := agV b) (m ((e : Thread nD τ).loc cc0_scratch4)) (doneC m e b) (Finset.mem_univ (ix2 q j))
  refine h1.trans (h2.trans ((doneC_apply m e b q j).trans ?_))
  refine Finset.sum_congr rfl fun d _ => congrArg (fun t : Fin 256 => partC m d b (ix2 t j)) (Fin.ext ?_)
  show 16 * (r.val % 256 / 16) + r.val % 16 = r.val % 256
  omega

end Cert.Attn

end
-- ==== Proof.RefValue.lean ====
/-
# What the reference computes

The arrays of the reference one after the other, each read at an index: the scores, the greatest score of a row, the
attention, and the result.
-/
module

public import proofs.«01_k».proof.Proof.Gen.ReferenceIdeal.Run
public import proofs.«01_k».proof.Proof.Soft
public import Idealize.ShloMosaic.Lib.Pointwise

@[expose] public section

noncomputable section

namespace Cert.AttnRef

open Cert.ReferenceIdeal Cert.ReferenceIdeal.Gen Cert.Attn
open Idealize.ShloMosaic

/-! ## Reductions along the last of four axes -/

/-- A maximum along the last axis. -/
theorem reduceMax_last {n0 n1 n2 n3 : Nat} (x : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu : 0 < (⟨0, ![]⟩ : Shape).numel)
    (b : Fin n0) (e : Fin n1) (t : Fin n2) :
    Host.reduce FloatOps.maximumf x init h hu (ix3 b e t)
      = (Finset.univ : Finset (Fin n3)).fold max (init (Shape.Idx.first hu)) (fun u => x (ix4 b e t u)) := by
  have h' : (⟨4, ![n0, n1, n2, n3]⟩ : Shape).Reduces [3] ⟨3, ![n0, n1, n2]⟩ := ⟨h.1, Nat.succ_pos 2, h.2⟩
  refine (Host.reduce_eq_fold_single (a := (3 : Fin 4)) FloatOps.maximumf x init h h' hu (ix3 b e t)).trans ?_
  refine congrArg (fun f : Fin n3 → EReal => (Finset.univ : Finset (Fin n3)).fold max (init (Shape.Idx.first hu)) f) (funext fun u => ?_)
  refine congrArg x (funext fun c => Fin.ext ?_)
  match c with
  | ⟨0, _⟩ => rfl
  | ⟨1, _⟩ => rfl
  | ⟨2, _⟩ => rfl
  | ⟨3, _⟩ => rfl

/-- A sum along the last axis. -/
theorem reduceAdd_last {n0 n1 n2 n3 : Nat} (x : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu : 0 < (⟨0, ![]⟩ : Shape).numel)
    (b : Fin n0) (e : Fin n1) (t : Fin n2) :
    Host.reduceAdd x init h hu (ix3 b e t) = init (Shape.Idx.first hu) + ∑ u : Fin n3, x (ix4 b e t u) :=
  Ideal.hostReduceAdd_r4_a3 h x (init (Shape.Idx.first hu)) (ix3 b e t)
/-! ## The arrays -/

variable (X : FVec Ideal S4x256x1024 .f32) (Wq : FVec Ideal S1024x16384 .f32) (Wo : FVec Ideal S16384x1024 .f32)
  (Wk Wv : FVec Ideal S1024x4096 .f32)

/-- The queries. -/
def qR : FVec Ideal S4x256x128x128 .f32 :=
  shapeCast _ (Host.dotGeneral dot_S4x256x1024_S1024x16384_S4x256x16384_2_0_01_1_n_n none X Wq) shapeCasts_S4x256x16384_S4x256x128x128

/-- The keys, or the values, repeated for the heads that share them. -/
def kvR (W : FVec Ideal S1024x4096 .f32) : FVec Ideal S4x256x128x128 .f32 :=
  shapeCast _ (broadcastInDim S4x256x32x4x128 ![0, 1, 2, 4] bcast_S4x256x32x128_S4x256x32x4x128_0_1_2_4
    (shapeCast _ (Host.dotGeneral dot_S4x256x1024_S1024x4096_S4x256x4096_2_0_01_1_n_n none X W) shapeCasts_S4x256x4096_S4x256x32x128))
    shapeCasts_S4x256x32x4x128_S4x256x128x128

/-- The scores of the queries `q` and the keys `k`. -/
def sR (q k : FVec Ideal S4x256x128x128 .f32) : FVec Ideal S4x128x256x256 .f32 :=
  mulf (Host.dotGeneral dot_S4x256x128x128_S4x256x128x128_S4x128x256x256_3_3_1_1_02_02 none q k)
    (broadcastInDim S4x128x256x256 ![] bcast_S_S4x128x256x256 (constant S_ .f32 0x3DB504F3#32))

/-- The greatest score of every row. -/
def topR (s : FVec Ideal S4x128x256x256 .f32) : FVec Ideal S4x128x256 .f32 :=
  Host.reduce FloatOps.maximumf s (constant S_ .f32 0xFF800000#32) reducesTo_S4x128x256x256_S4x128x256_d3 h_S_

/-- The greatest of given numbers and −∞. -/
def mR (m : FVec Ideal S4x128x256 .f32) : FVec Ideal S4x128x256x1 .f32 :=
  maximumf (broadcastInDim S4x128x256x1 ![] bcast_S_S4x128x256x1 (constant S_ .f32 0xFF800000#32))
    (broadcastInDim S4x128x256x1 ![0, 1, 2] bcast_S4x128x256_S4x128x256x1_0_1_2 m)

/-- The exponentials of the scores `s` less `m`. -/
def pR (s : FVec Ideal S4x128x256x256 .f32) (m : FVec Ideal S4x128x256x1 .f32) : FVec Ideal S4x128x256x256 .f32 :=
  Host.exp (subf s (broadcastInDim S4x128x256x256 ![0, 1, 2, 3] bcast_S4x128x256x1_S4x128x256x256_0_1_2_3 m))

/-- The factor of what was summed before. -/
def alphaR (m : FVec Ideal S4x128x256x1 .f32) : FVec Ideal S4x128x256x1 .f32 :=
  Host.exp (subf (broadcastInDim S4x128x256x1 ![] bcast_S_S4x128x256x1 (constant S_ .f32 0xFF800000#32)) m)

/-- The sum of every row. -/
def sumR (p : FVec Ideal S4x128x256x256 .f32) : FVec Ideal S4x128x256 .f32 :=
  Host.reduceAdd p (constant S_ .f32 0x00000000#32) reducesTo_S4x128x256x256_S4x128x256_d3 h_S_

/-- The sums `l` of the exponentials, with what was summed before times `a`. -/
def denR (a : FVec Ideal S4x128x256x1 .f32) (l : FVec Ideal S4x128x256 .f32) : FVec Ideal S4x128x256x1 .f32 :=
  addf (mulf (broadcastInDim S4x128x256x1 ![] bcast_S_S4x128x256x1 (constant S_ .f32 0x00000000#32)) a)
    (broadcastInDim S4x128x256x1 ![0, 1, 2] bcast_S4x128x256_S4x128x256x1_0_1_2 l)

/-- The values `v` weighted by the exponentials `p` and divided by the sums `d`. -/
def divR (v : FVec Ideal S4x256x128x128 .f32) (a : FVec Ideal S4x128x256x1 .f32) (p : FVec Ideal S4x128x256x256 .f32)
    (d : FVec Ideal S4x128x256x1 .f32) : FVec Ideal S4x256x128x128 .f32 :=
  Host.divf
    (addf (mulf (broadcastInDim S4x256x128x128 ![] bcast_S_S4x256x128x128 (constant S_ .f32 0x00000000#32))
      (broadcastInDim S4x256x128x128 ![0, 1, 2, 3] bcast_S4x256x128x1_S4x256x128x128_0_1_2_3
        (transpose S4x256x128x1 [0, 2, 1, 3] a transposes_S4x128x256x1_S4x256x128x1_0_2_1_3)))
      (transpose S4x256x128x128 [0, 3, 1, 2]
        (Host.dotGeneral dot_S4x256x128x128_S4x128x256x256_S4x128x128x256_1_3_3_2_02_01 none v p)
        transposes_S4x128x128x256_S4x256x128x128_0_3_1_2))
    (broadcastInDim S4x256x128x128 ![0, 1, 2, 3] bcast_S4x256x128x1_S4x256x128x128_0_1_2_3
      (transpose S4x256x128x1 [0, 2, 1, 3] d transposes_S4x128x256x1_S4x256x128x1_0_2_1_3))

/-- The attention of the scores `s` and the values `v`. -/
def atR (s : FVec Ideal S4x128x256x256 .f32) (v : FVec Ideal S4x256x128x128 .f32) : FVec Ideal S4x256x128x128 .f32 :=
  divR v (alphaR (mR (topR s))) (pR s (mR (topR s))) (denR (alphaR (mR (topR s))) (sumR (pR s (mR (topR s)))))

/-- The product of the heads' outputs `a` with `Wo`. -/
def projR (a : FVec Ideal S4x256x128x128 .f32) (Wo : FVec Ideal S16384x1024 .f32) : FVec Ideal S1024x1024 .bf16 :=
  truncf .bf16 (shapeCast _ (Host.dotGeneral dot_S4x256x16384_S16384x1024_S4x256x1024_2_0_01_1_n_n none
    (shapeCast _ a shapeCasts_S4x256x128x128_S4x256x16384) Wo)
    shapeCasts_S4x256x1024_S1024x1024) bitsLt_bf16_f32

/-- The result. -/
def outR : FVec Ideal S1024x1024 .bf16 := projR (atR (sR (qR X Wq) (kvR X Wk)) (kvR X Wv)) Wo

theorem res_eq (m : (ℓ : Loc nD τ sig) → Buf (Elt Ideal) ℓ) (c : Dev nD) :
    Cert.ReferenceIdeal.Value.res_out0 m c
      = outR (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := rfl

set_option maxRecDepth 16384

/-! ## The arrays at an index -/

theorem qR_apply (b : Fin 4) (t : Fin 256) (h j : Fin 128) :
    qR X Wq (ix4 b t h j) = ∑ x : Fin 1024, X (ix3 b t x) * Wq (ix2 x ⟨h.val * 128 + j.val, by omega⟩) := by
  pointwise [qR]

theorem kvR_apply (W : FVec Ideal S1024x4096 .f32) (b : Fin 4) (t : Fin 256) (h j : Fin 128) :
    kvR X W (ix4 b t h j) = ∑ x : Fin 1024, X (ix3 b t x) * W (ix2 x ⟨h.val / 4 * 128 + j.val, by omega⟩) := by
  pointwise [kvR]

theorem sR_apply (q k : FVec Ideal S4x256x128x128 .f32) (b : Fin 4) (h : Fin 128) (t u : Fin 256) :
    sR q k (ix4 b h t u) = (∑ x : Fin 128, q (ix4 b t h x) * k (ix4 b u h x)) * scale := by
  pointwise [sR]
  rfl

theorem topR_apply (s : FVec Ideal S4x128x256x256 .f32) (b : Fin 4) (h : Fin 128) (t : Fin 256) :
    topR s (ix3 b h t) = top fun u => s (ix4 b h t u) := by
  refine (reduceMax_last s _ _ _ b h t).trans ?_
  unfold top
  rw [← lit_bot]
  rfl

theorem sumR_apply (p : FVec Ideal S4x128x256x256 .f32) (b : Fin 4) (h : Fin 128) (t : Fin 256) :
    sumR p (ix3 b h t) = ∑ u : Fin 256, p (ix4 b h t u) := by
  refine (reduceAdd_last p _ _ _ b h t).trans ?_
  generalize (∑ u : Fin 256, p (ix4 b h t u)) = z
  pointwise

theorem mR_apply (m : FVec Ideal S4x128x256 .f32) (b : Fin 4) (h : Fin 128) (t : Fin 256) (o : Fin 1) :
    mR m (ix4 b h t o) = max ⊥ (m (ix3 b h t)) := by
  rw [← lit_bot]
  pointwise [mR]

theorem pR_apply (s : FVec Ideal S4x128x256x256 .f32) (m : FVec Ideal S4x128x256x1 .f32) (b : Fin 4) (h : Fin 128) (t u : Fin 256) :
    pR s m (ix4 b h t u) = Ideal.exp (s (ix4 b h t u) - m (ix4 b h t 0)) := by
  pointwise [pR]

theorem alphaR_apply (m : FVec Ideal S4x128x256x1 .f32) (b : Fin 4) (h : Fin 128) (t : Fin 256) (o : Fin 1) :
    alphaR m (ix4 b h t o) = Ideal.exp (⊥ - m (ix4 b h t o)) := by
  rw [← lit_bot]
  pointwise [alphaR]

theorem denR_apply (a : FVec Ideal S4x128x256x1 .f32) (l : FVec Ideal S4x128x256 .f32) (b : Fin 4) (h : Fin 128) (t : Fin 256)
    (o : Fin 1) : denR a l (ix4 b h t o) = 0 * a (ix4 b h t o) + l (ix3 b h t) := by
  pointwise [denR]

theorem divR_apply (v : FVec Ideal S4x256x128x128 .f32) (a : FVec Ideal S4x128x256x1 .f32) (p : FVec Ideal S4x128x256x256 .f32)
    (d : FVec Ideal S4x128x256x1 .f32) (b : Fin 4) (t : Fin 256) (h j : Fin 128) :
    divR v a p d (ix4 b t h j)
      = Ideal.div (0 * a (ix4 b h t 0) + ∑ u : Fin 256, v (ix4 b u h j) * p (ix4 b h t u)) (d (ix4 b h t 0)) := by
  pointwise [divR]

theorem atR_apply (s : FVec Ideal S4x128x256x256 .f32) (v : FVec Ideal S4x256x128x128 .f32) (b : Fin 4) (t : Fin 256)
    (h j : Fin 128) :
    atR s v (ix4 b t h j) = attnR (fun u => s (ix4 b h t u)) (fun u => v (ix4 b u h j)) := by
  rw [← attnR_step]
  unfold atR
  simp only [divR_apply, denR_apply, alphaR_apply, sumR_apply, pR_apply, mR_apply, topR_apply]

theorem projR_apply (a : FVec Ideal S4x256x128x128 .f32) (Wo : FVec Ideal S16384x1024 .f32) (r j : Fin 1024) :
    projR a Wo (ix2 r j) = ∑ x : Fin 16384,
      a (ix4 ⟨r.val / 256, by omega⟩ ⟨r.val % 256, by omega⟩ ⟨x.val / 128, by omega⟩ ⟨x.val % 128, by omega⟩) * Wo (ix2 x j) := by
  pointwise [projR]

/-- The score of queries `t` and keys `u` of head `h`, batch `b`. -/
theorem score_apply (b : Fin 4) (h : Fin 128) (t u : Fin 256) :
    sR (qR X Wq) (kvR X Wk) (ix4 b h t u)
      = (∑ x : Fin 128, (∑ k : Fin 1024, X (ix3 b t k) * Wq (ix2 k ⟨h.val * 128 + x.val, by omega⟩))
          * (∑ k : Fin 1024, X (ix3 b u k) * Wk (ix2 k ⟨h.val / 4 * 128 + x.val, by omega⟩))) * scale := by
  rw [sR_apply]
  simp only [qR_apply, kvR_apply]

/-- The result at row `r` and column `j`: a sum over the columns of all heads. -/
theorem outR_apply (r j : Fin 1024) :
    outR X Wq Wo Wk Wv (ix2 r j) = ∑ x : Fin 16384,
      attnR (fun u => sR (qR X Wq) (kvR X Wk) (ix4 ⟨r.val / 256, by omega⟩ ⟨x.val / 128, by omega⟩ ⟨r.val % 256, by omega⟩ u))
        (fun u => kvR X Wv (ix4 ⟨r.val / 256, by omega⟩ u ⟨x.val / 128, by omega⟩ ⟨x.val % 128, by omega⟩)) * Wo (ix2 x j) := by
  unfold outR
  rw [projR_apply]
  simp only [atR_apply]

end Cert.AttnRef

end
-- ==== Proof.Agree.lean ====
/-
# The kernel's result is the reference's

With finite `x`, `Wq` and `Wk`, the kernel's sum over devices and their columns is the reference's sum over the columns
of all heads: column `n` of device `d` is column `1024 d + n` of the whole.
-/
module

public import proofs.«01_k».proof.Proof.Value
public import proofs.«01_k».proof.Proof.RefValue
public import Idealize.ShloMosaic.Lib.Layout

@[expose] public section

noncomputable section

namespace Cert.Attn

open Cert.AttnRef
open Idealize.ShloMosaic Idealize.ShloMosaic.TcCoe

/-- Column `n` of device `d`, of the columns of all devices. -/
def col (d : Fin 16) (n : Fin 1024) : Fin 16384 := ⟨1024 * d.val + n.val, by omega⟩

/-- A sum over the columns of all devices, device by device. -/
theorem sum_col (f : Fin 16384 → EReal) : ∑ x, f x = ∑ d : Fin 16, ∑ n : Fin 1024, f (col d n) := by
  rw [← Fintype.sum_prod_type' fun d n => f (col d n)]
  refine (Fintype.sum_equiv (finProdFinEquiv (m := 16) (n := 1024)) _ f fun x => congrArg f (Fin.ext ?_)).symm
  show 1024 * x.1.val + x.2.val = x.2.val + 1024 * x.1.val
  omega

section

variable (m : (ℓ : Loc Cert.KernelIdeal.nD Cert.KernelIdeal.τ Cert.KernelIdeal.sig) → Buf (Elt Ideal) ℓ)
  (X : FVec Ideal Cert.ReferenceIdeal.S4x256x1024 .f32) (Wq : FVec Ideal Cert.ReferenceIdeal.S1024x16384 .f32)
  (Wo : FVec Ideal Cert.ReferenceIdeal.S16384x1024 .f32) (Wk Wv : FVec Ideal Cert.ReferenceIdeal.S1024x4096 .f32)

/-- Every device holds its part of the arrays. -/
structure Holds : Prop where
  x : ∀ c : Dev Cert.KernelIdeal.nD, m ((c : Thread Cert.KernelIdeal.nD Cert.KernelIdeal.τ).loc Cert.KernelIdeal.main_arg0) = X
  wq : ∀ c : Dev Cert.KernelIdeal.nD, m ((c : Thread Cert.KernelIdeal.nD Cert.KernelIdeal.τ).loc Cert.KernelIdeal.main_arg1)
    = Layout.block ⟨2, ![1024, 1024]⟩ ⟨2, ![1024, 16384]⟩ 1 16 c Wq
  wo : ∀ c : Dev Cert.KernelIdeal.nD, m ((c : Thread Cert.KernelIdeal.nD Cert.KernelIdeal.τ).loc Cert.KernelIdeal.main_arg2)
    = Layout.block ⟨2, ![1024, 1024]⟩ ⟨2, ![16384, 1024]⟩ 0 16 c Wo
  wk : ∀ c : Dev Cert.KernelIdeal.nD, m ((c : Thread Cert.KernelIdeal.nD Cert.KernelIdeal.τ).loc Cert.KernelIdeal.main_arg3) = Wk
  wv : ∀ c : Dev Cert.KernelIdeal.nD, m ((c : Thread Cert.KernelIdeal.nD Cert.KernelIdeal.τ).loc Cert.KernelIdeal.main_arg4) = Wv

variable {m X Wq Wo Wk Wv}

theorem Holds.x_at (h : Holds m X Wq Wo Wk Wv) (c : Dev Cert.KernelIdeal.nD) (b : Fin 4) (t : Fin 256) (k : Fin 1024) :
    xbC m c b (ix3 0 t k) = X (ix3 b t k) := (xbC_apply m c b t k).trans (congrFun (h.x c) _)

theorem Holds.wq_at (h : Holds m X Wq Wo Wk Wv) (c : Dev Cert.KernelIdeal.nD) (k n : Fin 1024) :
    Cert.KernelIdeal.Gen.k0_pay2 (F := Ideal) (wqC m c) (ix2 k n) = Wq (ix2 k (col c n)) := by
  refine (pay2_eq _ k n).trans ((wqC_apply m c k n).trans ((congrFun (h.wq c) _).trans (congrArg Wq (funext fun a => Fin.ext ?_))))
  match a with
  | ⟨0, _⟩ => rfl
  | ⟨1, _⟩ => show c.val * 1024 + n.val = 1024 * c.val + n.val; omega

theorem Holds.wo_at (h : Holds m X Wq Wo Wk Wv) (c : Dev Cert.KernelIdeal.nD) (n j : Fin 1024) :
    Cert.KernelIdeal.Gen.k0_pay3 (F := Ideal) (woC m c) (ix2 n j) = Wo (ix2 (col c n) j) := by
  refine (pay3_eq _ n j).trans ((woC_apply m c n j).trans ((congrFun (h.wo c) _).trans (congrArg Wo (funext fun a => Fin.ext ?_))))
  match a with
  | ⟨0, _⟩ => show c.val * 1024 + n.val = 1024 * c.val + n.val; omega
  | ⟨1, _⟩ => rfl

theorem Holds.wk_at (h : Holds m X Wq Wo Wk Wv) (c : Dev Cert.KernelIdeal.nD) (k : Fin 1024) (n : Fin 256) :
    Cert.KernelIdeal.Gen.k0_pay4 (F := Ideal) (wkC m c) (ix2 k n)
      = Wk (ix2 k ⟨256 * c.val + n.val, by have h : c.val < 16 := c.isLt; omega⟩) :=
  (pay4_eq _ k n).trans ((wkC_apply m c k n).trans (congrFun (h.wk c) _))

theorem Holds.wv_at (h : Holds m X Wq Wo Wk Wv) (c : Dev Cert.KernelIdeal.nD) (k : Fin 1024) (n : Fin 256) :
    Cert.KernelIdeal.Gen.k0_pay5 (F := Ideal) (wvC m c) (ix2 k n)
      = Wv (ix2 k ⟨256 * c.val + n.val, by have h : c.val < 16 := c.isLt; omega⟩) :=
  (pay5_eq _ k n).trans ((wvC_apply m c k n).trans (congrFun (h.wv c) _))

/-- `Wq` is finite where every device's columns of it are. -/
theorem Holds.wq_real (h : Holds m X Wq Wo Wk Wv)
    (hr : ∀ (c : Dev Cert.KernelIdeal.nD) (i : (⟨2, ![1024, 1024]⟩ : Shape).Idx),
      IsReal (m ((c : Thread Cert.KernelIdeal.nD Cert.KernelIdeal.τ).loc Cert.KernelIdeal.main_arg1) i))
    (i : Cert.ReferenceIdeal.S1024x16384.Idx) : IsReal (Wq i) := by
  have hi : (i 1).val < 16384 := (i 1).isLt
  have hw : ∀ (k n : Fin 1024) (c : Fin 16), IsReal (Wq (ix2 k (col c n))) := fun k n c => by
    rw [← h.wq_at, pay2_eq, wqC_apply]
    exact hr _ _
  have hc : i = ix2 (n0 := 1024) (i 0) (col ⟨(i 1).val / 1024, by omega⟩ ⟨(i 1).val % 1024, by omega⟩) := by
    refine funext fun a => Fin.ext ?_
    match a with
    | ⟨0, _⟩ => rfl
    | ⟨1, _⟩ => show (i 1).val = 1024 * ((i 1).val / 1024) + (i 1).val % 1024; omega
  rw [hc]
  exact hw _ _ _

/-- The reference's scores of finite arrays are finite. -/
theorem score_real (hX : ∀ i, IsReal (X i)) (hq : ∀ i, IsReal (Wq i)) (hk : ∀ i, IsReal (Wk i)) (b : Fin 4) (e : Fin 128)
    (t u : Fin 256) : IsReal (sR (qR X Wq) (kvR X Wk) (ix4 b e t u)) := by
  rw [score_apply]
  obtain ⟨s, -, hs⟩ := scale_eq
  exact (IsReal.sum _ _ fun x => (IsReal.sum _ _ fun k => (hX _).mul (hq _)).mul
    (IsReal.sum _ _ fun k => (hX _).mul (hk _))).mul ⟨s, hs⟩

/-- A device's share of a batch is the reference's sum over that device's columns. -/
theorem Holds.part (h : Holds m X Wq Wo Wk Wv) (hX : ∀ i, IsReal (X i)) (hq : ∀ i, IsReal (Wq i)) (hk : ∀ i, IsReal (Wk i))
    (d : Fin 16) (b : Fin 4) (t : Fin 256) (j : Fin 1024) :
    partC m d b (ix2 t j) = ∑ n : Fin 1024,
      attnR (fun u => sR (qR X Wq) (kvR X Wk) (ix4 b ⟨(col d n).val / 128, by omega⟩ t u))
        (fun u => kvR X Wv (ix4 b u ⟨(col d n).val / 128, by omega⟩ ⟨(col d n).val % 128, by omega⟩)) * Wo (ix2 (col d n) j) := by
  unfold partC
  rw [partOf_apply]
  refine Finset.sum_congr rfl fun n _ => ?_
  rw [h.wo_at, ← attnK_eq _ _ fun u => score_real hX hq hk _ _ _ _]
  have hcol : (col d n).val = 1024 * d.val + n.val := rfl
  congr 1
  congr 1
  · funext u
    rw [score_apply, ← sum_scale]
    refine Finset.sum_congr rfl fun y _ => ?_
    congr 1
    · congr 1
      refine Finset.sum_congr rfl fun k _ => ?_
      rw [h.x_at, h.wq_at]
      refine congrArg (fun z : Fin 16384 => X (ix3 b t k) * Wq (ix2 k z)) (Fin.ext ?_)
      show 1024 * d.val + (128 * (n.val / 128) + y.val) = (col d n).val / 128 * 128 + y.val
      omega
    · refine Finset.sum_congr rfl fun k _ => ?_
      rw [h.x_at, h.wk_at]
      refine congrArg (fun z : Fin 4096 => X (ix3 b u k) * Wk (ix2 k z)) (Fin.ext ?_)
      show 256 * d.val + (128 * (n.val / 128 / 4) + y.val) = (col d n).val / 128 / 4 * 128 + y.val
      omega
  · funext u
    rw [kvR_apply]
    refine Finset.sum_congr rfl fun k _ => ?_
    rw [h.x_at, h.wv_at]
    refine congrArg (fun z : Fin 4096 => X (ix3 b u k) * Wv (ix2 k z)) (Fin.ext ?_)
    show 256 * d.val + (128 * (n.val / 128 / 4) + n.val % 128) = (col d n).val / 128 / 4 * 128 + (col d n).val % 128
    omega

/-- The kernel's result at an index is the reference's. -/
theorem Holds.out_at (h : Holds m X Wq Wo Wk Wv) (hX : ∀ i, IsReal (X i)) (hq : ∀ i, IsReal (Wq i)) (hk : ∀ i, IsReal (Wk i))
    (c : Dev Cert.KernelIdeal.nD) (r j : Fin 1024) : (outC m c (ix2 r j) : EReal) = outR X Wq Wo Wk Wv (ix2 r j) := by
  rw [outC_apply, outR_apply, sum_col]
  exact Finset.sum_congr (M := EReal) rfl fun d _ => h.part hX hq hk d _ _ j

/-- The kernel's result, on every device, is the reference's. -/
theorem Holds.out (h : Holds m X Wq Wo Wk Wv) (hX : ∀ i, IsReal (X i)) (hq : ∀ i, IsReal (Wq i)) (hk : ∀ i, IsReal (Wk i))
    (c : Dev Cert.KernelIdeal.nD) : outC m c = outR X Wq Wo Wk Wv := by
  refine funext fun (i : Cert.KernelIdeal.S1024x1024.Idx) => ?_
  rw [eq_ix2 i]
  exact h.out_at hX hq hk c _ _

end

end Cert.Attn

end
-- ==== Proof.Finite.lean ====
/-
# The precondition

The precondition compares the magnitudes of `x`, `Wq` and `Wk` with the infinity: where it holds of an entry, the entry
is a real number.
-/
module

public import proofs.«01_k».proof.Defs
public import proofs.«01_k».proof.Proof.Soft
public import Idealize.ShloMosaic.Lib.Pointwise

@[expose] public section

noncomputable section

namespace Cert.Attn

open Cert.Pre_finite_KernelIdeal Cert.Pre_finite_KernelIdeal.Facts
open Idealize.ShloMosaic

theorem facts_kernel : Cert.Pre_finite_KernelIdeal.Facts := ⟨by decide, by decide, by decide⟩
theorem facts_reference : Cert.Pre_finite_ReferenceIdeal.Facts := ⟨by decide, by decide, by decide⟩

variable [Cert.Pre_finite_KernelIdeal.Facts]
  (a0 : FVec Ideal S4x256x1024 .f32) (a1 a2 : FVec Ideal S1024x1024 .f32) (a3 a4 : FVec Ideal S1024x4096 .f32)

/-- A comparison that holds. -/
theorem lt_of_bit {a b : EReal} (h : BitVec.ofBool (decide (a < b)) = 1#1) : a < b := by
  by_contra hn
  simp [hn] at h

/-- The entries of `x` are finite. -/
theorem real_x (h : (fn (F := Ideal) a0 a1 a2 a3 a4).1 = fun _ => 1#1) (i : S4x256x1024.Idx) : IsReal (a0 i) := by
  have h1 := congrFun h i
  apply isReal_of_abs_lt
  rw [← lit_top]
  revert h1
  idx_vars i
  pointwise [fn]
  exact lt_of_bit

/-- The entries of a device's columns of `Wq` are finite. -/
theorem real_wq (h : (fn (F := Ideal) a0 a1 a2 a3 a4).2.1 = fun _ => 1#1) (i : S1024x1024.Idx) : IsReal (a1 i) := by
  have h1 := congrFun h i
  apply isReal_of_abs_lt
  rw [← lit_top]
  revert h1
  idx_vars i
  pointwise [fn]
  exact lt_of_bit

/-- The entries of `Wk` are finite. -/
theorem real_wk (h : (fn (F := Ideal) a0 a1 a2 a3 a4).2.2 = fun _ => 1#1) (i : S1024x4096.Idx) : IsReal (a3 i) := by
  have h1 := congrFun h i
  apply isReal_of_abs_lt
  rw [← lit_top]
  revert h1
  idx_vars i
  pointwise [fn]
  exact lt_of_bit

end Cert.Attn

end
-- ==== Proof.lean ====
/-
# The certificate's claims

The kernel's run is proved once, for any float values, in `Proof/Launch.lean`; the frames over bit patterns and over
the extended reals are readings of it.  The reference's run is the generated one.  That the two results agree is
`Holds.out` of `Proof/Agree.lean`;
the precondition is read in `Proof/Finite.lean`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The run of the kernel, for any float values: it terminates with every argument as it was and every counter at
    zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
        ∧ r.2.sem = fun _ => 0) :=
  (θ_run Cert.KernelIdeal.defs _ _).mono (fun _ h => ⟨fun c => (h.1 c).2, h.2⟩) (Cert.Attn.run_main (F := F) m ρ)

/-- The kernel and the kernel read over the extended reals are the same text. -/
theorem defs_eq : Cert.Kernel.defs (F := Bits) = Cert.KernelIdeal.defs (F := Bits) := by sl_kernel_rfl

/-- The kernel over its own floats: the run at bit patterns is the kernel's. -/
theorem frame_kernel : Cert.quiescent_Kernel := fun m ρ _ => by
  rw [defs_eq]
  exact frame_any (F := Bits) m ρ

/-- The kernel over the extended reals: the same run. -/
theorem frame_ideal : Cert.quiescent_KernelIdeal := fun m ρ _ => frame_any (F := Ideal) m ρ

/-- The reference: its run never writes an argument, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel computes what the reference computes, where `x`, `Wq` and `Wk` are finite. -/
theorem algebraic : Cert.algebraic_KernelIdeal_ReferenceIdeal_pre_finite_KernelIdeal
    (hPre_finite_KernelIdeal := Cert.Attn.facts_kernel) := by
  intro m ρ m' ρ' hpre hargs
  have h : Cert.Attn.Holds m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3))
      (m' ((0 : Dev Cert.ReferenceIdeal.nD).tc.loc Cert.ReferenceIdeal.main_arg4)) :=
    ⟨fun c => (hargs c).1, fun c => (hargs c).2.1, fun c => (hargs c).2.2.1, fun c => (hargs c).2.2.2.1,
      fun c => (hargs c).2.2.2.2⟩
  letI := Cert.Attn.facts_kernel
  have hX : ∀ i, Cert.Attn.IsReal (m' ((0 : Dev Cert.ReferenceIdeal.nD).tc.loc Cert.ReferenceIdeal.main_arg0) i) := by
    rw [← h.x 0]
    exact Cert.Attn.real_x _ _ _ _ _ (hpre 0).1
  have hk : ∀ i, Cert.Attn.IsReal (m' ((0 : Dev Cert.ReferenceIdeal.nD).tc.loc Cert.ReferenceIdeal.main_arg3) i) := by
    rw [← h.wk 0]
    exact Cert.Attn.real_wk _ _ _ _ _ (hpre 0).2.2
  have hq := h.wq_real fun c => Cert.Attn.real_wq _ _ _ _ _ (hpre c).2.1
  refine ⟨Cert.ReferenceIdeal.Value.res_main_v40 m' 0, ?_, ?_⟩
  · refine (θ_run Cert.KernelIdeal.defs _ _).mono (fun r hr c => ⟨?_, (hr.1 c).2⟩) (Cert.Attn.run_main (F := Ideal) m ρ)
    exact (hr.1 c).1.trans ((h.out hX hq hk c).trans (Cert.AttnRef.res_eq m' 0).symm)
  · exact (θ_run Cert.ReferenceIdeal.defs _ _).mono (fun r hr => hr 0) (Cert.ReferenceIdeal.Value.run (F := Ideal) m' ρ')

theorem claim : Cert.Claim := ⟨Cert.Kernel.Gen.facts, Cert.KernelIdeal.Gen.facts, Cert.ReferenceIdeal.Gen.facts,
  Cert.Attn.facts_kernel, Cert.Attn.facts_reference, frame_kernel, frame_ideal, fun m ρ _ => frame_ideal m ρ trivial,
  frame_reference, fun m ρ _ => frame_reference m ρ trivial, trivial, algebraic⟩

end Cert.Proof

end
